-- ==== Defs.lean ====
def Pre_Kernel [hPre_sizes_sum_to_tokens : Cert.Pre_sizes_sum_to_tokens.Facts] (m : (ℓ : Loc Cert.Kernel.nD Cert.Kernel.τ Cert.Kernel.sig) → Buf (Elt Bits) ℓ) : Prop :=
  ∀ c : Dev Cert.Kernel.nD,
    (Cert.Pre_sizes_sum_to_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_sum_to_tokens : Cert.Pre_sizes_sum_to_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_sum_to_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sizes_and_rows [hPre_sizes_and_rows : Cert.Pre_sizes_and_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_and_rows [hPre_sizes_and_rows : Cert.Pre_sizes_and_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sizes_sum_to_tokens : Cert.Pre_sizes_sum_to_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_sum_to_tokens : Cert.Pre_sizes_sum_to_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sizes_and_rows [hKernelIdeal : Cert.KernelIdeal.Facts] [hPre_sizes_and_rows : Cert.Pre_sizes_and_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_and_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sizes_and_rows [hReferenceIdeal : Cert.ReferenceIdeal.Facts] [hPre_sizes_and_rows : Cert.Pre_sizes_and_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_and_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sizes_and_rows [hKernelIdeal : Cert.KernelIdeal.Facts] [hReferenceIdeal : Cert.ReferenceIdeal.Facts] [hPre_sizes_and_rows : Cert.Pre_sizes_and_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_and_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_sum_to_tokens : Cert.Pre_sizes_sum_to_tokens.Facts) (hPre_sizes_and_rows : Cert.Pre_sizes_and_rows.Facts),
    quiescent_Kernel (hKernel := hKernel) (hPre_sizes_sum_to_tokens := hPre_sizes_sum_to_tokens)
    ∧ quiescent_KernelIdeal (hKernelIdeal := hKernelIdeal) (hPre_sizes_sum_to_tokens := hPre_sizes_sum_to_tokens)
    ∧ quiescent_KernelIdeal_pre_sizes_and_rows (hKernelIdeal := hKernelIdeal) (hPre_sizes_and_rows := hPre_sizes_and_rows)
    ∧ quiescent_ReferenceIdeal (hReferenceIdeal := hReferenceIdeal)
    ∧ quiescent_ReferenceIdeal_pre_sizes_and_rows (hReferenceIdeal := hReferenceIdeal) (hPre_sizes_and_rows := hPre_sizes_and_rows)
    ∧ preserves_Kernel_KernelIdeal
    ∧ algebraic_KernelIdeal_ReferenceIdeal_pre_sizes_and_rows (hKernelIdeal := hKernelIdeal) (hReferenceIdeal := hReferenceIdeal) (hPre_sizes_and_rows := hPre_sizes_and_rows)
-- ==== Pre_sizes_and_rows.lean ====
abbrev S1536x2048 : Shape := ⟨2, ![1536, 2048]⟩
abbrev S8 : Shape := ⟨1, ![8]⟩
abbrev S8x1024x7168 : Shape := ⟨3, ![8, 1024, 7168]⟩
abbrev S8x16x7168 : Shape := ⟨3, ![8, 16, 7168]⟩
abbrev S_ : Shape := ⟨0, ![]⟩
abbrev S1536 : Shape := ⟨1, ![1536]⟩

class Facts : Prop where
  bitsLt_bf16_f32 : FTy.bits .bf16 < FTy.bits .f32
  reducesTo_S1536x2048_S1536_d1 : S1536x2048.ReducesTo [1] S1536
  h_S_ : 0 < S_.numel
  bcast_S_S1536 : S_.BroadcastsInDim S1536 (![] : Fin 0 → Fin S1536.rank)
  bcast_S_S8 : S_.BroadcastsInDim S8 (![] : Fin 0 → Fin S8.rank)
  reducesTo_S8_S_d0 : S8.ReducesTo [0] S_
  reducesTo_S1536_S_d0 : S1536.ReducesTo [0] S_

variable [Facts]

def fn_part1 {F : FTy → Type} [FloatOps F] (main_v7 : IVec S1536 1) (main_v13 : IVec S_ 1) (main_v15 : IVec S_ 1) : IVec S_ 1 :=
  let main_v16 : IVec S_ 1 := andi main_v13 main_v15
  let main_c_6 : IVec S_ 1 := constantI S_ 1 1#1
  let main_v17 : IVec S_ 1 := (fun x v => Host.reduce IntOp.andi x v reducesTo_S1536_S_d0 h_S_) main_v7 main_c_6
  let main_v18 : IVec S_ 1 := andi main_v16 main_v17
  main_v18

def fn {F : FTy → Type} [FloatOps F] (main_arg0 : FVec F S1536x2048 .bf16) (main_arg1 : IVec S8 32) (main_arg2 : IVec S8x1024x7168 8) (main_arg3 : FVec F S8x16x7168 .f32) : IVec S_ 1 :=
  let main_v0 : FVec F S1536x2048 .f32 := (extf .f32 · bitsLt_bf16_f32) main_arg0
  let main_v1 : FVec F S1536x2048 .f32 := Host.absf main_v0
  let main_cst : FVec F S_ .f32 := constant S_ .f32 0xFF800000#32
  let main_v2 : FVec F S1536 .f32 := (fun x v => Host.reduce FloatOps.maximumf x v reducesTo_S1536x2048_S1536_d1 h_S_) main_v1 main_cst
  let main_cst_0 : FVec F S_ .f32 := constant S_ .f32 0x7F7F0000#32
  let main_v3 : FVec F S1536 .f32 := broadcastInDim S1536 ![] bcast_S_S1536 main_cst_0
  let main_v4 : IVec S1536 1 := cmpf .ole main_v2 main_v3
  let main_cst_1 : FVec F S_ .f32 := constant S_ .f32 0x7F800000#32
  let main_v5 : FVec F S1536 .f32 := broadcastInDim S1536 ![] bcast_S_S1536 main_cst_1
  let main_v6 : IVec S1536 1 := cmpf .oeq main_v2 main_v5
  let main_v7 : IVec S1536 1 := ori main_v4 main_v6
  let main_c : IVec S_ 32 := constantI S_ 32 0#32
  let main_v8 : IVec S8 32 := broadcastInDim S8 ![] bcast_S_S8 main_c
  let main_v9 : IVec S8 1 := cmpi .sge main_arg1 main_v8
  let main_c_2 : IVec S_ 32 := constantI S_ 32 1536#32
  let main_v10 : IVec S8 32 := broadcastInDim S8 ![] bcast_S_S8 main_c_2
  let main_v11 : IVec S8 1 := cmpi .sle main_arg1 main_v10
  let main_v12 : IVec S8 1 := andi main_v9 main_v11
  let main_c_3 : IVec S_ 1 := constantI S_ 1 1#1
  let main_v13 : IVec S_ 1 := (fun x v => Host.reduce IntOp.andi x v reducesTo_S8_S_d0 h_S_) main_v12 main_c_3
  let main_c_4 : IVec S_ 32 := constantI S_ 32 0#32
  let main_v14 : IVec S_ 32 := (fun x v => Host.reduce IntOp.addi x v reducesTo_S8_S_d0 h_S_) main_arg1 main_c_4
  let main_c_5 : IVec S_ 32 := constantI S_ 32 1536#32
  let main_v15 : IVec S_ 1 := cmpi .eq main_v14 main_c_5
  fn_part1 (F := F) main_v7 main_v13 main_v15
-- ==== Pre_sizes_sum_to_tokens.lean ====
abbrev S1536x2048 : Shape := ⟨2, ![1536, 2048]⟩
abbrev S8 : Shape := ⟨1, ![8]⟩
abbrev S8x1024x7168 : Shape := ⟨3, ![8, 1024, 7168]⟩
abbrev S8x16x7168 : Shape := ⟨3, ![8, 16, 7168]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S1536x2048 .bf16) (main_arg1 : IVec S8 32) (main_arg2 : IVec S8x1024x7168 8) (main_arg3 : FVec F S8x16x7168 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 1536#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg1 main_c_2
  let main_c_3 : IVec S_ 32 := constantI S_ 32 1536#32
  let main_v7 : IVec S_ 1 := cmpi .eq main_v6 main_c_3
  let main_v8 : IVec S_ 1 := andi main_v5 main_v7
  main_v8
-- ==== Kernel.lean ====
abbrev S1536x2048 : Shape := ⟨2, ![1536, 2048]⟩
abbrev S8 : Shape := ⟨1, ![8]⟩
abbrev S8x1024x7168 : Shape := ⟨3, ![8, 1024, 7168]⟩
abbrev S8x16x7168 : Shape := ⟨3, ![8, 16, 7168]⟩
abbrev S96x16x2048 : Shape := ⟨3, ![96, 16, 2048]⟩
abbrev S96x16x7168 : Shape := ⟨3, ![96, 16, 7168]⟩
abbrev S8x1024x512 : Shape := ⟨3, ![8, 1024, 512]⟩
abbrev S8x16x512 : Shape := ⟨3, ![8, 16, 512]⟩
abbrev S96x16x512 : Shape := ⟨3, ![96, 16, 512]⟩
abbrev S96x16x128 : Shape := ⟨3, ![96, 16, 128]⟩
abbrev S2048x512 : Shape := ⟨2, ![2048, 512]⟩
abbrev S2x16x2048 : Shape := ⟨3, ![2, 16, 2048]⟩
abbrev S2x16 : Shape := ⟨2, ![2, 16]⟩
abbrev S2x16x1 : Shape := ⟨3, ![2, 16, 1]⟩
abbrev S2x16x128 : Shape := ⟨3, ![2, 16, 128]⟩
abbrev S1 : Shape := ⟨1, ![1]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩
abbrev S8x16x2048 : Shape := ⟨3, ![8, 16, 2048]⟩
abbrev S128x2048 : Shape := ⟨2, ![128, 2048]⟩
abbrev S8x16x128 : Shape := ⟨3, ![8, 16, 128]⟩
abbrev S1536x7168 : Shape := ⟨2, ![1536, 7168]⟩

abbrev nBuf : Space → Nat
  | .hbm => 6
  | .vmem => 10
  | .smem => 1
  | _ => 0

abbrev bufTy : (tb : Table) → Fin (tcTables nBuf tb) → BufTy
  | .hbm, ⟨0, _⟩ => ⟨S1536x2048, .bf16⟩
  | .hbm, ⟨1, _⟩ => ⟨S8x1024x7168, .i8⟩
  | .hbm, ⟨2, _⟩ => ⟨S8x16x7168, .f32⟩
  | .hbm, ⟨3, _⟩ => ⟨S96x16x2048, .bf16⟩
  | .hbm, ⟨4, _⟩ => ⟨S96x16x7168, .bf16⟩
  | .hbm, ⟨5, _⟩ => ⟨S1536x7168, .bf16⟩
  | .local _ .vmem, ⟨0, _⟩ => ⟨S96x16x2048, .bf16⟩
  | .local _ .vmem, ⟨1, _⟩ => ⟨S8x1024x512, .i8⟩
  | .local _ .vmem, ⟨2, _⟩ => ⟨S8x1024x512, .i8⟩
  | .local _ .vmem, ⟨3, _⟩ => ⟨S8x16x512, .f32⟩
  | .local _ .vmem, ⟨4, _⟩ => ⟨S8x16x512, .f32⟩
  | .local _ .vmem, ⟨5, _⟩ => ⟨S96x16x512, .bf16⟩
  | .local _ .vmem, ⟨6, _⟩ => ⟨S96x16x512, .bf16⟩
  | .local _ .vmem, ⟨7, _⟩ => ⟨S96x16x2048, .bf16⟩
  | .local _ .vmem, ⟨8, _⟩ => ⟨S96x16x128, .f32⟩
  | .local _ .vmem, ⟨9, _⟩ => ⟨S2048x512, .bf16⟩
  | .local _ .smem, ⟨0, _⟩ => ⟨S8, .i32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![14], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c48_i32 : BitVec 32 := 48#32
  let v43 : BitVec 32 := Scalar.addi c0_i32_19 c48_i32
  let c1_i32 : BitVec 32 := 1#32
  ⟨c0_i32_19, v43, c1_i32⟩
def k0_mult1 (k0_t1 : Fin k0_t1_loop.trips) : BitVec 32 :=
  let c0_i32_19 : BitVec 32 := 0#32
  let c1_i32 : BitVec 32 := 1#32
  let arg9 : BitVec 32 := Scf.iv c0_i32_19 c1_i32 k0_t1
  let c2_i32 : BitVec 32 := 2#32
  let v44 : BitVec 32 := Scalar.muli arg9 c2_i32
  v44
def k0_off1 (k0_t1 : Fin k0_t1_loop.trips) : Fin 3 → Nat :=
  let c0_i32_19 : BitVec 32 := 0#32
  let c1_i32 : BitVec 32 := 1#32
  let arg9 : BitVec 32 := Scf.iv c0_i32_19 c1_i32 k0_t1
  let c2_i32 : BitVec 32 := 2#32
  let v44 : BitVec 32 := Scalar.muli arg9 c2_i32
  let v45 : BitVec 32 := v44
  let v46 : Index := Scalar.indexCast v45
  let c0_21 : Index := 0#32
  let c0_22 : Index := 0#32
  ![v46.toNat, 0, 0]
def k0_off2 (k0_t1 : Fin k0_t1_loop.trips) : Fin 3 → Nat :=
  let c0_i32_19 : BitVec 32 := 0#32
  let c1_i32 : BitVec 32 := 1#32
  let arg9 : BitVec 32 := Scf.iv c0_i32_19 c1_i32 k0_t1
  let c2_i32 : BitVec 32 := 2#32
  let v44 : BitVec 32 := Scalar.muli arg9 c2_i32
  let v45 : BitVec 32 := v44
  let v176 : Index := Scalar.indexCast v45
  let c0_53 : Index := 0#32
  let c0_54 : Index := 0#32
  ![v176.toNat, 0, 0]
@[reducible] def k0_t2_loop (v3 : BitVec 32) : Scf.Loop 32 :=
  let c0_i32_168 : BitVec 32 := 0#32
  let c0_i32_1 : BitVec 32 := 0#32
  let v4 : BitVec 32 := Scalar.addi c0_i32_1 v3
  let c128_i32 : BitVec 32 := 128#32
  let v356 : BitVec 32 := Scalar.addi v4 c128_i32
  let c1_i32_158 : BitVec 32 := 1#32
  let v357 : BitVec 32 := Scalar.subi v356 c1_i32_158
  let c0_i32_3 : BitVec 32 := 0#32
  let c0_i32_153 : BitVec 32 := 0#32
  let v340 : BitVec 1 := Scalar.cmpi .sgt c0_i32_3 c0_i32_153
  let v341 : BitVec 32 := Scalar.extui v340
  let c0_i32_154 : BitVec 32 := 0#32
  let v342 : BitVec 1 := Scalar.cmpi .slt c0_i32_3 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi c0_i32_3 c16_i32
  let c0_i32_157 : BitVec 32 := 0#32
  let v352 : BitVec 1 := Scalar.cmpi .ne v351 c0_i32_157
  let v353 : BitVec 1 := Scalar.andi v350 v352
  let v339 : BitVec 32 := Scalar.divsi c0_i32_3 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_170 : BitVec 32 := 1#32
  ⟨c0_i32_168, v381, c1_i32_170⟩
def k0_cond2 (v3 : BitVec 32) : BitVec 1 :=
  let c0_i32_2 : BitVec 32 := 0#32
  let v5 : BitVec 1 := Scalar.cmpi .sgt v3 c0_i32_2
  let v6 : BitVec 32 := Scalar.extui v5
  let c0_i32_4 : BitVec 32 := 0#32
  let v7 : BitVec 1 := Scalar.cmpi .ne v6 c0_i32_4
  v7

def k0_off3 (v3 : BitVec 32) (k0_t2 : Fin (k0_t2_loop v3).trips) : Fin 3 → Nat :=
  let c0_i32_3 : BitVec 32 := 0#32
  let c0_i32_153 : BitVec 32 := 0#32
  let v340 : BitVec 1 := Scalar.cmpi .sgt c0_i32_3 c0_i32_153
  let v341 : BitVec 32 := Scalar.extui v340
  let c0_i32_154 : BitVec 32 := 0#32
  let v342 : BitVec 1 := Scalar.cmpi .slt c0_i32_3 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi c0_i32_3 c16_i32
  let c0_i32_157 : BitVec 32 := 0#32
  let v352 : BitVec 1 := Scalar.cmpi .ne v351 c0_i32_157
  let v353 : BitVec 1 := Scalar.andi v350 v352
  let v339 : BitVec 32 := Scalar.divsi c0_i32_3 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t2
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off4 (v3 : BitVec 32) (k0_t2 : Fin (k0_t2_loop v3).trips) : Fin 3 → Nat :=
  let c0_i32_3 : BitVec 32 := 0#32
  let c0_i32_153 : BitVec 32 := 0#32
  let v340 : BitVec 1 := Scalar.cmpi .sgt c0_i32_3 c0_i32_153
  let v341 : BitVec 32 := Scalar.extui v340
  let c0_i32_154 : BitVec 32 := 0#32
  let v342 : BitVec 1 := Scalar.cmpi .slt c0_i32_3 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi c0_i32_3 c16_i32
  let c0_i32_157 : BitVec 32 := 0#32
  let v352 : BitVec 1 := Scalar.cmpi .ne v351 c0_i32_157
  let v353 : BitVec 1 := Scalar.andi v350 v352
  let v339 : BitVec 32 := Scalar.divsi c0_i32_3 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t2
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off5 (v3 : BitVec 32) (k0_t2 : Fin (k0_t2_loop v3).trips) : Fin 3 → Nat :=
  let c0_i32_3 : BitVec 32 := 0#32
  let c0_i32_153 : BitVec 32 := 0#32
  let v340 : BitVec 1 := Scalar.cmpi .sgt c0_i32_3 c0_i32_153
  let v341 : BitVec 32 := Scalar.extui v340
  let c0_i32_154 : BitVec 32 := 0#32
  let v342 : BitVec 1 := Scalar.cmpi .slt c0_i32_3 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi c0_i32_3 c16_i32
  let c0_i32_157 : BitVec 32 := 0#32
  let v352 : BitVec 1 := Scalar.cmpi .ne v351 c0_i32_157
  let v353 : BitVec 1 := Scalar.andi v350 v352
  let v339 : BitVec 32 := Scalar.divsi c0_i32_3 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t2
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]
@[reducible] def k0_t3_loop (v3 : BitVec 32) : Scf.Loop 32 :=
  let c0_i32_168 : BitVec 32 := 0#32
  let c0_i32_1 : BitVec 32 := 0#32
  let v4 : BitVec 32 := Scalar.addi c0_i32_1 v3
  let c128_i32 : BitVec 32 := 128#32
  let v356 : BitVec 32 := Scalar.addi v4 c128_i32
  let c1_i32_158 : BitVec 32 := 1#32
  let v357 : BitVec 32 := Scalar.subi v356 c1_i32_158
  let c0_i32_3 : BitVec 32 := 0#32
  let c0_i32_153 : BitVec 32 := 0#32
  let v340 : BitVec 1 := Scalar.cmpi .sgt c0_i32_3 c0_i32_153
  let v341 : BitVec 32 := Scalar.extui v340
  let c0_i32_154 : BitVec 32 := 0#32
  let v342 : BitVec 1 := Scalar.cmpi .slt c0_i32_3 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi c0_i32_3 c16_i32
  let c0_i32_157 : BitVec 32 := 0#32
  let v352 : BitVec 1 := Scalar.cmpi .ne v351 c0_i32_157
  let v353 : BitVec 1 := Scalar.andi v350 v352
  let v339 : BitVec 32 := Scalar.divsi c0_i32_3 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let v378 : BitVec 32 := Scalar.addi c0_i32_168 v377
  let c1_i32_171 : BitVec 32 := 1#32
  ⟨v381, v378, c1_i32_171⟩
def k0_off6 (v3 : BitVec 32) (k0_t3 : Fin (k0_t3_loop v3).trips) : Fin 3 → Nat :=
  let c0_i32_3 : BitVec 32 := 0#32
  let c0_i32_153 : BitVec 32 := 0#32
  let v340 : BitVec 1 := Scalar.cmpi .sgt c0_i32_3 c0_i32_153
  let v341 : BitVec 32 := Scalar.extui v340
  let c0_i32_154 : BitVec 32 := 0#32
  let v342 : BitVec 1 := Scalar.cmpi .slt c0_i32_3 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi c0_i32_3 c16_i32
  let c0_i32_157 : BitVec 32 := 0#32
  let v352 : BitVec 1 := Scalar.cmpi .ne v351 c0_i32_157
  let v353 : BitVec 1 := Scalar.andi v350 v352
  let v339 : BitVec 32 := Scalar.divsi c0_i32_3 c16_i32
  let c1_i32 : BitVec 32 := 1#32
  let v354 : BitVec 32 := Scalar.subi v339 c1_i32
  let v355 : BitVec 32 := Scalar.select v353 v354 v339
  let c0_i32_168 : BitVec 32 := 0#32
  let c0_i32_1 : BitVec 32 := 0#32
  let v4 : BitVec 32 := Scalar.addi c0_i32_1 v3
  let c128_i32 : BitVec 32 := 128#32
  let v356 : BitVec 32 := Scalar.addi v4 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t3
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off7 (v3 : BitVec 32) (k0_t3 : Fin (k0_t3_loop v3).trips) : Fin 3 → Nat :=
  let c0_i32_3 : BitVec 32 := 0#32
  let c0_i32_153 : BitVec 32 := 0#32
  let v340 : BitVec 1 := Scalar.cmpi .sgt c0_i32_3 c0_i32_153
  let v341 : BitVec 32 := Scalar.extui v340
  let c0_i32_154 : BitVec 32 := 0#32
  let v342 : BitVec 1 := Scalar.cmpi .slt c0_i32_3 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi c0_i32_3 c16_i32
  let c0_i32_157 : BitVec 32 := 0#32
  let v352 : BitVec 1 := Scalar.cmpi .ne v351 c0_i32_157
  let v353 : BitVec 1 := Scalar.andi v350 v352
  let v339 : BitVec 32 := Scalar.divsi c0_i32_3 c16_i32
  let c1_i32 : BitVec 32 := 1#32
  let v354 : BitVec 32 := Scalar.subi v339 c1_i32
  let v355 : BitVec 32 := Scalar.select v353 v354 v339
  let c0_i32_168 : BitVec 32 := 0#32
  let c0_i32_1 : BitVec 32 := 0#32
  let v4 : BitVec 32 := Scalar.addi c0_i32_1 v3
  let c128_i32 : BitVec 32 := 128#32
  let v356 : BitVec 32 := Scalar.addi v4 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t3
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off8 (v3 : BitVec 32) (k0_t3 : Fin (k0_t3_loop v3).trips) : Fin 3 → Nat :=
  let c0_i32_3 : BitVec 32 := 0#32
  let c0_i32_153 : BitVec 32 := 0#32
  let v340 : BitVec 1 := Scalar.cmpi .sgt c0_i32_3 c0_i32_153
  let v341 : BitVec 32 := Scalar.extui v340
  let c0_i32_154 : BitVec 32 := 0#32
  let v342 : BitVec 1 := Scalar.cmpi .slt c0_i32_3 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi c0_i32_3 c16_i32
  let c0_i32_157 : BitVec 32 := 0#32
  let v352 : BitVec 1 := Scalar.cmpi .ne v351 c0_i32_157
  let v353 : BitVec 1 := Scalar.andi v350 v352
  let v339 : BitVec 32 := Scalar.divsi c0_i32_3 c16_i32
  let c1_i32 : BitVec 32 := 1#32
  let v354 : BitVec 32 := Scalar.subi v339 c1_i32
  let v355 : BitVec 32 := Scalar.select v353 v354 v339
  let c0_i32_168 : BitVec 32 := 0#32
  let c0_i32_1 : BitVec 32 := 0#32
  let v4 : BitVec 32 := Scalar.addi c0_i32_1 v3
  let c128_i32 : BitVec 32 := 128#32
  let v356 : BitVec 32 := Scalar.addi v4 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t3
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]

def k0_chk1 (v3 : BitVec 32) : Prop :=
  (∀ (k0_h2 : k0_cond2 v3 = 1#1), (k0_t2_loop v3).OK) ∧
  (∀ k0_t2 : Fin (k0_t2_loop v3).trips, ∀ (k0_h2 : k0_cond2 v3 = 1#1), ∀ a, (k0_off3 v3 k0_t2) a + S8x16x2048.size a ≤ S96x16x2048.size a) ∧
  (∀ k0_t2 : Fin (k0_t2_loop v3).trips, ∀ (k0_h2 : k0_cond2 v3 = 1#1), ∀ a, (k0_off4 v3 k0_t2) a + S8x16x128.size a ≤ S96x16x128.size a) ∧
  (∀ k0_t2 : Fin (k0_t2_loop v3).trips, ∀ (k0_h2 : k0_cond2 v3 = 1#1), ∀ a, (k0_off5 v3 k0_t2) a + S8x16x512.size a ≤ S96x16x512.size a) ∧
  (∀ k0_t2 : Fin (k0_t2_loop v3).trips, ∀ (k0_h2 : k0_cond2 v3 = 1#1), ∀ (hinb : ∀ a, (k0_off5 v3 k0_t2) a + S8x16x512.size a ≤ S96x16x512.size a), (Rect.unit (s := S96x16x512) (k0_off5 v3 k0_t2) S8x16x512.size hinb).PackedRows (EltTy.packing .bf16)) ∧
  (∀ (k0_h2 : k0_cond2 v3 = 1#1), (k0_t3_loop v3).OK) ∧
  (∀ k0_t3 : Fin (k0_t3_loop v3).trips, ∀ (k0_h2 : k0_cond2 v3 = 1#1), ∀ a, (k0_off6 v3 k0_t3) a + S8x16x2048.size a ≤ S96x16x2048.size a) ∧
  (∀ k0_t3 : Fin (k0_t3_loop v3).trips, ∀ (k0_h2 : k0_cond2 v3 = 1#1), ∀ a, (k0_off7 v3 k0_t3) a + S8x16x128.size a ≤ S96x16x128.size a) ∧
  (∀ k0_t3 : Fin (k0_t3_loop v3).trips, ∀ (k0_h2 : k0_cond2 v3 = 1#1), ∀ a, (k0_off8 v3 k0_t3) a + S8x16x512.size a ≤ S96x16x512.size a) ∧
  (∀ k0_t3 : Fin (k0_t3_loop v3).trips, ∀ (k0_h2 : k0_cond2 v3 = 1#1), ∀ (hinb : ∀ a, (k0_off8 v3 k0_t3) a + S8x16x512.size a ≤ S96x16x512.size a), (Rect.unit (s := S96x16x512) (k0_off8 v3 k0_t3) S8x16x512.size hinb).PackedRows (EltTy.packing .bf16))
theorem k0_t2_ok : ∀ (v3 : BitVec 32) (k0_hw1 : k0_chk1 v3), ∀ (k0_h2 : k0_cond2 v3 = 1#1), (k0_t2_loop v3).OK := fun v3 k0_hw1 k0_h2 => k0_hw1.1 k0_h2
theorem k0_off3_inb : ∀ (v3 : BitVec 32) (k0_hw1 : k0_chk1 v3) (k0_t2 : Fin (k0_t2_loop v3).trips), ∀ (k0_h2 : k0_cond2 v3 = 1#1), ∀ a, (k0_off3 v3 k0_t2) a + S8x16x2048.size a ≤ S96x16x2048.size a := fun v3 k0_hw1 k0_t2 k0_h2 => k0_hw1.2.1 k0_t2 k0_h2
theorem k0_off4_inb : ∀ (v3 : BitVec 32) (k0_hw1 : k0_chk1 v3) (k0_t2 : Fin (k0_t2_loop v3).trips), ∀ (k0_h2 : k0_cond2 v3 = 1#1), ∀ a, (k0_off4 v3 k0_t2) a + S8x16x128.size a ≤ S96x16x128.size a := fun v3 k0_hw1 k0_t2 k0_h2 => k0_hw1.2.2.1 k0_t2 k0_h2
theorem k0_off5_inb : ∀ (v3 : BitVec 32) (k0_hw1 : k0_chk1 v3) (k0_t2 : Fin (k0_t2_loop v3).trips), ∀ (k0_h2 : k0_cond2 v3 = 1#1), ∀ a, (k0_off5 v3 k0_t2) a + S8x16x512.size a ≤ S96x16x512.size a := fun v3 k0_hw1 k0_t2 k0_h2 => k0_hw1.2.2.2.1 k0_t2 k0_h2
theorem k0_off5_packedbf16 : ∀ (v3 : BitVec 32) (k0_hw1 : k0_chk1 v3) (k0_t2 : Fin (k0_t2_loop v3).trips), ∀ (k0_h2 : k0_cond2 v3 = 1#1), (Rect.unit (s := S96x16x512) (k0_off5 v3 k0_t2) S8x16x512.size (k0_off5_inb v3 k0_hw1 k0_t2 k0_h2)).PackedRows (EltTy.packing .bf16) := fun v3 k0_hw1 k0_t2 k0_h2 => k0_hw1.2.2.2.2.1 k0_t2 k0_h2 (k0_off5_inb v3 k0_hw1 k0_t2 k0_h2)
theorem k0_t3_ok : ∀ (v3 : BitVec 32) (k0_hw1 : k0_chk1 v3), ∀ (k0_h2 : k0_cond2 v3 = 1#1), (k0_t3_loop v3).OK := fun v3 k0_hw1 k0_h2 => k0_hw1.2.2.2.2.2.1 k0_h2
theorem k0_off6_inb : ∀ (v3 : BitVec 32) (k0_hw1 : k0_chk1 v3) (k0_t3 : Fin (k0_t3_loop v3).trips), ∀ (k0_h2 : k0_cond2 v3 = 1#1), ∀ a, (k0_off6 v3 k0_t3) a + S8x16x2048.size a ≤ S96x16x2048.size a := fun v3 k0_hw1 k0_t3 k0_h2 => k0_hw1.2.2.2.2.2.2.1 k0_t3 k0_h2
theorem k0_off7_inb : ∀ (v3 : BitVec 32) (k0_hw1 : k0_chk1 v3) (k0_t3 : Fin (k0_t3_loop v3).trips), ∀ (k0_h2 : k0_cond2 v3 = 1#1), ∀ a, (k0_off7 v3 k0_t3) a + S8x16x128.size a ≤ S96x16x128.size a := fun v3 k0_hw1 k0_t3 k0_h2 => k0_hw1.2.2.2.2.2.2.2.1 k0_t3 k0_h2
theorem k0_off8_inb : ∀ (v3 : BitVec 32) (k0_hw1 : k0_chk1 v3) (k0_t3 : Fin (k0_t3_loop v3).trips), ∀ (k0_h2 : k0_cond2 v3 = 1#1), ∀ a, (k0_off8 v3 k0_t3) a + S8x16x512.size a ≤ S96x16x512.size a := fun v3 k0_hw1 k0_t3 k0_h2 => k0_hw1.2.2.2.2.2.2.2.2.1 k0_t3 k0_h2
theorem k0_off8_packedbf16 : ∀ (v3 : BitVec 32) (k0_hw1 : k0_chk1 v3) (k0_t3 : Fin (k0_t3_loop v3).trips), ∀ (k0_h2 : k0_cond2 v3 = 1#1), (Rect.unit (s := S96x16x512) (k0_off8 v3 k0_t3) S8x16x512.size (k0_off8_inb v3 k0_hw1 k0_t3 k0_h2)).PackedRows (EltTy.packing .bf16) := fun v3 k0_hw1 k0_t3 k0_h2 => k0_hw1.2.2.2.2.2.2.2.2.2 k0_t3 k0_h2 (k0_off8_inb v3 k0_hw1 k0_t3 k0_h2)

@[reducible] def k0_t4_loop (v3 : BitVec 32) (v8 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let c128_i32 : BitVec 32 := 128#32
  let v356 : BitVec 32 := Scalar.addi v9 c128_i32
  let c1_i32_158 : BitVec 32 := 1#32
  let v357 : BitVec 32 := Scalar.subi v356 c1_i32_158
  let c0_i32_153 : BitVec 32 := 0#32
  let v340 : BitVec 1 := Scalar.cmpi .sgt v4 c0_i32_153
  let v341 : BitVec 32 := Scalar.extui v340
  let c0_i32_154 : BitVec 32 := 0#32
  let v342 : BitVec 1 := Scalar.cmpi .slt v4 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v4 c16_i32
  let c0_i32_157 : BitVec 32 := 0#32
  let v352 : BitVec 1 := Scalar.cmpi .ne v351 c0_i32_157
  let v353 : BitVec 1 := Scalar.andi v350 v352
  let v339 : BitVec 32 := Scalar.divsi v4 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_170 : BitVec 32 := 1#32
  ⟨c0_i32_168, v381, c1_i32_170⟩
def k0_cond3 (v8 : BitVec 32) : BitVec 1 :=
  let c0_i32_5 : BitVec 32 := 0#32
  let v10 : BitVec 1 := Scalar.cmpi .sgt v8 c0_i32_5
  let v11 : BitVec 32 := Scalar.extui v10
  let c0_i32_6 : BitVec 32 := 0#32
  let v12 : BitVec 1 := Scalar.cmpi .ne v11 c0_i32_6
  v12

def k0_off9 (v3 : BitVec 32) (v8 : BitVec 32) (k0_t4 : Fin (k0_t4_loop v3 v8).trips) : Fin 3 → Nat :=
  let c0_i32_1 : BitVec 32 := 0#32
  let v4 : BitVec 32 := Scalar.addi c0_i32_1 v3
  let c0_i32_153 : BitVec 32 := 0#32
  let v340 : BitVec 1 := Scalar.cmpi .sgt v4 c0_i32_153
  let v341 : BitVec 32 := Scalar.extui v340
  let c0_i32_154 : BitVec 32 := 0#32
  let v342 : BitVec 1 := Scalar.cmpi .slt v4 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v4 c16_i32
  let c0_i32_157 : BitVec 32 := 0#32
  let v352 : BitVec 1 := Scalar.cmpi .ne v351 c0_i32_157
  let v353 : BitVec 1 := Scalar.andi v350 v352
  let v339 : BitVec 32 := Scalar.divsi v4 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t4
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off10 (v3 : BitVec 32) (v8 : BitVec 32) (k0_t4 : Fin (k0_t4_loop v3 v8).trips) : Fin 3 → Nat :=
  let c0_i32_1 : BitVec 32 := 0#32
  let v4 : BitVec 32 := Scalar.addi c0_i32_1 v3
  let c0_i32_153 : BitVec 32 := 0#32
  let v340 : BitVec 1 := Scalar.cmpi .sgt v4 c0_i32_153
  let v341 : BitVec 32 := Scalar.extui v340
  let c0_i32_154 : BitVec 32 := 0#32
  let v342 : BitVec 1 := Scalar.cmpi .slt v4 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v4 c16_i32
  let c0_i32_157 : BitVec 32 := 0#32
  let v352 : BitVec 1 := Scalar.cmpi .ne v351 c0_i32_157
  let v353 : BitVec 1 := Scalar.andi v350 v352
  let v339 : BitVec 32 := Scalar.divsi v4 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t4
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off11 (v3 : BitVec 32) (v8 : BitVec 32) (k0_t4 : Fin (k0_t4_loop v3 v8).trips) : Fin 3 → Nat :=
  let c0_i32_1 : BitVec 32 := 0#32
  let v4 : BitVec 32 := Scalar.addi c0_i32_1 v3
  let c0_i32_153 : BitVec 32 := 0#32
  let v340 : BitVec 1 := Scalar.cmpi .sgt v4 c0_i32_153
  let v341 : BitVec 32 := Scalar.extui v340
  let c0_i32_154 : BitVec 32 := 0#32
  let v342 : BitVec 1 := Scalar.cmpi .slt v4 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v4 c16_i32
  let c0_i32_157 : BitVec 32 := 0#32
  let v352 : BitVec 1 := Scalar.cmpi .ne v351 c0_i32_157
  let v353 : BitVec 1 := Scalar.andi v350 v352
  let v339 : BitVec 32 := Scalar.divsi v4 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t4
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]
@[reducible] def k0_t5_loop (v3 : BitVec 32) (v8 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let c128_i32 : BitVec 32 := 128#32
  let v356 : BitVec 32 := Scalar.addi v9 c128_i32
  let c1_i32_158 : BitVec 32 := 1#32
  let v357 : BitVec 32 := Scalar.subi v356 c1_i32_158
  let c0_i32_153 : BitVec 32 := 0#32
  let v340 : BitVec 1 := Scalar.cmpi .sgt v4 c0_i32_153
  let v341 : BitVec 32 := Scalar.extui v340
  let c0_i32_154 : BitVec 32 := 0#32
  let v342 : BitVec 1 := Scalar.cmpi .slt v4 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v4 c16_i32
  let c0_i32_157 : BitVec 32 := 0#32
  let v352 : BitVec 1 := Scalar.cmpi .ne v351 c0_i32_157
  let v353 : BitVec 1 := Scalar.andi v350 v352
  let v339 : BitVec 32 := Scalar.divsi v4 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let v378 : BitVec 32 := Scalar.addi c0_i32_168 v377
  let c1_i32_171 : BitVec 32 := 1#32
  ⟨v381, v378, c1_i32_171⟩
def k0_off12 (v3 : BitVec 32) (v8 : BitVec 32) (k0_t5 : Fin (k0_t5_loop v3 v8).trips) : Fin 3 → Nat :=
  let c0_i32_1 : BitVec 32 := 0#32
  let v4 : BitVec 32 := Scalar.addi c0_i32_1 v3
  let c0_i32_153 : BitVec 32 := 0#32
  let v340 : BitVec 1 := Scalar.cmpi .sgt v4 c0_i32_153
  let v341 : BitVec 32 := Scalar.extui v340
  let c0_i32_154 : BitVec 32 := 0#32
  let v342 : BitVec 1 := Scalar.cmpi .slt v4 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v4 c16_i32
  let c0_i32_157 : BitVec 32 := 0#32
  let v352 : BitVec 1 := Scalar.cmpi .ne v351 c0_i32_157
  let v353 : BitVec 1 := Scalar.andi v350 v352
  let v339 : BitVec 32 := Scalar.divsi v4 c16_i32
  let c1_i32 : BitVec 32 := 1#32
  let v354 : BitVec 32 := Scalar.subi v339 c1_i32
  let v355 : BitVec 32 := Scalar.select v353 v354 v339
  let c0_i32_168 : BitVec 32 := 0#32
  let v9 : BitVec 32 := Scalar.addi v4 v8
  let c128_i32 : BitVec 32 := 128#32
  let v356 : BitVec 32 := Scalar.addi v9 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t5
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off13 (v3 : BitVec 32) (v8 : BitVec 32) (k0_t5 : Fin (k0_t5_loop v3 v8).trips) : Fin 3 → Nat :=
  let c0_i32_1 : BitVec 32 := 0#32
  let v4 : BitVec 32 := Scalar.addi c0_i32_1 v3
  let c0_i32_153 : BitVec 32 := 0#32
  let v340 : BitVec 1 := Scalar.cmpi .sgt v4 c0_i32_153
  let v341 : BitVec 32 := Scalar.extui v340
  let c0_i32_154 : BitVec 32 := 0#32
  let v342 : BitVec 1 := Scalar.cmpi .slt v4 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v4 c16_i32
  let c0_i32_157 : BitVec 32 := 0#32
  let v352 : BitVec 1 := Scalar.cmpi .ne v351 c0_i32_157
  let v353 : BitVec 1 := Scalar.andi v350 v352
  let v339 : BitVec 32 := Scalar.divsi v4 c16_i32
  let c1_i32 : BitVec 32 := 1#32
  let v354 : BitVec 32 := Scalar.subi v339 c1_i32
  let v355 : BitVec 32 := Scalar.select v353 v354 v339
  let c0_i32_168 : BitVec 32 := 0#32
  let v9 : BitVec 32 := Scalar.addi v4 v8
  let c128_i32 : BitVec 32 := 128#32
  let v356 : BitVec 32 := Scalar.addi v9 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t5
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off14 (v3 : BitVec 32) (v8 : BitVec 32) (k0_t5 : Fin (k0_t5_loop v3 v8).trips) : Fin 3 → Nat :=
  let c0_i32_1 : BitVec 32 := 0#32
  let v4 : BitVec 32 := Scalar.addi c0_i32_1 v3
  let c0_i32_153 : BitVec 32 := 0#32
  let v340 : BitVec 1 := Scalar.cmpi .sgt v4 c0_i32_153
  let v341 : BitVec 32 := Scalar.extui v340
  let c0_i32_154 : BitVec 32 := 0#32
  let v342 : BitVec 1 := Scalar.cmpi .slt v4 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v4 c16_i32
  let c0_i32_157 : BitVec 32 := 0#32
  let v352 : BitVec 1 := Scalar.cmpi .ne v351 c0_i32_157
  let v353 : BitVec 1 := Scalar.andi v350 v352
  let v339 : BitVec 32 := Scalar.divsi v4 c16_i32
  let c1_i32 : BitVec 32 := 1#32
  let v354 : BitVec 32 := Scalar.subi v339 c1_i32
  let v355 : BitVec 32 := Scalar.select v353 v354 v339
  let c0_i32_168 : BitVec 32 := 0#32
  let v9 : BitVec 32 := Scalar.addi v4 v8
  let c128_i32 : BitVec 32 := 128#32
  let v356 : BitVec 32 := Scalar.addi v9 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t5
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]

def k0_chk2 (v3 : BitVec 32) (v8 : BitVec 32) : Prop :=
  (∀ (k0_h3 : k0_cond3 v8 = 1#1), (k0_t4_loop v3 v8).OK) ∧
  (∀ k0_t4 : Fin (k0_t4_loop v3 v8).trips, ∀ (k0_h3 : k0_cond3 v8 = 1#1), ∀ a, (k0_off9 v3 v8 k0_t4) a + S8x16x2048.size a ≤ S96x16x2048.size a) ∧
  (∀ k0_t4 : Fin (k0_t4_loop v3 v8).trips, ∀ (k0_h3 : k0_cond3 v8 = 1#1), ∀ a, (k0_off10 v3 v8 k0_t4) a + S8x16x128.size a ≤ S96x16x128.size a) ∧
  (∀ k0_t4 : Fin (k0_t4_loop v3 v8).trips, ∀ (k0_h3 : k0_cond3 v8 = 1#1), ∀ a, (k0_off11 v3 v8 k0_t4) a + S8x16x512.size a ≤ S96x16x512.size a) ∧
  (∀ k0_t4 : Fin (k0_t4_loop v3 v8).trips, ∀ (k0_h3 : k0_cond3 v8 = 1#1), ∀ (hinb : ∀ a, (k0_off11 v3 v8 k0_t4) a + S8x16x512.size a ≤ S96x16x512.size a), (Rect.unit (s := S96x16x512) (k0_off11 v3 v8 k0_t4) S8x16x512.size hinb).PackedRows (EltTy.packing .bf16)) ∧
  (∀ (k0_h3 : k0_cond3 v8 = 1#1), (k0_t5_loop v3 v8).OK) ∧
  (∀ k0_t5 : Fin (k0_t5_loop v3 v8).trips, ∀ (k0_h3 : k0_cond3 v8 = 1#1), ∀ a, (k0_off12 v3 v8 k0_t5) a + S8x16x2048.size a ≤ S96x16x2048.size a) ∧
  (∀ k0_t5 : Fin (k0_t5_loop v3 v8).trips, ∀ (k0_h3 : k0_cond3 v8 = 1#1), ∀ a, (k0_off13 v3 v8 k0_t5) a + S8x16x128.size a ≤ S96x16x128.size a) ∧
  (∀ k0_t5 : Fin (k0_t5_loop v3 v8).trips, ∀ (k0_h3 : k0_cond3 v8 = 1#1), ∀ a, (k0_off14 v3 v8 k0_t5) a + S8x16x512.size a ≤ S96x16x512.size a) ∧
  (∀ k0_t5 : Fin (k0_t5_loop v3 v8).trips, ∀ (k0_h3 : k0_cond3 v8 = 1#1), ∀ (hinb : ∀ a, (k0_off14 v3 v8 k0_t5) a + S8x16x512.size a ≤ S96x16x512.size a), (Rect.unit (s := S96x16x512) (k0_off14 v3 v8 k0_t5) S8x16x512.size hinb).PackedRows (EltTy.packing .bf16))
theorem k0_t4_ok : ∀ (v3 : BitVec 32) (v8 : BitVec 32) (k0_hw2 : k0_chk2 v3 v8), ∀ (k0_h3 : k0_cond3 v8 = 1#1), (k0_t4_loop v3 v8).OK := fun v3 v8 k0_hw2 k0_h3 => k0_hw2.1 k0_h3
theorem k0_off9_inb : ∀ (v3 : BitVec 32) (v8 : BitVec 32) (k0_hw2 : k0_chk2 v3 v8) (k0_t4 : Fin (k0_t4_loop v3 v8).trips), ∀ (k0_h3 : k0_cond3 v8 = 1#1), ∀ a, (k0_off9 v3 v8 k0_t4) a + S8x16x2048.size a ≤ S96x16x2048.size a := fun v3 v8 k0_hw2 k0_t4 k0_h3 => k0_hw2.2.1 k0_t4 k0_h3
theorem k0_off10_inb : ∀ (v3 : BitVec 32) (v8 : BitVec 32) (k0_hw2 : k0_chk2 v3 v8) (k0_t4 : Fin (k0_t4_loop v3 v8).trips), ∀ (k0_h3 : k0_cond3 v8 = 1#1), ∀ a, (k0_off10 v3 v8 k0_t4) a + S8x16x128.size a ≤ S96x16x128.size a := fun v3 v8 k0_hw2 k0_t4 k0_h3 => k0_hw2.2.2.1 k0_t4 k0_h3
theorem k0_off11_inb : ∀ (v3 : BitVec 32) (v8 : BitVec 32) (k0_hw2 : k0_chk2 v3 v8) (k0_t4 : Fin (k0_t4_loop v3 v8).trips), ∀ (k0_h3 : k0_cond3 v8 = 1#1), ∀ a, (k0_off11 v3 v8 k0_t4) a + S8x16x512.size a ≤ S96x16x512.size a := fun v3 v8 k0_hw2 k0_t4 k0_h3 => k0_hw2.2.2.2.1 k0_t4 k0_h3
theorem k0_off11_packedbf16 : ∀ (v3 : BitVec 32) (v8 : BitVec 32) (k0_hw2 : k0_chk2 v3 v8) (k0_t4 : Fin (k0_t4_loop v3 v8).trips), ∀ (k0_h3 : k0_cond3 v8 = 1#1), (Rect.unit (s := S96x16x512) (k0_off11 v3 v8 k0_t4) S8x16x512.size (k0_off11_inb v3 v8 k0_hw2 k0_t4 k0_h3)).PackedRows (EltTy.packing .bf16) := fun v3 v8 k0_hw2 k0_t4 k0_h3 => k0_hw2.2.2.2.2.1 k0_t4 k0_h3 (k0_off11_inb v3 v8 k0_hw2 k0_t4 k0_h3)
theorem k0_t5_ok : ∀ (v3 : BitVec 32) (v8 : BitVec 32) (k0_hw2 : k0_chk2 v3 v8), ∀ (k0_h3 : k0_cond3 v8 = 1#1), (k0_t5_loop v3 v8).OK := fun v3 v8 k0_hw2 k0_h3 => k0_hw2.2.2.2.2.2.1 k0_h3
theorem k0_off12_inb : ∀ (v3 : BitVec 32) (v8 : BitVec 32) (k0_hw2 : k0_chk2 v3 v8) (k0_t5 : Fin (k0_t5_loop v3 v8).trips), ∀ (k0_h3 : k0_cond3 v8 = 1#1), ∀ a, (k0_off12 v3 v8 k0_t5) a + S8x16x2048.size a ≤ S96x16x2048.size a := fun v3 v8 k0_hw2 k0_t5 k0_h3 => k0_hw2.2.2.2.2.2.2.1 k0_t5 k0_h3
theorem k0_off13_inb : ∀ (v3 : BitVec 32) (v8 : BitVec 32) (k0_hw2 : k0_chk2 v3 v8) (k0_t5 : Fin (k0_t5_loop v3 v8).trips), ∀ (k0_h3 : k0_cond3 v8 = 1#1), ∀ a, (k0_off13 v3 v8 k0_t5) a + S8x16x128.size a ≤ S96x16x128.size a := fun v3 v8 k0_hw2 k0_t5 k0_h3 => k0_hw2.2.2.2.2.2.2.2.1 k0_t5 k0_h3
theorem k0_off14_inb : ∀ (v3 : BitVec 32) (v8 : BitVec 32) (k0_hw2 : k0_chk2 v3 v8) (k0_t5 : Fin (k0_t5_loop v3 v8).trips), ∀ (k0_h3 : k0_cond3 v8 = 1#1), ∀ a, (k0_off14 v3 v8 k0_t5) a + S8x16x512.size a ≤ S96x16x512.size a := fun v3 v8 k0_hw2 k0_t5 k0_h3 => k0_hw2.2.2.2.2.2.2.2.2.1 k0_t5 k0_h3
theorem k0_off14_packedbf16 : ∀ (v3 : BitVec 32) (v8 : BitVec 32) (k0_hw2 : k0_chk2 v3 v8) (k0_t5 : Fin (k0_t5_loop v3 v8).trips), ∀ (k0_h3 : k0_cond3 v8 = 1#1), (Rect.unit (s := S96x16x512) (k0_off14 v3 v8 k0_t5) S8x16x512.size (k0_off14_inb v3 v8 k0_hw2 k0_t5 k0_h3)).PackedRows (EltTy.packing .bf16) := fun v3 v8 k0_hw2 k0_t5 k0_h3 => k0_hw2.2.2.2.2.2.2.2.2.2 k0_t5 k0_h3 (k0_off14_inb v3 v8 k0_hw2 k0_t5 k0_h3)

@[reducible] def k0_t6_loop (v3 : BitVec 32) (v8 : BitVec 32) (v13 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let c128_i32 : BitVec 32 := 128#32
  let v356 : BitVec 32 := Scalar.addi v14 c128_i32
  let c1_i32_158 : BitVec 32 := 1#32
  let v357 : BitVec 32 := Scalar.subi v356 c1_i32_158
  let c0_i32_153 : BitVec 32 := 0#32
  let v340 : BitVec 1 := Scalar.cmpi .sgt v9 c0_i32_153
  let v341 : BitVec 32 := Scalar.extui v340
  let c0_i32_154 : BitVec 32 := 0#32
  let v342 : BitVec 1 := Scalar.cmpi .slt v9 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v9 c16_i32
  let c0_i32_157 : BitVec 32 := 0#32
  let v352 : BitVec 1 := Scalar.cmpi .ne v351 c0_i32_157
  let v353 : BitVec 1 := Scalar.andi v350 v352
  let v339 : BitVec 32 := Scalar.divsi v9 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_170 : BitVec 32 := 1#32
  ⟨c0_i32_168, v381, c1_i32_170⟩
def k0_cond4 (v13 : BitVec 32) : BitVec 1 :=
  let c0_i32_7 : BitVec 32 := 0#32
  let v15 : BitVec 1 := Scalar.cmpi .sgt v13 c0_i32_7
  let v16 : BitVec 32 := Scalar.extui v15
  let c0_i32_8 : BitVec 32 := 0#32
  let v17 : BitVec 1 := Scalar.cmpi .ne v16 c0_i32_8
  v17

def k0_off15 (v3 : BitVec 32) (v8 : BitVec 32) (v13 : BitVec 32) (k0_t6 : Fin (k0_t6_loop v3 v8 v13).trips) : Fin 3 → Nat :=
  let c0_i32_1 : BitVec 32 := 0#32
  let v4 : BitVec 32 := Scalar.addi c0_i32_1 v3
  let v9 : BitVec 32 := Scalar.addi v4 v8
  let c0_i32_153 : BitVec 32 := 0#32
  let v340 : BitVec 1 := Scalar.cmpi .sgt v9 c0_i32_153
  let v341 : BitVec 32 := Scalar.extui v340
  let c0_i32_154 : BitVec 32 := 0#32
  let v342 : BitVec 1 := Scalar.cmpi .slt v9 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v9 c16_i32
  let c0_i32_157 : BitVec 32 := 0#32
  let v352 : BitVec 1 := Scalar.cmpi .ne v351 c0_i32_157
  let v353 : BitVec 1 := Scalar.andi v350 v352
  let v339 : BitVec 32 := Scalar.divsi v9 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t6
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off16 (v3 : BitVec 32) (v8 : BitVec 32) (v13 : BitVec 32) (k0_t6 : Fin (k0_t6_loop v3 v8 v13).trips) : Fin 3 → Nat :=
  let c0_i32_1 : BitVec 32 := 0#32
  let v4 : BitVec 32 := Scalar.addi c0_i32_1 v3
  let v9 : BitVec 32 := Scalar.addi v4 v8
  let c0_i32_153 : BitVec 32 := 0#32
  let v340 : BitVec 1 := Scalar.cmpi .sgt v9 c0_i32_153
  let v341 : BitVec 32 := Scalar.extui v340
  let c0_i32_154 : BitVec 32 := 0#32
  let v342 : BitVec 1 := Scalar.cmpi .slt v9 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v9 c16_i32
  let c0_i32_157 : BitVec 32 := 0#32
  let v352 : BitVec 1 := Scalar.cmpi .ne v351 c0_i32_157
  let v353 : BitVec 1 := Scalar.andi v350 v352
  let v339 : BitVec 32 := Scalar.divsi v9 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t6
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off17 (v3 : BitVec 32) (v8 : BitVec 32) (v13 : BitVec 32) (k0_t6 : Fin (k0_t6_loop v3 v8 v13).trips) : Fin 3 → Nat :=
  let c0_i32_1 : BitVec 32 := 0#32
  let v4 : BitVec 32 := Scalar.addi c0_i32_1 v3
  let v9 : BitVec 32 := Scalar.addi v4 v8
  let c0_i32_153 : BitVec 32 := 0#32
  let v340 : BitVec 1 := Scalar.cmpi .sgt v9 c0_i32_153
  let v341 : BitVec 32 := Scalar.extui v340
  let c0_i32_154 : BitVec 32 := 0#32
  let v342 : BitVec 1 := Scalar.cmpi .slt v9 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v9 c16_i32
  let c0_i32_157 : BitVec 32 := 0#32
  let v352 : BitVec 1 := Scalar.cmpi .ne v351 c0_i32_157
  let v353 : BitVec 1 := Scalar.andi v350 v352
  let v339 : BitVec 32 := Scalar.divsi v9 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t6
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]
@[reducible] def k0_t7_loop (v3 : BitVec 32) (v8 : BitVec 32) (v13 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let c128_i32 : BitVec 32 := 128#32
  let v356 : BitVec 32 := Scalar.addi v14 c128_i32
  let c1_i32_158 : BitVec 32 := 1#32
  let v357 : BitVec 32 := Scalar.subi v356 c1_i32_158
  let c0_i32_153 : BitVec 32 := 0#32
  let v340 : BitVec 1 := Scalar.cmpi .sgt v9 c0_i32_153
  let v341 : BitVec 32 := Scalar.extui v340
  let c0_i32_154 : BitVec 32 := 0#32
  let v342 : BitVec 1 := Scalar.cmpi .slt v9 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v9 c16_i32
  let c0_i32_157 : BitVec 32 := 0#32
  let v352 : BitVec 1 := Scalar.cmpi .ne v351 c0_i32_157
  let v353 : BitVec 1 := Scalar.andi v350 v352
  let v339 : BitVec 32 := Scalar.divsi v9 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let v378 : BitVec 32 := Scalar.addi c0_i32_168 v377
  let c1_i32_171 : BitVec 32 := 1#32
  ⟨v381, v378, c1_i32_171⟩
def k0_off18 (v3 : BitVec 32) (v8 : BitVec 32) (v13 : BitVec 32) (k0_t7 : Fin (k0_t7_loop v3 v8 v13).trips) : Fin 3 → Nat :=
  let c0_i32_1 : BitVec 32 := 0#32
  let v4 : BitVec 32 := Scalar.addi c0_i32_1 v3
  let v9 : BitVec 32 := Scalar.addi v4 v8
  let c0_i32_153 : BitVec 32 := 0#32
  let v340 : BitVec 1 := Scalar.cmpi .sgt v9 c0_i32_153
  let v341 : BitVec 32 := Scalar.extui v340
  let c0_i32_154 : BitVec 32 := 0#32
  let v342 : BitVec 1 := Scalar.cmpi .slt v9 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v9 c16_i32
  let c0_i32_157 : BitVec 32 := 0#32
  let v352 : BitVec 1 := Scalar.cmpi .ne v351 c0_i32_157
  let v353 : BitVec 1 := Scalar.andi v350 v352
  let v339 : BitVec 32 := Scalar.divsi v9 c16_i32
  let c1_i32 : BitVec 32 := 1#32
  let v354 : BitVec 32 := Scalar.subi v339 c1_i32
  let v355 : BitVec 32 := Scalar.select v353 v354 v339
  let c0_i32_168 : BitVec 32 := 0#32
  let v14 : BitVec 32 := Scalar.addi v9 v13
  let c128_i32 : BitVec 32 := 128#32
  let v356 : BitVec 32 := Scalar.addi v14 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t7
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off19 (v3 : BitVec 32) (v8 : BitVec 32) (v13 : BitVec 32) (k0_t7 : Fin (k0_t7_loop v3 v8 v13).trips) : Fin 3 → Nat :=
  let c0_i32_1 : BitVec 32 := 0#32
  let v4 : BitVec 32 := Scalar.addi c0_i32_1 v3
  let v9 : BitVec 32 := Scalar.addi v4 v8
  let c0_i32_153 : BitVec 32 := 0#32
  let v340 : BitVec 1 := Scalar.cmpi .sgt v9 c0_i32_153
  let v341 : BitVec 32 := Scalar.extui v340
  let c0_i32_154 : BitVec 32 := 0#32
  let v342 : BitVec 1 := Scalar.cmpi .slt v9 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v9 c16_i32
  let c0_i32_157 : BitVec 32 := 0#32
  let v352 : BitVec 1 := Scalar.cmpi .ne v351 c0_i32_157
  let v353 : BitVec 1 := Scalar.andi v350 v352
  let v339 : BitVec 32 := Scalar.divsi v9 c16_i32
  let c1_i32 : BitVec 32 := 1#32
  let v354 : BitVec 32 := Scalar.subi v339 c1_i32
  let v355 : BitVec 32 := Scalar.select v353 v354 v339
  let c0_i32_168 : BitVec 32 := 0#32
  let v14 : BitVec 32 := Scalar.addi v9 v13
  let c128_i32 : BitVec 32 := 128#32
  let v356 : BitVec 32 := Scalar.addi v14 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t7
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off20 (v3 : BitVec 32) (v8 : BitVec 32) (v13 : BitVec 32) (k0_t7 : Fin (k0_t7_loop v3 v8 v13).trips) : Fin 3 → Nat :=
  let c0_i32_1 : BitVec 32 := 0#32
  let v4 : BitVec 32 := Scalar.addi c0_i32_1 v3
  let v9 : BitVec 32 := Scalar.addi v4 v8
  let c0_i32_153 : BitVec 32 := 0#32
  let v340 : BitVec 1 := Scalar.cmpi .sgt v9 c0_i32_153
  let v341 : BitVec 32 := Scalar.extui v340
  let c0_i32_154 : BitVec 32 := 0#32
  let v342 : BitVec 1 := Scalar.cmpi .slt v9 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v9 c16_i32
  let c0_i32_157 : BitVec 32 := 0#32
  let v352 : BitVec 1 := Scalar.cmpi .ne v351 c0_i32_157
  let v353 : BitVec 1 := Scalar.andi v350 v352
  let v339 : BitVec 32 := Scalar.divsi v9 c16_i32
  let c1_i32 : BitVec 32 := 1#32
  let v354 : BitVec 32 := Scalar.subi v339 c1_i32
  let v355 : BitVec 32 := Scalar.select v353 v354 v339
  let c0_i32_168 : BitVec 32 := 0#32
  let v14 : BitVec 32 := Scalar.addi v9 v13
  let c128_i32 : BitVec 32 := 128#32
  let v356 : BitVec 32 := Scalar.addi v14 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t7
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]

def k0_chk3 (v3 : BitVec 32) (v8 : BitVec 32) (v13 : BitVec 32) : Prop :=
  (∀ (k0_h4 : k0_cond4 v13 = 1#1), (k0_t6_loop v3 v8 v13).OK) ∧
  (∀ k0_t6 : Fin (k0_t6_loop v3 v8 v13).trips, ∀ (k0_h4 : k0_cond4 v13 = 1#1), ∀ a, (k0_off15 v3 v8 v13 k0_t6) a + S8x16x2048.size a ≤ S96x16x2048.size a) ∧
  (∀ k0_t6 : Fin (k0_t6_loop v3 v8 v13).trips, ∀ (k0_h4 : k0_cond4 v13 = 1#1), ∀ a, (k0_off16 v3 v8 v13 k0_t6) a + S8x16x128.size a ≤ S96x16x128.size a) ∧
  (∀ k0_t6 : Fin (k0_t6_loop v3 v8 v13).trips, ∀ (k0_h4 : k0_cond4 v13 = 1#1), ∀ a, (k0_off17 v3 v8 v13 k0_t6) a + S8x16x512.size a ≤ S96x16x512.size a) ∧
  (∀ k0_t6 : Fin (k0_t6_loop v3 v8 v13).trips, ∀ (k0_h4 : k0_cond4 v13 = 1#1), ∀ (hinb : ∀ a, (k0_off17 v3 v8 v13 k0_t6) a + S8x16x512.size a ≤ S96x16x512.size a), (Rect.unit (s := S96x16x512) (k0_off17 v3 v8 v13 k0_t6) S8x16x512.size hinb).PackedRows (EltTy.packing .bf16)) ∧
  (∀ (k0_h4 : k0_cond4 v13 = 1#1), (k0_t7_loop v3 v8 v13).OK) ∧
  (∀ k0_t7 : Fin (k0_t7_loop v3 v8 v13).trips, ∀ (k0_h4 : k0_cond4 v13 = 1#1), ∀ a, (k0_off18 v3 v8 v13 k0_t7) a + S8x16x2048.size a ≤ S96x16x2048.size a) ∧
  (∀ k0_t7 : Fin (k0_t7_loop v3 v8 v13).trips, ∀ (k0_h4 : k0_cond4 v13 = 1#1), ∀ a, (k0_off19 v3 v8 v13 k0_t7) a + S8x16x128.size a ≤ S96x16x128.size a) ∧
  (∀ k0_t7 : Fin (k0_t7_loop v3 v8 v13).trips, ∀ (k0_h4 : k0_cond4 v13 = 1#1), ∀ a, (k0_off20 v3 v8 v13 k0_t7) a + S8x16x512.size a ≤ S96x16x512.size a) ∧
  (∀ k0_t7 : Fin (k0_t7_loop v3 v8 v13).trips, ∀ (k0_h4 : k0_cond4 v13 = 1#1), ∀ (hinb : ∀ a, (k0_off20 v3 v8 v13 k0_t7) a + S8x16x512.size a ≤ S96x16x512.size a), (Rect.unit (s := S96x16x512) (k0_off20 v3 v8 v13 k0_t7) S8x16x512.size hinb).PackedRows (EltTy.packing .bf16))
theorem k0_t6_ok : ∀ (v3 : BitVec 32) (v8 : BitVec 32) (v13 : BitVec 32) (k0_hw3 : k0_chk3 v3 v8 v13), ∀ (k0_h4 : k0_cond4 v13 = 1#1), (k0_t6_loop v3 v8 v13).OK := fun v3 v8 v13 k0_hw3 k0_h4 => k0_hw3.1 k0_h4
theorem k0_off15_inb : ∀ (v3 : BitVec 32) (v8 : BitVec 32) (v13 : BitVec 32) (k0_hw3 : k0_chk3 v3 v8 v13) (k0_t6 : Fin (k0_t6_loop v3 v8 v13).trips), ∀ (k0_h4 : k0_cond4 v13 = 1#1), ∀ a, (k0_off15 v3 v8 v13 k0_t6) a + S8x16x2048.size a ≤ S96x16x2048.size a := fun v3 v8 v13 k0_hw3 k0_t6 k0_h4 => k0_hw3.2.1 k0_t6 k0_h4
theorem k0_off16_inb : ∀ (v3 : BitVec 32) (v8 : BitVec 32) (v13 : BitVec 32) (k0_hw3 : k0_chk3 v3 v8 v13) (k0_t6 : Fin (k0_t6_loop v3 v8 v13).trips), ∀ (k0_h4 : k0_cond4 v13 = 1#1), ∀ a, (k0_off16 v3 v8 v13 k0_t6) a + S8x16x128.size a ≤ S96x16x128.size a := fun v3 v8 v13 k0_hw3 k0_t6 k0_h4 => k0_hw3.2.2.1 k0_t6 k0_h4
theorem k0_off17_inb : ∀ (v3 : BitVec 32) (v8 : BitVec 32) (v13 : BitVec 32) (k0_hw3 : k0_chk3 v3 v8 v13) (k0_t6 : Fin (k0_t6_loop v3 v8 v13).trips), ∀ (k0_h4 : k0_cond4 v13 = 1#1), ∀ a, (k0_off17 v3 v8 v13 k0_t6) a + S8x16x512.size a ≤ S96x16x512.size a := fun v3 v8 v13 k0_hw3 k0_t6 k0_h4 => k0_hw3.2.2.2.1 k0_t6 k0_h4
theorem k0_off17_packedbf16 : ∀ (v3 : BitVec 32) (v8 : BitVec 32) (v13 : BitVec 32) (k0_hw3 : k0_chk3 v3 v8 v13) (k0_t6 : Fin (k0_t6_loop v3 v8 v13).trips), ∀ (k0_h4 : k0_cond4 v13 = 1#1), (Rect.unit (s := S96x16x512) (k0_off17 v3 v8 v13 k0_t6) S8x16x512.size (k0_off17_inb v3 v8 v13 k0_hw3 k0_t6 k0_h4)).PackedRows (EltTy.packing .bf16) := fun v3 v8 v13 k0_hw3 k0_t6 k0_h4 => k0_hw3.2.2.2.2.1 k0_t6 k0_h4 (k0_off17_inb v3 v8 v13 k0_hw3 k0_t6 k0_h4)
theorem k0_t7_ok : ∀ (v3 : BitVec 32) (v8 : BitVec 32) (v13 : BitVec 32) (k0_hw3 : k0_chk3 v3 v8 v13), ∀ (k0_h4 : k0_cond4 v13 = 1#1), (k0_t7_loop v3 v8 v13).OK := fun v3 v8 v13 k0_hw3 k0_h4 => k0_hw3.2.2.2.2.2.1 k0_h4
theorem k0_off18_inb : ∀ (v3 : BitVec 32) (v8 : BitVec 32) (v13 : BitVec 32) (k0_hw3 : k0_chk3 v3 v8 v13) (k0_t7 : Fin (k0_t7_loop v3 v8 v13).trips), ∀ (k0_h4 : k0_cond4 v13 = 1#1), ∀ a, (k0_off18 v3 v8 v13 k0_t7) a + S8x16x2048.size a ≤ S96x16x2048.size a := fun v3 v8 v13 k0_hw3 k0_t7 k0_h4 => k0_hw3.2.2.2.2.2.2.1 k0_t7 k0_h4
theorem k0_off19_inb : ∀ (v3 : BitVec 32) (v8 : BitVec 32) (v13 : BitVec 32) (k0_hw3 : k0_chk3 v3 v8 v13) (k0_t7 : Fin (k0_t7_loop v3 v8 v13).trips), ∀ (k0_h4 : k0_cond4 v13 = 1#1), ∀ a, (k0_off19 v3 v8 v13 k0_t7) a + S8x16x128.size a ≤ S96x16x128.size a := fun v3 v8 v13 k0_hw3 k0_t7 k0_h4 => k0_hw3.2.2.2.2.2.2.2.1 k0_t7 k0_h4
theorem k0_off20_inb : ∀ (v3 : BitVec 32) (v8 : BitVec 32) (v13 : BitVec 32) (k0_hw3 : k0_chk3 v3 v8 v13) (k0_t7 : Fin (k0_t7_loop v3 v8 v13).trips), ∀ (k0_h4 : k0_cond4 v13 = 1#1), ∀ a, (k0_off20 v3 v8 v13 k0_t7) a + S8x16x512.size a ≤ S96x16x512.size a := fun v3 v8 v13 k0_hw3 k0_t7 k0_h4 => k0_hw3.2.2.2.2.2.2.2.2.1 k0_t7 k0_h4
theorem k0_off20_packedbf16 : ∀ (v3 : BitVec 32) (v8 : BitVec 32) (v13 : BitVec 32) (k0_hw3 : k0_chk3 v3 v8 v13) (k0_t7 : Fin (k0_t7_loop v3 v8 v13).trips), ∀ (k0_h4 : k0_cond4 v13 = 1#1), (Rect.unit (s := S96x16x512) (k0_off20 v3 v8 v13 k0_t7) S8x16x512.size (k0_off20_inb v3 v8 v13 k0_hw3 k0_t7 k0_h4)).PackedRows (EltTy.packing .bf16) := fun v3 v8 v13 k0_hw3 k0_t7 k0_h4 => k0_hw3.2.2.2.2.2.2.2.2.2 k0_t7 k0_h4 (k0_off20_inb v3 v8 v13 k0_hw3 k0_t7 k0_h4)

@[reducible] def k0_t8_loop (v3 : BitVec 32) (v8 : BitVec 32) (v13 : BitVec 32) (v18 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let c128_i32 : BitVec 32 := 128#32
  let v356 : BitVec 32 := Scalar.addi v19 c128_i32
  let c1_i32_158 : BitVec 32 := 1#32
  let v357 : BitVec 32 := Scalar.subi v356 c1_i32_158
  let c0_i32_153 : BitVec 32 := 0#32
  let v340 : BitVec 1 := Scalar.cmpi .sgt v14 c0_i32_153
  let v341 : BitVec 32 := Scalar.extui v340
  let c0_i32_154 : BitVec 32 := 0#32
  let v342 : BitVec 1 := Scalar.cmpi .slt v14 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v14 c16_i32
  let c0_i32_157 : BitVec 32 := 0#32
  let v352 : BitVec 1 := Scalar.cmpi .ne v351 c0_i32_157
  let v353 : BitVec 1 := Scalar.andi v350 v352
  let v339 : BitVec 32 := Scalar.divsi v14 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_170 : BitVec 32 := 1#32
  ⟨c0_i32_168, v381, c1_i32_170⟩
def k0_cond5 (v18 : BitVec 32) : BitVec 1 :=
  let c0_i32_9 : BitVec 32 := 0#32
  let v20 : BitVec 1 := Scalar.cmpi .sgt v18 c0_i32_9
  let v21 : BitVec 32 := Scalar.extui v20
  let c0_i32_10 : BitVec 32 := 0#32
  let v22 : BitVec 1 := Scalar.cmpi .ne v21 c0_i32_10
  v22

def k0_off21 (v3 : BitVec 32) (v8 : BitVec 32) (v13 : BitVec 32) (v18 : BitVec 32) (k0_t8 : Fin (k0_t8_loop v3 v8 v13 v18).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let c0_i32_153 : BitVec 32 := 0#32
  let v340 : BitVec 1 := Scalar.cmpi .sgt v14 c0_i32_153
  let v341 : BitVec 32 := Scalar.extui v340
  let c0_i32_154 : BitVec 32 := 0#32
  let v342 : BitVec 1 := Scalar.cmpi .slt v14 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v14 c16_i32
  let c0_i32_157 : BitVec 32 := 0#32
  let v352 : BitVec 1 := Scalar.cmpi .ne v351 c0_i32_157
  let v353 : BitVec 1 := Scalar.andi v350 v352
  let v339 : BitVec 32 := Scalar.divsi v14 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t8
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off22 (v3 : BitVec 32) (v8 : BitVec 32) (v13 : BitVec 32) (v18 : BitVec 32) (k0_t8 : Fin (k0_t8_loop v3 v8 v13 v18).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let c0_i32_153 : BitVec 32 := 0#32
  let v340 : BitVec 1 := Scalar.cmpi .sgt v14 c0_i32_153
  let v341 : BitVec 32 := Scalar.extui v340
  let c0_i32_154 : BitVec 32 := 0#32
  let v342 : BitVec 1 := Scalar.cmpi .slt v14 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v14 c16_i32
  let c0_i32_157 : BitVec 32 := 0#32
  let v352 : BitVec 1 := Scalar.cmpi .ne v351 c0_i32_157
  let v353 : BitVec 1 := Scalar.andi v350 v352
  let v339 : BitVec 32 := Scalar.divsi v14 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t8
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off23 (v3 : BitVec 32) (v8 : BitVec 32) (v13 : BitVec 32) (v18 : BitVec 32) (k0_t8 : Fin (k0_t8_loop v3 v8 v13 v18).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let c0_i32_153 : BitVec 32 := 0#32
  let v340 : BitVec 1 := Scalar.cmpi .sgt v14 c0_i32_153
  let v341 : BitVec 32 := Scalar.extui v340
  let c0_i32_154 : BitVec 32 := 0#32
  let v342 : BitVec 1 := Scalar.cmpi .slt v14 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v14 c16_i32
  let c0_i32_157 : BitVec 32 := 0#32
  let v352 : BitVec 1 := Scalar.cmpi .ne v351 c0_i32_157
  let v353 : BitVec 1 := Scalar.andi v350 v352
  let v339 : BitVec 32 := Scalar.divsi v14 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t8
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]
@[reducible] def k0_t9_loop (v3 : BitVec 32) (v8 : BitVec 32) (v13 : BitVec 32) (v18 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let c128_i32 : BitVec 32 := 128#32
  let v356 : BitVec 32 := Scalar.addi v19 c128_i32
  let c1_i32_158 : BitVec 32 := 1#32
  let v357 : BitVec 32 := Scalar.subi v356 c1_i32_158
  let c0_i32_153 : BitVec 32 := 0#32
  let v340 : BitVec 1 := Scalar.cmpi .sgt v14 c0_i32_153
  let v341 : BitVec 32 := Scalar.extui v340
  let c0_i32_154 : BitVec 32 := 0#32
  let v342 : BitVec 1 := Scalar.cmpi .slt v14 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v14 c16_i32
  let c0_i32_157 : BitVec 32 := 0#32
  let v352 : BitVec 1 := Scalar.cmpi .ne v351 c0_i32_157
  let v353 : BitVec 1 := Scalar.andi v350 v352
  let v339 : BitVec 32 := Scalar.divsi v14 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let v378 : BitVec 32 := Scalar.addi c0_i32_168 v377
  let c1_i32_171 : BitVec 32 := 1#32
  ⟨v381, v378, c1_i32_171⟩
def k0_off24 (v3 : BitVec 32) (v8 : BitVec 32) (v13 : BitVec 32) (v18 : BitVec 32) (k0_t9 : Fin (k0_t9_loop v3 v8 v13 v18).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let c0_i32_153 : BitVec 32 := 0#32
  let v340 : BitVec 1 := Scalar.cmpi .sgt v14 c0_i32_153
  let v341 : BitVec 32 := Scalar.extui v340
  let c0_i32_154 : BitVec 32 := 0#32
  let v342 : BitVec 1 := Scalar.cmpi .slt v14 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v14 c16_i32
  let c0_i32_157 : BitVec 32 := 0#32
  let v352 : BitVec 1 := Scalar.cmpi .ne v351 c0_i32_157
  let v353 : BitVec 1 := Scalar.andi v350 v352
  let v339 : BitVec 32 := Scalar.divsi v14 c16_i32
  let c1_i32 : BitVec 32 := 1#32
  let v354 : BitVec 32 := Scalar.subi v339 c1_i32
  let v355 : BitVec 32 := Scalar.select v353 v354 v339
  let c0_i32_168 : BitVec 32 := 0#32
  let v19 : BitVec 32 := Scalar.addi v14 v18
  let c128_i32 : BitVec 32 := 128#32
  let v356 : BitVec 32 := Scalar.addi v19 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t9
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off25 (v3 : BitVec 32) (v8 : BitVec 32) (v13 : BitVec 32) (v18 : BitVec 32) (k0_t9 : Fin (k0_t9_loop v3 v8 v13 v18).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let c0_i32_153 : BitVec 32 := 0#32
  let v340 : BitVec 1 := Scalar.cmpi .sgt v14 c0_i32_153
  let v341 : BitVec 32 := Scalar.extui v340
  let c0_i32_154 : BitVec 32 := 0#32
  let v342 : BitVec 1 := Scalar.cmpi .slt v14 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v14 c16_i32
  let c0_i32_157 : BitVec 32 := 0#32
  let v352 : BitVec 1 := Scalar.cmpi .ne v351 c0_i32_157
  let v353 : BitVec 1 := Scalar.andi v350 v352
  let v339 : BitVec 32 := Scalar.divsi v14 c16_i32
  let c1_i32 : BitVec 32 := 1#32
  let v354 : BitVec 32 := Scalar.subi v339 c1_i32
  let v355 : BitVec 32 := Scalar.select v353 v354 v339
  let c0_i32_168 : BitVec 32 := 0#32
  let v19 : BitVec 32 := Scalar.addi v14 v18
  let c128_i32 : BitVec 32 := 128#32
  let v356 : BitVec 32 := Scalar.addi v19 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t9
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off26 (v3 : BitVec 32) (v8 : BitVec 32) (v13 : BitVec 32) (v18 : BitVec 32) (k0_t9 : Fin (k0_t9_loop v3 v8 v13 v18).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let c0_i32_153 : BitVec 32 := 0#32
  let v340 : BitVec 1 := Scalar.cmpi .sgt v14 c0_i32_153
  let v341 : BitVec 32 := Scalar.extui v340
  let c0_i32_154 : BitVec 32 := 0#32
  let v342 : BitVec 1 := Scalar.cmpi .slt v14 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v14 c16_i32
  let c0_i32_157 : BitVec 32 := 0#32
  let v352 : BitVec 1 := Scalar.cmpi .ne v351 c0_i32_157
  let v353 : BitVec 1 := Scalar.andi v350 v352
  let v339 : BitVec 32 := Scalar.divsi v14 c16_i32
  let c1_i32 : BitVec 32 := 1#32
  let v354 : BitVec 32 := Scalar.subi v339 c1_i32
  let v355 : BitVec 32 := Scalar.select v353 v354 v339
  let c0_i32_168 : BitVec 32 := 0#32
  let v19 : BitVec 32 := Scalar.addi v14 v18
  let c128_i32 : BitVec 32 := 128#32
  let v356 : BitVec 32 := Scalar.addi v19 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t9
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]

def k0_chk4 (v3 : BitVec 32) (v8 : BitVec 32) (v13 : BitVec 32) (v18 : BitVec 32) : Prop :=
  (∀ (k0_h5 : k0_cond5 v18 = 1#1), (k0_t8_loop v3 v8 v13 v18).OK) ∧
  (∀ k0_t8 : Fin (k0_t8_loop v3 v8 v13 v18).trips, ∀ (k0_h5 : k0_cond5 v18 = 1#1), ∀ a, (k0_off21 v3 v8 v13 v18 k0_t8) a + S8x16x2048.size a ≤ S96x16x2048.size a) ∧
  (∀ k0_t8 : Fin (k0_t8_loop v3 v8 v13 v18).trips, ∀ (k0_h5 : k0_cond5 v18 = 1#1), ∀ a, (k0_off22 v3 v8 v13 v18 k0_t8) a + S8x16x128.size a ≤ S96x16x128.size a) ∧
  (∀ k0_t8 : Fin (k0_t8_loop v3 v8 v13 v18).trips, ∀ (k0_h5 : k0_cond5 v18 = 1#1), ∀ a, (k0_off23 v3 v8 v13 v18 k0_t8) a + S8x16x512.size a ≤ S96x16x512.size a) ∧
  (∀ k0_t8 : Fin (k0_t8_loop v3 v8 v13 v18).trips, ∀ (k0_h5 : k0_cond5 v18 = 1#1), ∀ (hinb : ∀ a, (k0_off23 v3 v8 v13 v18 k0_t8) a + S8x16x512.size a ≤ S96x16x512.size a), (Rect.unit (s := S96x16x512) (k0_off23 v3 v8 v13 v18 k0_t8) S8x16x512.size hinb).PackedRows (EltTy.packing .bf16)) ∧
  (∀ (k0_h5 : k0_cond5 v18 = 1#1), (k0_t9_loop v3 v8 v13 v18).OK) ∧
  (∀ k0_t9 : Fin (k0_t9_loop v3 v8 v13 v18).trips, ∀ (k0_h5 : k0_cond5 v18 = 1#1), ∀ a, (k0_off24 v3 v8 v13 v18 k0_t9) a + S8x16x2048.size a ≤ S96x16x2048.size a) ∧
  (∀ k0_t9 : Fin (k0_t9_loop v3 v8 v13 v18).trips, ∀ (k0_h5 : k0_cond5 v18 = 1#1), ∀ a, (k0_off25 v3 v8 v13 v18 k0_t9) a + S8x16x128.size a ≤ S96x16x128.size a) ∧
  (∀ k0_t9 : Fin (k0_t9_loop v3 v8 v13 v18).trips, ∀ (k0_h5 : k0_cond5 v18 = 1#1), ∀ a, (k0_off26 v3 v8 v13 v18 k0_t9) a + S8x16x512.size a ≤ S96x16x512.size a) ∧
  (∀ k0_t9 : Fin (k0_t9_loop v3 v8 v13 v18).trips, ∀ (k0_h5 : k0_cond5 v18 = 1#1), ∀ (hinb : ∀ a, (k0_off26 v3 v8 v13 v18 k0_t9) a + S8x16x512.size a ≤ S96x16x512.size a), (Rect.unit (s := S96x16x512) (k0_off26 v3 v8 v13 v18 k0_t9) S8x16x512.size hinb).PackedRows (EltTy.packing .bf16))
theorem k0_t8_ok : ∀ (v3 : BitVec 32) (v8 : BitVec 32) (v13 : BitVec 32) (v18 : BitVec 32) (k0_hw4 : k0_chk4 v3 v8 v13 v18), ∀ (k0_h5 : k0_cond5 v18 = 1#1), (k0_t8_loop v3 v8 v13 v18).OK := fun v3 v8 v13 v18 k0_hw4 k0_h5 => k0_hw4.1 k0_h5
theorem k0_off21_inb : ∀ (v3 : BitVec 32) (v8 : BitVec 32) (v13 : BitVec 32) (v18 : BitVec 32) (k0_hw4 : k0_chk4 v3 v8 v13 v18) (k0_t8 : Fin (k0_t8_loop v3 v8 v13 v18).trips), ∀ (k0_h5 : k0_cond5 v18 = 1#1), ∀ a, (k0_off21 v3 v8 v13 v18 k0_t8) a + S8x16x2048.size a ≤ S96x16x2048.size a := fun v3 v8 v13 v18 k0_hw4 k0_t8 k0_h5 => k0_hw4.2.1 k0_t8 k0_h5
theorem k0_off22_inb : ∀ (v3 : BitVec 32) (v8 : BitVec 32) (v13 : BitVec 32) (v18 : BitVec 32) (k0_hw4 : k0_chk4 v3 v8 v13 v18) (k0_t8 : Fin (k0_t8_loop v3 v8 v13 v18).trips), ∀ (k0_h5 : k0_cond5 v18 = 1#1), ∀ a, (k0_off22 v3 v8 v13 v18 k0_t8) a + S8x16x128.size a ≤ S96x16x128.size a := fun v3 v8 v13 v18 k0_hw4 k0_t8 k0_h5 => k0_hw4.2.2.1 k0_t8 k0_h5
theorem k0_off23_inb : ∀ (v3 : BitVec 32) (v8 : BitVec 32) (v13 : BitVec 32) (v18 : BitVec 32) (k0_hw4 : k0_chk4 v3 v8 v13 v18) (k0_t8 : Fin (k0_t8_loop v3 v8 v13 v18).trips), ∀ (k0_h5 : k0_cond5 v18 = 1#1), ∀ a, (k0_off23 v3 v8 v13 v18 k0_t8) a + S8x16x512.size a ≤ S96x16x512.size a := fun v3 v8 v13 v18 k0_hw4 k0_t8 k0_h5 => k0_hw4.2.2.2.1 k0_t8 k0_h5
theorem k0_off23_packedbf16 : ∀ (v3 : BitVec 32) (v8 : BitVec 32) (v13 : BitVec 32) (v18 : BitVec 32) (k0_hw4 : k0_chk4 v3 v8 v13 v18) (k0_t8 : Fin (k0_t8_loop v3 v8 v13 v18).trips), ∀ (k0_h5 : k0_cond5 v18 = 1#1), (Rect.unit (s := S96x16x512) (k0_off23 v3 v8 v13 v18 k0_t8) S8x16x512.size (k0_off23_inb v3 v8 v13 v18 k0_hw4 k0_t8 k0_h5)).PackedRows (EltTy.packing .bf16) := fun v3 v8 v13 v18 k0_hw4 k0_t8 k0_h5 => k0_hw4.2.2.2.2.1 k0_t8 k0_h5 (k0_off23_inb v3 v8 v13 v18 k0_hw4 k0_t8 k0_h5)
theorem k0_t9_ok : ∀ (v3 : BitVec 32) (v8 : BitVec 32) (v13 : BitVec 32) (v18 : BitVec 32) (k0_hw4 : k0_chk4 v3 v8 v13 v18), ∀ (k0_h5 : k0_cond5 v18 = 1#1), (k0_t9_loop v3 v8 v13 v18).OK := fun v3 v8 v13 v18 k0_hw4 k0_h5 => k0_hw4.2.2.2.2.2.1 k0_h5
theorem k0_off24_inb : ∀ (v3 : BitVec 32) (v8 : BitVec 32) (v13 : BitVec 32) (v18 : BitVec 32) (k0_hw4 : k0_chk4 v3 v8 v13 v18) (k0_t9 : Fin (k0_t9_loop v3 v8 v13 v18).trips), ∀ (k0_h5 : k0_cond5 v18 = 1#1), ∀ a, (k0_off24 v3 v8 v13 v18 k0_t9) a + S8x16x2048.size a ≤ S96x16x2048.size a := fun v3 v8 v13 v18 k0_hw4 k0_t9 k0_h5 => k0_hw4.2.2.2.2.2.2.1 k0_t9 k0_h5
theorem k0_off25_inb : ∀ (v3 : BitVec 32) (v8 : BitVec 32) (v13 : BitVec 32) (v18 : BitVec 32) (k0_hw4 : k0_chk4 v3 v8 v13 v18) (k0_t9 : Fin (k0_t9_loop v3 v8 v13 v18).trips), ∀ (k0_h5 : k0_cond5 v18 = 1#1), ∀ a, (k0_off25 v3 v8 v13 v18 k0_t9) a + S8x16x128.size a ≤ S96x16x128.size a := fun v3 v8 v13 v18 k0_hw4 k0_t9 k0_h5 => k0_hw4.2.2.2.2.2.2.2.1 k0_t9 k0_h5
theorem k0_off26_inb : ∀ (v3 : BitVec 32) (v8 : BitVec 32) (v13 : BitVec 32) (v18 : BitVec 32) (k0_hw4 : k0_chk4 v3 v8 v13 v18) (k0_t9 : Fin (k0_t9_loop v3 v8 v13 v18).trips), ∀ (k0_h5 : k0_cond5 v18 = 1#1), ∀ a, (k0_off26 v3 v8 v13 v18 k0_t9) a + S8x16x512.size a ≤ S96x16x512.size a := fun v3 v8 v13 v18 k0_hw4 k0_t9 k0_h5 => k0_hw4.2.2.2.2.2.2.2.2.1 k0_t9 k0_h5
theorem k0_off26_packedbf16 : ∀ (v3 : BitVec 32) (v8 : BitVec 32) (v13 : BitVec 32) (v18 : BitVec 32) (k0_hw4 : k0_chk4 v3 v8 v13 v18) (k0_t9 : Fin (k0_t9_loop v3 v8 v13 v18).trips), ∀ (k0_h5 : k0_cond5 v18 = 1#1), (Rect.unit (s := S96x16x512) (k0_off26 v3 v8 v13 v18 k0_t9) S8x16x512.size (k0_off26_inb v3 v8 v13 v18 k0_hw4 k0_t9 k0_h5)).PackedRows (EltTy.packing .bf16) := fun v3 v8 v13 v18 k0_hw4 k0_t9 k0_h5 => k0_hw4.2.2.2.2.2.2.2.2.2 k0_t9 k0_h5 (k0_off26_inb v3 v8 v13 v18 k0_hw4 k0_t9 k0_h5)

@[reducible] def k0_t10_loop (v3 : BitVec 32) (v8 : BitVec 32) (v13 : BitVec 32) (v18 : BitVec 32) (v23 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let c128_i32 : BitVec 32 := 128#32
  let v356 : BitVec 32 := Scalar.addi v24 c128_i32
  let c1_i32_158 : BitVec 32 := 1#32
  let v357 : BitVec 32 := Scalar.subi v356 c1_i32_158
  let c0_i32_153 : BitVec 32 := 0#32
  let v340 : BitVec 1 := Scalar.cmpi .sgt v19 c0_i32_153
  let v341 : BitVec 32 := Scalar.extui v340
  let c0_i32_154 : BitVec 32 := 0#32
  let v342 : BitVec 1 := Scalar.cmpi .slt v19 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v19 c16_i32
  let c0_i32_157 : BitVec 32 := 0#32
  let v352 : BitVec 1 := Scalar.cmpi .ne v351 c0_i32_157
  let v353 : BitVec 1 := Scalar.andi v350 v352
  let v339 : BitVec 32 := Scalar.divsi v19 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_170 : BitVec 32 := 1#32
  ⟨c0_i32_168, v381, c1_i32_170⟩
def k0_cond6 (v23 : BitVec 32) : BitVec 1 :=
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .ne v26 c0_i32_12
  v27

def k0_off27 (v3 : BitVec 32) (v8 : BitVec 32) (v13 : BitVec 32) (v18 : BitVec 32) (v23 : BitVec 32) (k0_t10 : Fin (k0_t10_loop v3 v8 v13 v18 v23).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let c0_i32_153 : BitVec 32 := 0#32
  let v340 : BitVec 1 := Scalar.cmpi .sgt v19 c0_i32_153
  let v341 : BitVec 32 := Scalar.extui v340
  let c0_i32_154 : BitVec 32 := 0#32
  let v342 : BitVec 1 := Scalar.cmpi .slt v19 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v19 c16_i32
  let c0_i32_157 : BitVec 32 := 0#32
  let v352 : BitVec 1 := Scalar.cmpi .ne v351 c0_i32_157
  let v353 : BitVec 1 := Scalar.andi v350 v352
  let v339 : BitVec 32 := Scalar.divsi v19 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t10
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off28 (v3 : BitVec 32) (v8 : BitVec 32) (v13 : BitVec 32) (v18 : BitVec 32) (v23 : BitVec 32) (k0_t10 : Fin (k0_t10_loop v3 v8 v13 v18 v23).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let c0_i32_153 : BitVec 32 := 0#32
  let v340 : BitVec 1 := Scalar.cmpi .sgt v19 c0_i32_153
  let v341 : BitVec 32 := Scalar.extui v340
  let c0_i32_154 : BitVec 32 := 0#32
  let v342 : BitVec 1 := Scalar.cmpi .slt v19 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v19 c16_i32
  let c0_i32_157 : BitVec 32 := 0#32
  let v352 : BitVec 1 := Scalar.cmpi .ne v351 c0_i32_157
  let v353 : BitVec 1 := Scalar.andi v350 v352
  let v339 : BitVec 32 := Scalar.divsi v19 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t10
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off29 (v3 : BitVec 32) (v8 : BitVec 32) (v13 : BitVec 32) (v18 : BitVec 32) (v23 : BitVec 32) (k0_t10 : Fin (k0_t10_loop v3 v8 v13 v18 v23).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let c0_i32_153 : BitVec 32 := 0#32
  let v340 : BitVec 1 := Scalar.cmpi .sgt v19 c0_i32_153
  let v341 : BitVec 32 := Scalar.extui v340
  let c0_i32_154 : BitVec 32 := 0#32
  let v342 : BitVec 1 := Scalar.cmpi .slt v19 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v19 c16_i32
  let c0_i32_157 : BitVec 32 := 0#32
  let v352 : BitVec 1 := Scalar.cmpi .ne v351 c0_i32_157
  let v353 : BitVec 1 := Scalar.andi v350 v352
  let v339 : BitVec 32 := Scalar.divsi v19 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t10
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]
@[reducible] def k0_t11_loop (v3 : BitVec 32) (v8 : BitVec 32) (v13 : BitVec 32) (v18 : BitVec 32) (v23 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let c128_i32 : BitVec 32 := 128#32
  let v356 : BitVec 32 := Scalar.addi v24 c128_i32
  let c1_i32_158 : BitVec 32 := 1#32
  let v357 : BitVec 32 := Scalar.subi v356 c1_i32_158
  let c0_i32_153 : BitVec 32 := 0#32
  let v340 : BitVec 1 := Scalar.cmpi .sgt v19 c0_i32_153
  let v341 : BitVec 32 := Scalar.extui v340
  let c0_i32_154 : BitVec 32 := 0#32
  let v342 : BitVec 1 := Scalar.cmpi .slt v19 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v19 c16_i32
  let c0_i32_157 : BitVec 32 := 0#32
  let v352 : BitVec 1 := Scalar.cmpi .ne v351 c0_i32_157
  let v353 : BitVec 1 := Scalar.andi v350 v352
  let v339 : BitVec 32 := Scalar.divsi v19 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let v378 : BitVec 32 := Scalar.addi c0_i32_168 v377
  let c1_i32_171 : BitVec 32 := 1#32
  ⟨v381, v378, c1_i32_171⟩
def k0_off30 (v3 : BitVec 32) (v8 : BitVec 32) (v13 : BitVec 32) (v18 : BitVec 32) (v23 : BitVec 32) (k0_t11 : Fin (k0_t11_loop v3 v8 v13 v18 v23).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let c0_i32_153 : BitVec 32 := 0#32
  let v340 : BitVec 1 := Scalar.cmpi .sgt v19 c0_i32_153
  let v341 : BitVec 32 := Scalar.extui v340
  let c0_i32_154 : BitVec 32 := 0#32
  let v342 : BitVec 1 := Scalar.cmpi .slt v19 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v19 c16_i32
  let c0_i32_157 : BitVec 32 := 0#32
  let v352 : BitVec 1 := Scalar.cmpi .ne v351 c0_i32_157
  let v353 : BitVec 1 := Scalar.andi v350 v352
  let v339 : BitVec 32 := Scalar.divsi v19 c16_i32
  let c1_i32 : BitVec 32 := 1#32
  let v354 : BitVec 32 := Scalar.subi v339 c1_i32
  let v355 : BitVec 32 := Scalar.select v353 v354 v339
  let c0_i32_168 : BitVec 32 := 0#32
  let v24 : BitVec 32 := Scalar.addi v19 v23
  let c128_i32 : BitVec 32 := 128#32
  let v356 : BitVec 32 := Scalar.addi v24 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t11
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off31 (v3 : BitVec 32) (v8 : BitVec 32) (v13 : BitVec 32) (v18 : BitVec 32) (v23 : BitVec 32) (k0_t11 : Fin (k0_t11_loop v3 v8 v13 v18 v23).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let c0_i32_153 : BitVec 32 := 0#32
  let v340 : BitVec 1 := Scalar.cmpi .sgt v19 c0_i32_153
  let v341 : BitVec 32 := Scalar.extui v340
  let c0_i32_154 : BitVec 32 := 0#32
  let v342 : BitVec 1 := Scalar.cmpi .slt v19 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v19 c16_i32
  let c0_i32_157 : BitVec 32 := 0#32
  let v352 : BitVec 1 := Scalar.cmpi .ne v351 c0_i32_157
  let v353 : BitVec 1 := Scalar.andi v350 v352
  let v339 : BitVec 32 := Scalar.divsi v19 c16_i32
  let c1_i32 : BitVec 32 := 1#32
  let v354 : BitVec 32 := Scalar.subi v339 c1_i32
  let v355 : BitVec 32 := Scalar.select v353 v354 v339
  let c0_i32_168 : BitVec 32 := 0#32
  let v24 : BitVec 32 := Scalar.addi v19 v23
  let c128_i32 : BitVec 32 := 128#32
  let v356 : BitVec 32 := Scalar.addi v24 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t11
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off32 (v3 : BitVec 32) (v8 : BitVec 32) (v13 : BitVec 32) (v18 : BitVec 32) (v23 : BitVec 32) (k0_t11 : Fin (k0_t11_loop v3 v8 v13 v18 v23).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let c0_i32_153 : BitVec 32 := 0#32
  let v340 : BitVec 1 := Scalar.cmpi .sgt v19 c0_i32_153
  let v341 : BitVec 32 := Scalar.extui v340
  let c0_i32_154 : BitVec 32 := 0#32
  let v342 : BitVec 1 := Scalar.cmpi .slt v19 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v19 c16_i32
  let c0_i32_157 : BitVec 32 := 0#32
  let v352 : BitVec 1 := Scalar.cmpi .ne v351 c0_i32_157
  let v353 : BitVec 1 := Scalar.andi v350 v352
  let v339 : BitVec 32 := Scalar.divsi v19 c16_i32
  let c1_i32 : BitVec 32 := 1#32
  let v354 : BitVec 32 := Scalar.subi v339 c1_i32
  let v355 : BitVec 32 := Scalar.select v353 v354 v339
  let c0_i32_168 : BitVec 32 := 0#32
  let v24 : BitVec 32 := Scalar.addi v19 v23
  let c128_i32 : BitVec 32 := 128#32
  let v356 : BitVec 32 := Scalar.addi v24 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t11
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]

def k0_chk5 (v3 : BitVec 32) (v8 : BitVec 32) (v13 : BitVec 32) (v18 : BitVec 32) (v23 : BitVec 32) : Prop :=
  (∀ (k0_h6 : k0_cond6 v23 = 1#1), (k0_t10_loop v3 v8 v13 v18 v23).OK) ∧
  (∀ k0_t10 : Fin (k0_t10_loop v3 v8 v13 v18 v23).trips, ∀ (k0_h6 : k0_cond6 v23 = 1#1), ∀ a, (k0_off27 v3 v8 v13 v18 v23 k0_t10) a + S8x16x2048.size a ≤ S96x16x2048.size a) ∧
  (∀ k0_t10 : Fin (k0_t10_loop v3 v8 v13 v18 v23).trips, ∀ (k0_h6 : k0_cond6 v23 = 1#1), ∀ a, (k0_off28 v3 v8 v13 v18 v23 k0_t10) a + S8x16x128.size a ≤ S96x16x128.size a) ∧
  (∀ k0_t10 : Fin (k0_t10_loop v3 v8 v13 v18 v23).trips, ∀ (k0_h6 : k0_cond6 v23 = 1#1), ∀ a, (k0_off29 v3 v8 v13 v18 v23 k0_t10) a + S8x16x512.size a ≤ S96x16x512.size a) ∧
  (∀ k0_t10 : Fin (k0_t10_loop v3 v8 v13 v18 v23).trips, ∀ (k0_h6 : k0_cond6 v23 = 1#1), ∀ (hinb : ∀ a, (k0_off29 v3 v8 v13 v18 v23 k0_t10) a + S8x16x512.size a ≤ S96x16x512.size a), (Rect.unit (s := S96x16x512) (k0_off29 v3 v8 v13 v18 v23 k0_t10) S8x16x512.size hinb).PackedRows (EltTy.packing .bf16)) ∧
  (∀ (k0_h6 : k0_cond6 v23 = 1#1), (k0_t11_loop v3 v8 v13 v18 v23).OK) ∧
  (∀ k0_t11 : Fin (k0_t11_loop v3 v8 v13 v18 v23).trips, ∀ (k0_h6 : k0_cond6 v23 = 1#1), ∀ a, (k0_off30 v3 v8 v13 v18 v23 k0_t11) a + S8x16x2048.size a ≤ S96x16x2048.size a) ∧
  (∀ k0_t11 : Fin (k0_t11_loop v3 v8 v13 v18 v23).trips, ∀ (k0_h6 : k0_cond6 v23 = 1#1), ∀ a, (k0_off31 v3 v8 v13 v18 v23 k0_t11) a + S8x16x128.size a ≤ S96x16x128.size a) ∧
  (∀ k0_t11 : Fin (k0_t11_loop v3 v8 v13 v18 v23).trips, ∀ (k0_h6 : k0_cond6 v23 = 1#1), ∀ a, (k0_off32 v3 v8 v13 v18 v23 k0_t11) a + S8x16x512.size a ≤ S96x16x512.size a) ∧
  (∀ k0_t11 : Fin (k0_t11_loop v3 v8 v13 v18 v23).trips, ∀ (k0_h6 : k0_cond6 v23 = 1#1), ∀ (hinb : ∀ a, (k0_off32 v3 v8 v13 v18 v23 k0_t11) a + S8x16x512.size a ≤ S96x16x512.size a), (Rect.unit (s := S96x16x512) (k0_off32 v3 v8 v13 v18 v23 k0_t11) S8x16x512.size hinb).PackedRows (EltTy.packing .bf16))
theorem k0_t10_ok : ∀ (v3 : BitVec 32) (v8 : BitVec 32) (v13 : BitVec 32) (v18 : BitVec 32) (v23 : BitVec 32) (k0_hw5 : k0_chk5 v3 v8 v13 v18 v23), ∀ (k0_h6 : k0_cond6 v23 = 1#1), (k0_t10_loop v3 v8 v13 v18 v23).OK := fun v3 v8 v13 v18 v23 k0_hw5 k0_h6 => k0_hw5.1 k0_h6
theorem k0_off27_inb : ∀ (v3 : BitVec 32) (v8 : BitVec 32) (v13 : BitVec 32) (v18 : BitVec 32) (v23 : BitVec 32) (k0_hw5 : k0_chk5 v3 v8 v13 v18 v23) (k0_t10 : Fin (k0_t10_loop v3 v8 v13 v18 v23).trips), ∀ (k0_h6 : k0_cond6 v23 = 1#1), ∀ a, (k0_off27 v3 v8 v13 v18 v23 k0_t10) a + S8x16x2048.size a ≤ S96x16x2048.size a := fun v3 v8 v13 v18 v23 k0_hw5 k0_t10 k0_h6 => k0_hw5.2.1 k0_t10 k0_h6
theorem k0_off28_inb : ∀ (v3 : BitVec 32) (v8 : BitVec 32) (v13 : BitVec 32) (v18 : BitVec 32) (v23 : BitVec 32) (k0_hw5 : k0_chk5 v3 v8 v13 v18 v23) (k0_t10 : Fin (k0_t10_loop v3 v8 v13 v18 v23).trips), ∀ (k0_h6 : k0_cond6 v23 = 1#1), ∀ a, (k0_off28 v3 v8 v13 v18 v23 k0_t10) a + S8x16x128.size a ≤ S96x16x128.size a := fun v3 v8 v13 v18 v23 k0_hw5 k0_t10 k0_h6 => k0_hw5.2.2.1 k0_t10 k0_h6
theorem k0_off29_inb : ∀ (v3 : BitVec 32) (v8 : BitVec 32) (v13 : BitVec 32) (v18 : BitVec 32) (v23 : BitVec 32) (k0_hw5 : k0_chk5 v3 v8 v13 v18 v23) (k0_t10 : Fin (k0_t10_loop v3 v8 v13 v18 v23).trips), ∀ (k0_h6 : k0_cond6 v23 = 1#1), ∀ a, (k0_off29 v3 v8 v13 v18 v23 k0_t10) a + S8x16x512.size a ≤ S96x16x512.size a := fun v3 v8 v13 v18 v23 k0_hw5 k0_t10 k0_h6 => k0_hw5.2.2.2.1 k0_t10 k0_h6
theorem k0_off29_packedbf16 : ∀ (v3 : BitVec 32) (v8 : BitVec 32) (v13 : BitVec 32) (v18 : BitVec 32) (v23 : BitVec 32) (k0_hw5 : k0_chk5 v3 v8 v13 v18 v23) (k0_t10 : Fin (k0_t10_loop v3 v8 v13 v18 v23).trips), ∀ (k0_h6 : k0_cond6 v23 = 1#1), (Rect.unit (s := S96x16x512) (k0_off29 v3 v8 v13 v18 v23 k0_t10) S8x16x512.size (k0_off29_inb v3 v8 v13 v18 v23 k0_hw5 k0_t10 k0_h6)).PackedRows (EltTy.packing .bf16) := fun v3 v8 v13 v18 v23 k0_hw5 k0_t10 k0_h6 => k0_hw5.2.2.2.2.1 k0_t10 k0_h6 (k0_off29_inb v3 v8 v13 v18 v23 k0_hw5 k0_t10 k0_h6)
theorem k0_t11_ok : ∀ (v3 : BitVec 32) (v8 : BitVec 32) (v13 : BitVec 32) (v18 : BitVec 32) (v23 : BitVec 32) (k0_hw5 : k0_chk5 v3 v8 v13 v18 v23), ∀ (k0_h6 : k0_cond6 v23 = 1#1), (k0_t11_loop v3 v8 v13 v18 v23).OK := fun v3 v8 v13 v18 v23 k0_hw5 k0_h6 => k0_hw5.2.2.2.2.2.1 k0_h6
theorem k0_off30_inb : ∀ (v3 : BitVec 32) (v8 : BitVec 32) (v13 : BitVec 32) (v18 : BitVec 32) (v23 : BitVec 32) (k0_hw5 : k0_chk5 v3 v8 v13 v18 v23) (k0_t11 : Fin (k0_t11_loop v3 v8 v13 v18 v23).trips), ∀ (k0_h6 : k0_cond6 v23 = 1#1), ∀ a, (k0_off30 v3 v8 v13 v18 v23 k0_t11) a + S8x16x2048.size a ≤ S96x16x2048.size a := fun v3 v8 v13 v18 v23 k0_hw5 k0_t11 k0_h6 => k0_hw5.2.2.2.2.2.2.1 k0_t11 k0_h6
theorem k0_off31_inb : ∀ (v3 : BitVec 32) (v8 : BitVec 32) (v13 : BitVec 32) (v18 : BitVec 32) (v23 : BitVec 32) (k0_hw5 : k0_chk5 v3 v8 v13 v18 v23) (k0_t11 : Fin (k0_t11_loop v3 v8 v13 v18 v23).trips), ∀ (k0_h6 : k0_cond6 v23 = 1#1), ∀ a, (k0_off31 v3 v8 v13 v18 v23 k0_t11) a + S8x16x128.size a ≤ S96x16x128.size a := fun v3 v8 v13 v18 v23 k0_hw5 k0_t11 k0_h6 => k0_hw5.2.2.2.2.2.2.2.1 k0_t11 k0_h6
theorem k0_off32_inb : ∀ (v3 : BitVec 32) (v8 : BitVec 32) (v13 : BitVec 32) (v18 : BitVec 32) (v23 : BitVec 32) (k0_hw5 : k0_chk5 v3 v8 v13 v18 v23) (k0_t11 : Fin (k0_t11_loop v3 v8 v13 v18 v23).trips), ∀ (k0_h6 : k0_cond6 v23 = 1#1), ∀ a, (k0_off32 v3 v8 v13 v18 v23 k0_t11) a + S8x16x512.size a ≤ S96x16x512.size a := fun v3 v8 v13 v18 v23 k0_hw5 k0_t11 k0_h6 => k0_hw5.2.2.2.2.2.2.2.2.1 k0_t11 k0_h6
theorem k0_off32_packedbf16 : ∀ (v3 : BitVec 32) (v8 : BitVec 32) (v13 : BitVec 32) (v18 : BitVec 32) (v23 : BitVec 32) (k0_hw5 : k0_chk5 v3 v8 v13 v18 v23) (k0_t11 : Fin (k0_t11_loop v3 v8 v13 v18 v23).trips), ∀ (k0_h6 : k0_cond6 v23 = 1#1), (Rect.unit (s := S96x16x512) (k0_off32 v3 v8 v13 v18 v23 k0_t11) S8x16x512.size (k0_off32_inb v3 v8 v13 v18 v23 k0_hw5 k0_t11 k0_h6)).PackedRows (EltTy.packing .bf16) := fun v3 v8 v13 v18 v23 k0_hw5 k0_t11 k0_h6 => k0_hw5.2.2.2.2.2.2.2.2.2 k0_t11 k0_h6 (k0_off32_inb v3 v8 v13 v18 v23 k0_hw5 k0_t11 k0_h6)

@[reducible] def k0_t12_loop (v3 : BitVec 32) (v8 : BitVec 32) (v13 : BitVec 32) (v18 : BitVec 32) (v23 : BitVec 32) (v28 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let c128_i32 : BitVec 32 := 128#32
  let v356 : BitVec 32 := Scalar.addi v29 c128_i32
  let c1_i32_158 : BitVec 32 := 1#32
  let v357 : BitVec 32 := Scalar.subi v356 c1_i32_158
  let c0_i32_153 : BitVec 32 := 0#32
  let v340 : BitVec 1 := Scalar.cmpi .sgt v24 c0_i32_153
  let v341 : BitVec 32 := Scalar.extui v340
  let c0_i32_154 : BitVec 32 := 0#32
  let v342 : BitVec 1 := Scalar.cmpi .slt v24 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v24 c16_i32
  let c0_i32_157 : BitVec 32 := 0#32
  let v352 : BitVec 1 := Scalar.cmpi .ne v351 c0_i32_157
  let v353 : BitVec 1 := Scalar.andi v350 v352
  let v339 : BitVec 32 := Scalar.divsi v24 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_170 : BitVec 32 := 1#32
  ⟨c0_i32_168, v381, c1_i32_170⟩
def k0_cond7 (v28 : BitVec 32) : BitVec 1 :=
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .ne v31 c0_i32_14
  v32

def k0_off33 (v3 : BitVec 32) (v8 : BitVec 32) (v13 : BitVec 32) (v18 : BitVec 32) (v23 : BitVec 32) (v28 : BitVec 32) (k0_t12 : Fin (k0_t12_loop v3 v8 v13 v18 v23 v28).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let c0_i32_153 : BitVec 32 := 0#32
  let v340 : BitVec 1 := Scalar.cmpi .sgt v24 c0_i32_153
  let v341 : BitVec 32 := Scalar.extui v340
  let c0_i32_154 : BitVec 32 := 0#32
  let v342 : BitVec 1 := Scalar.cmpi .slt v24 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v24 c16_i32
  let c0_i32_157 : BitVec 32 := 0#32
  let v352 : BitVec 1 := Scalar.cmpi .ne v351 c0_i32_157
  let v353 : BitVec 1 := Scalar.andi v350 v352
  let v339 : BitVec 32 := Scalar.divsi v24 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t12
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off34 (v3 : BitVec 32) (v8 : BitVec 32) (v13 : BitVec 32) (v18 : BitVec 32) (v23 : BitVec 32) (v28 : BitVec 32) (k0_t12 : Fin (k0_t12_loop v3 v8 v13 v18 v23 v28).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let c0_i32_153 : BitVec 32 := 0#32
  let v340 : BitVec 1 := Scalar.cmpi .sgt v24 c0_i32_153
  let v341 : BitVec 32 := Scalar.extui v340
  let c0_i32_154 : BitVec 32 := 0#32
  let v342 : BitVec 1 := Scalar.cmpi .slt v24 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v24 c16_i32
  let c0_i32_157 : BitVec 32 := 0#32
  let v352 : BitVec 1 := Scalar.cmpi .ne v351 c0_i32_157
  let v353 : BitVec 1 := Scalar.andi v350 v352
  let v339 : BitVec 32 := Scalar.divsi v24 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t12
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off35 (v3 : BitVec 32) (v8 : BitVec 32) (v13 : BitVec 32) (v18 : BitVec 32) (v23 : BitVec 32) (v28 : BitVec 32) (k0_t12 : Fin (k0_t12_loop v3 v8 v13 v18 v23 v28).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let c0_i32_153 : BitVec 32 := 0#32
  let v340 : BitVec 1 := Scalar.cmpi .sgt v24 c0_i32_153
  let v341 : BitVec 32 := Scalar.extui v340
  let c0_i32_154 : BitVec 32 := 0#32
  let v342 : BitVec 1 := Scalar.cmpi .slt v24 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v24 c16_i32
  let c0_i32_157 : BitVec 32 := 0#32
  let v352 : BitVec 1 := Scalar.cmpi .ne v351 c0_i32_157
  let v353 : BitVec 1 := Scalar.andi v350 v352
  let v339 : BitVec 32 := Scalar.divsi v24 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t12
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]
@[reducible] def k0_t13_loop (v3 : BitVec 32) (v8 : BitVec 32) (v13 : BitVec 32) (v18 : BitVec 32) (v23 : BitVec 32) (v28 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let c128_i32 : BitVec 32 := 128#32
  let v356 : BitVec 32 := Scalar.addi v29 c128_i32
  let c1_i32_158 : BitVec 32 := 1#32
  let v357 : BitVec 32 := Scalar.subi v356 c1_i32_158
  let c0_i32_153 : BitVec 32 := 0#32
  let v340 : BitVec 1 := Scalar.cmpi .sgt v24 c0_i32_153
  let v341 : BitVec 32 := Scalar.extui v340
  let c0_i32_154 : BitVec 32 := 0#32
  let v342 : BitVec 1 := Scalar.cmpi .slt v24 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v24 c16_i32
  let c0_i32_157 : BitVec 32 := 0#32
  let v352 : BitVec 1 := Scalar.cmpi .ne v351 c0_i32_157
  let v353 : BitVec 1 := Scalar.andi v350 v352
  let v339 : BitVec 32 := Scalar.divsi v24 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let v378 : BitVec 32 := Scalar.addi c0_i32_168 v377
  let c1_i32_171 : BitVec 32 := 1#32
  ⟨v381, v378, c1_i32_171⟩
def k0_off36 (v3 : BitVec 32) (v8 : BitVec 32) (v13 : BitVec 32) (v18 : BitVec 32) (v23 : BitVec 32) (v28 : BitVec 32) (k0_t13 : Fin (k0_t13_loop v3 v8 v13 v18 v23 v28).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let c0_i32_153 : BitVec 32 := 0#32
  let v340 : BitVec 1 := Scalar.cmpi .sgt v24 c0_i32_153
  let v341 : BitVec 32 := Scalar.extui v340
  let c0_i32_154 : BitVec 32 := 0#32
  let v342 : BitVec 1 := Scalar.cmpi .slt v24 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v24 c16_i32
  let c0_i32_157 : BitVec 32 := 0#32
  let v352 : BitVec 1 := Scalar.cmpi .ne v351 c0_i32_157
  let v353 : BitVec 1 := Scalar.andi v350 v352
  let v339 : BitVec 32 := Scalar.divsi v24 c16_i32
  let c1_i32 : BitVec 32 := 1#32
  let v354 : BitVec 32 := Scalar.subi v339 c1_i32
  let v355 : BitVec 32 := Scalar.select v353 v354 v339
  let c0_i32_168 : BitVec 32 := 0#32
  let v29 : BitVec 32 := Scalar.addi v24 v28
  let c128_i32 : BitVec 32 := 128#32
  let v356 : BitVec 32 := Scalar.addi v29 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t13
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off37 (v3 : BitVec 32) (v8 : BitVec 32) (v13 : BitVec 32) (v18 : BitVec 32) (v23 : BitVec 32) (v28 : BitVec 32) (k0_t13 : Fin (k0_t13_loop v3 v8 v13 v18 v23 v28).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let c0_i32_153 : BitVec 32 := 0#32
  let v340 : BitVec 1 := Scalar.cmpi .sgt v24 c0_i32_153
  let v341 : BitVec 32 := Scalar.extui v340
  let c0_i32_154 : BitVec 32 := 0#32
  let v342 : BitVec 1 := Scalar.cmpi .slt v24 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v24 c16_i32
  let c0_i32_157 : BitVec 32 := 0#32
  let v352 : BitVec 1 := Scalar.cmpi .ne v351 c0_i32_157
  let v353 : BitVec 1 := Scalar.andi v350 v352
  let v339 : BitVec 32 := Scalar.divsi v24 c16_i32
  let c1_i32 : BitVec 32 := 1#32
  let v354 : BitVec 32 := Scalar.subi v339 c1_i32
  let v355 : BitVec 32 := Scalar.select v353 v354 v339
  let c0_i32_168 : BitVec 32 := 0#32
  let v29 : BitVec 32 := Scalar.addi v24 v28
  let c128_i32 : BitVec 32 := 128#32
  let v356 : BitVec 32 := Scalar.addi v29 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t13
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off38 (v3 : BitVec 32) (v8 : BitVec 32) (v13 : BitVec 32) (v18 : BitVec 32) (v23 : BitVec 32) (v28 : BitVec 32) (k0_t13 : Fin (k0_t13_loop v3 v8 v13 v18 v23 v28).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let c0_i32_153 : BitVec 32 := 0#32
  let v340 : BitVec 1 := Scalar.cmpi .sgt v24 c0_i32_153
  let v341 : BitVec 32 := Scalar.extui v340
  let c0_i32_154 : BitVec 32 := 0#32
  let v342 : BitVec 1 := Scalar.cmpi .slt v24 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v24 c16_i32
  let c0_i32_157 : BitVec 32 := 0#32
  let v352 : BitVec 1 := Scalar.cmpi .ne v351 c0_i32_157
  let v353 : BitVec 1 := Scalar.andi v350 v352
  let v339 : BitVec 32 := Scalar.divsi v24 c16_i32
  let c1_i32 : BitVec 32 := 1#32
  let v354 : BitVec 32 := Scalar.subi v339 c1_i32
  let v355 : BitVec 32 := Scalar.select v353 v354 v339
  let c0_i32_168 : BitVec 32 := 0#32
  let v29 : BitVec 32 := Scalar.addi v24 v28
  let c128_i32 : BitVec 32 := 128#32
  let v356 : BitVec 32 := Scalar.addi v29 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t13
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]

def k0_chk6 (v3 : BitVec 32) (v8 : BitVec 32) (v13 : BitVec 32) (v18 : BitVec 32) (v23 : BitVec 32) (v28 : BitVec 32) : Prop :=
  (∀ (k0_h7 : k0_cond7 v28 = 1#1), (k0_t12_loop v3 v8 v13 v18 v23 v28).OK) ∧
  (∀ k0_t12 : Fin (k0_t12_loop v3 v8 v13 v18 v23 v28).trips, ∀ (k0_h7 : k0_cond7 v28 = 1#1), ∀ a, (k0_off33 v3 v8 v13 v18 v23 v28 k0_t12) a + S8x16x2048.size a ≤ S96x16x2048.size a) ∧
  (∀ k0_t12 : Fin (k0_t12_loop v3 v8 v13 v18 v23 v28).trips, ∀ (k0_h7 : k0_cond7 v28 = 1#1), ∀ a, (k0_off34 v3 v8 v13 v18 v23 v28 k0_t12) a + S8x16x128.size a ≤ S96x16x128.size a) ∧
  (∀ k0_t12 : Fin (k0_t12_loop v3 v8 v13 v18 v23 v28).trips, ∀ (k0_h7 : k0_cond7 v28 = 1#1), ∀ a, (k0_off35 v3 v8 v13 v18 v23 v28 k0_t12) a + S8x16x512.size a ≤ S96x16x512.size a) ∧
  (∀ k0_t12 : Fin (k0_t12_loop v3 v8 v13 v18 v23 v28).trips, ∀ (k0_h7 : k0_cond7 v28 = 1#1), ∀ (hinb : ∀ a, (k0_off35 v3 v8 v13 v18 v23 v28 k0_t12) a + S8x16x512.size a ≤ S96x16x512.size a), (Rect.unit (s := S96x16x512) (k0_off35 v3 v8 v13 v18 v23 v28 k0_t12) S8x16x512.size hinb).PackedRows (EltTy.packing .bf16)) ∧
  (∀ (k0_h7 : k0_cond7 v28 = 1#1), (k0_t13_loop v3 v8 v13 v18 v23 v28).OK) ∧
  (∀ k0_t13 : Fin (k0_t13_loop v3 v8 v13 v18 v23 v28).trips, ∀ (k0_h7 : k0_cond7 v28 = 1#1), ∀ a, (k0_off36 v3 v8 v13 v18 v23 v28 k0_t13) a + S8x16x2048.size a ≤ S96x16x2048.size a) ∧
  (∀ k0_t13 : Fin (k0_t13_loop v3 v8 v13 v18 v23 v28).trips, ∀ (k0_h7 : k0_cond7 v28 = 1#1), ∀ a, (k0_off37 v3 v8 v13 v18 v23 v28 k0_t13) a + S8x16x128.size a ≤ S96x16x128.size a) ∧
  (∀ k0_t13 : Fin (k0_t13_loop v3 v8 v13 v18 v23 v28).trips, ∀ (k0_h7 : k0_cond7 v28 = 1#1), ∀ a, (k0_off38 v3 v8 v13 v18 v23 v28 k0_t13) a + S8x16x512.size a ≤ S96x16x512.size a) ∧
  (∀ k0_t13 : Fin (k0_t13_loop v3 v8 v13 v18 v23 v28).trips, ∀ (k0_h7 : k0_cond7 v28 = 1#1), ∀ (hinb : ∀ a, (k0_off38 v3 v8 v13 v18 v23 v28 k0_t13) a + S8x16x512.size a ≤ S96x16x512.size a), (Rect.unit (s := S96x16x512) (k0_off38 v3 v8 v13 v18 v23 v28 k0_t13) S8x16x512.size hinb).PackedRows (EltTy.packing .bf16))
theorem k0_t12_ok : ∀ (v3 : BitVec 32) (v8 : BitVec 32) (v13 : BitVec 32) (v18 : BitVec 32) (v23 : BitVec 32) (v28 : BitVec 32) (k0_hw6 : k0_chk6 v3 v8 v13 v18 v23 v28), ∀ (k0_h7 : k0_cond7 v28 = 1#1), (k0_t12_loop v3 v8 v13 v18 v23 v28).OK := fun v3 v8 v13 v18 v23 v28 k0_hw6 k0_h7 => k0_hw6.1 k0_h7
theorem k0_off33_inb : ∀ (v3 : BitVec 32) (v8 : BitVec 32) (v13 : BitVec 32) (v18 : BitVec 32) (v23 : BitVec 32) (v28 : BitVec 32) (k0_hw6 : k0_chk6 v3 v8 v13 v18 v23 v28) (k0_t12 : Fin (k0_t12_loop v3 v8 v13 v18 v23 v28).trips), ∀ (k0_h7 : k0_cond7 v28 = 1#1), ∀ a, (k0_off33 v3 v8 v13 v18 v23 v28 k0_t12) a + S8x16x2048.size a ≤ S96x16x2048.size a := fun v3 v8 v13 v18 v23 v28 k0_hw6 k0_t12 k0_h7 => k0_hw6.2.1 k0_t12 k0_h7
theorem k0_off34_inb : ∀ (v3 : BitVec 32) (v8 : BitVec 32) (v13 : BitVec 32) (v18 : BitVec 32) (v23 : BitVec 32) (v28 : BitVec 32) (k0_hw6 : k0_chk6 v3 v8 v13 v18 v23 v28) (k0_t12 : Fin (k0_t12_loop v3 v8 v13 v18 v23 v28).trips), ∀ (k0_h7 : k0_cond7 v28 = 1#1), ∀ a, (k0_off34 v3 v8 v13 v18 v23 v28 k0_t12) a + S8x16x128.size a ≤ S96x16x128.size a := fun v3 v8 v13 v18 v23 v28 k0_hw6 k0_t12 k0_h7 => k0_hw6.2.2.1 k0_t12 k0_h7
theorem k0_off35_inb : ∀ (v3 : BitVec 32) (v8 : BitVec 32) (v13 : BitVec 32) (v18 : BitVec 32) (v23 : BitVec 32) (v28 : BitVec 32) (k0_hw6 : k0_chk6 v3 v8 v13 v18 v23 v28) (k0_t12 : Fin (k0_t12_loop v3 v8 v13 v18 v23 v28).trips), ∀ (k0_h7 : k0_cond7 v28 = 1#1), ∀ a, (k0_off35 v3 v8 v13 v18 v23 v28 k0_t12) a + S8x16x512.size a ≤ S96x16x512.size a := fun v3 v8 v13 v18 v23 v28 k0_hw6 k0_t12 k0_h7 => k0_hw6.2.2.2.1 k0_t12 k0_h7
theorem k0_off35_packedbf16 : ∀ (v3 : BitVec 32) (v8 : BitVec 32) (v13 : BitVec 32) (v18 : BitVec 32) (v23 : BitVec 32) (v28 : BitVec 32) (k0_hw6 : k0_chk6 v3 v8 v13 v18 v23 v28) (k0_t12 : Fin (k0_t12_loop v3 v8 v13 v18 v23 v28).trips), ∀ (k0_h7 : k0_cond7 v28 = 1#1), (Rect.unit (s := S96x16x512) (k0_off35 v3 v8 v13 v18 v23 v28 k0_t12) S8x16x512.size (k0_off35_inb v3 v8 v13 v18 v23 v28 k0_hw6 k0_t12 k0_h7)).PackedRows (EltTy.packing .bf16) := fun v3 v8 v13 v18 v23 v28 k0_hw6 k0_t12 k0_h7 => k0_hw6.2.2.2.2.1 k0_t12 k0_h7 (k0_off35_inb v3 v8 v13 v18 v23 v28 k0_hw6 k0_t12 k0_h7)
theorem k0_t13_ok : ∀ (v3 : BitVec 32) (v8 : BitVec 32) (v13 : BitVec 32) (v18 : BitVec 32) (v23 : BitVec 32) (v28 : BitVec 32) (k0_hw6 : k0_chk6 v3 v8 v13 v18 v23 v28), ∀ (k0_h7 : k0_cond7 v28 = 1#1), (k0_t13_loop v3 v8 v13 v18 v23 v28).OK := fun v3 v8 v13 v18 v23 v28 k0_hw6 k0_h7 => k0_hw6.2.2.2.2.2.1 k0_h7
theorem k0_off36_inb : ∀ (v3 : BitVec 32) (v8 : BitVec 32) (v13 : BitVec 32) (v18 : BitVec 32) (v23 : BitVec 32) (v28 : BitVec 32) (k0_hw6 : k0_chk6 v3 v8 v13 v18 v23 v28) (k0_t13 : Fin (k0_t13_loop v3 v8 v13 v18 v23 v28).trips), ∀ (k0_h7 : k0_cond7 v28 = 1#1), ∀ a, (k0_off36 v3 v8 v13 v18 v23 v28 k0_t13) a + S8x16x2048.size a ≤ S96x16x2048.size a := fun v3 v8 v13 v18 v23 v28 k0_hw6 k0_t13 k0_h7 => k0_hw6.2.2.2.2.2.2.1 k0_t13 k0_h7
theorem k0_off37_inb : ∀ (v3 : BitVec 32) (v8 : BitVec 32) (v13 : BitVec 32) (v18 : BitVec 32) (v23 : BitVec 32) (v28 : BitVec 32) (k0_hw6 : k0_chk6 v3 v8 v13 v18 v23 v28) (k0_t13 : Fin (k0_t13_loop v3 v8 v13 v18 v23 v28).trips), ∀ (k0_h7 : k0_cond7 v28 = 1#1), ∀ a, (k0_off37 v3 v8 v13 v18 v23 v28 k0_t13) a + S8x16x128.size a ≤ S96x16x128.size a := fun v3 v8 v13 v18 v23 v28 k0_hw6 k0_t13 k0_h7 => k0_hw6.2.2.2.2.2.2.2.1 k0_t13 k0_h7
theorem k0_off38_inb : ∀ (v3 : BitVec 32) (v8 : BitVec 32) (v13 : BitVec 32) (v18 : BitVec 32) (v23 : BitVec 32) (v28 : BitVec 32) (k0_hw6 : k0_chk6 v3 v8 v13 v18 v23 v28) (k0_t13 : Fin (k0_t13_loop v3 v8 v13 v18 v23 v28).trips), ∀ (k0_h7 : k0_cond7 v28 = 1#1), ∀ a, (k0_off38 v3 v8 v13 v18 v23 v28 k0_t13) a + S8x16x512.size a ≤ S96x16x512.size a := fun v3 v8 v13 v18 v23 v28 k0_hw6 k0_t13 k0_h7 => k0_hw6.2.2.2.2.2.2.2.2.1 k0_t13 k0_h7
theorem k0_off38_packedbf16 : ∀ (v3 : BitVec 32) (v8 : BitVec 32) (v13 : BitVec 32) (v18 : BitVec 32) (v23 : BitVec 32) (v28 : BitVec 32) (k0_hw6 : k0_chk6 v3 v8 v13 v18 v23 v28) (k0_t13 : Fin (k0_t13_loop v3 v8 v13 v18 v23 v28).trips), ∀ (k0_h7 : k0_cond7 v28 = 1#1), (Rect.unit (s := S96x16x512) (k0_off38 v3 v8 v13 v18 v23 v28 k0_t13) S8x16x512.size (k0_off38_inb v3 v8 v13 v18 v23 v28 k0_hw6 k0_t13 k0_h7)).PackedRows (EltTy.packing .bf16) := fun v3 v8 v13 v18 v23 v28 k0_hw6 k0_t13 k0_h7 => k0_hw6.2.2.2.2.2.2.2.2.2 k0_t13 k0_h7 (k0_off38_inb v3 v8 v13 v18 v23 v28 k0_hw6 k0_t13 k0_h7)

@[reducible] def k0_t14_loop (v3 : BitVec 32) (v8 : BitVec 32) (v13 : BitVec 32) (v18 : BitVec 32) (v23 : BitVec 32) (v28 : BitVec 32) (v33 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let v34 : BitVec 32 := Scalar.addi v29 v33
  let c128_i32 : BitVec 32 := 128#32
  let v356 : BitVec 32 := Scalar.addi v34 c128_i32
  let c1_i32_158 : BitVec 32 := 1#32
  let v357 : BitVec 32 := Scalar.subi v356 c1_i32_158
  let c0_i32_153 : BitVec 32 := 0#32
  let v340 : BitVec 1 := Scalar.cmpi .sgt v29 c0_i32_153
  let v341 : BitVec 32 := Scalar.extui v340
  let c0_i32_154 : BitVec 32 := 0#32
  let v342 : BitVec 1 := Scalar.cmpi .slt v29 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v29 c16_i32
  let c0_i32_157 : BitVec 32 := 0#32
  let v352 : BitVec 1 := Scalar.cmpi .ne v351 c0_i32_157
  let v353 : BitVec 1 := Scalar.andi v350 v352
  let v339 : BitVec 32 := Scalar.divsi v29 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_170 : BitVec 32 := 1#32
  ⟨c0_i32_168, v381, c1_i32_170⟩
def k0_cond8 (v33 : BitVec 32) : BitVec 1 :=
  let c0_i32_15 : BitVec 32 := 0#32
  let v35 : BitVec 1 := Scalar.cmpi .sgt v33 c0_i32_15
  let v36 : BitVec 32 := Scalar.extui v35
  let c0_i32_16 : BitVec 32 := 0#32
  let v37 : BitVec 1 := Scalar.cmpi .ne v36 c0_i32_16
  v37

def k0_off39 (v3 : BitVec 32) (v8 : BitVec 32) (v13 : BitVec 32) (v18 : BitVec 32) (v23 : BitVec 32) (v28 : BitVec 32) (v33 : BitVec 32) (k0_t14 : Fin (k0_t14_loop v3 v8 v13 v18 v23 v28 v33).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let c0_i32_153 : BitVec 32 := 0#32
  let v340 : BitVec 1 := Scalar.cmpi .sgt v29 c0_i32_153
  let v341 : BitVec 32 := Scalar.extui v340
  let c0_i32_154 : BitVec 32 := 0#32
  let v342 : BitVec 1 := Scalar.cmpi .slt v29 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v29 c16_i32
  let c0_i32_157 : BitVec 32 := 0#32
  let v352 : BitVec 1 := Scalar.cmpi .ne v351 c0_i32_157
  let v353 : BitVec 1 := Scalar.andi v350 v352
  let v339 : BitVec 32 := Scalar.divsi v29 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t14
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off40 (v3 : BitVec 32) (v8 : BitVec 32) (v13 : BitVec 32) (v18 : BitVec 32) (v23 : BitVec 32) (v28 : BitVec 32) (v33 : BitVec 32) (k0_t14 : Fin (k0_t14_loop v3 v8 v13 v18 v23 v28 v33).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let c0_i32_153 : BitVec 32 := 0#32
  let v340 : BitVec 1 := Scalar.cmpi .sgt v29 c0_i32_153
  let v341 : BitVec 32 := Scalar.extui v340
  let c0_i32_154 : BitVec 32 := 0#32
  let v342 : BitVec 1 := Scalar.cmpi .slt v29 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v29 c16_i32
  let c0_i32_157 : BitVec 32 := 0#32
  let v352 : BitVec 1 := Scalar.cmpi .ne v351 c0_i32_157
  let v353 : BitVec 1 := Scalar.andi v350 v352
  let v339 : BitVec 32 := Scalar.divsi v29 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t14
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off41 (v3 : BitVec 32) (v8 : BitVec 32) (v13 : BitVec 32) (v18 : BitVec 32) (v23 : BitVec 32) (v28 : BitVec 32) (v33 : BitVec 32) (k0_t14 : Fin (k0_t14_loop v3 v8 v13 v18 v23 v28 v33).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let c0_i32_153 : BitVec 32 := 0#32
  let v340 : BitVec 1 := Scalar.cmpi .sgt v29 c0_i32_153
  let v341 : BitVec 32 := Scalar.extui v340
  let c0_i32_154 : BitVec 32 := 0#32
  let v342 : BitVec 1 := Scalar.cmpi .slt v29 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v29 c16_i32
  let c0_i32_157 : BitVec 32 := 0#32
  let v352 : BitVec 1 := Scalar.cmpi .ne v351 c0_i32_157
  let v353 : BitVec 1 := Scalar.andi v350 v352
  let v339 : BitVec 32 := Scalar.divsi v29 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t14
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]
@[reducible] def k0_t15_loop (v3 : BitVec 32) (v8 : BitVec 32) (v13 : BitVec 32) (v18 : BitVec 32) (v23 : BitVec 32) (v28 : BitVec 32) (v33 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let v34 : BitVec 32 := Scalar.addi v29 v33
  let c128_i32 : BitVec 32 := 128#32
  let v356 : BitVec 32 := Scalar.addi v34 c128_i32
  let c1_i32_158 : BitVec 32 := 1#32
  let v357 : BitVec 32 := Scalar.subi v356 c1_i32_158
  let c0_i32_153 : BitVec 32 := 0#32
  let v340 : BitVec 1 := Scalar.cmpi .sgt v29 c0_i32_153
  let v341 : BitVec 32 := Scalar.extui v340
  let c0_i32_154 : BitVec 32 := 0#32
  let v342 : BitVec 1 := Scalar.cmpi .slt v29 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v29 c16_i32
  let c0_i32_157 : BitVec 32 := 0#32
  let v352 : BitVec 1 := Scalar.cmpi .ne v351 c0_i32_157
  let v353 : BitVec 1 := Scalar.andi v350 v352
  let v339 : BitVec 32 := Scalar.divsi v29 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let v378 : BitVec 32 := Scalar.addi c0_i32_168 v377
  let c1_i32_171 : BitVec 32 := 1#32
  ⟨v381, v378, c1_i32_171⟩
def k0_off42 (v3 : BitVec 32) (v8 : BitVec 32) (v13 : BitVec 32) (v18 : BitVec 32) (v23 : BitVec 32) (v28 : BitVec 32) (v33 : BitVec 32) (k0_t15 : Fin (k0_t15_loop v3 v8 v13 v18 v23 v28 v33).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let c0_i32_153 : BitVec 32 := 0#32
  let v340 : BitVec 1 := Scalar.cmpi .sgt v29 c0_i32_153
  let v341 : BitVec 32 := Scalar.extui v340
  let c0_i32_154 : BitVec 32 := 0#32
  let v342 : BitVec 1 := Scalar.cmpi .slt v29 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v29 c16_i32
  let c0_i32_157 : BitVec 32 := 0#32
  let v352 : BitVec 1 := Scalar.cmpi .ne v351 c0_i32_157
  let v353 : BitVec 1 := Scalar.andi v350 v352
  let v339 : BitVec 32 := Scalar.divsi v29 c16_i32
  let c1_i32 : BitVec 32 := 1#32
  let v354 : BitVec 32 := Scalar.subi v339 c1_i32
  let v355 : BitVec 32 := Scalar.select v353 v354 v339
  let c0_i32_168 : BitVec 32 := 0#32
  let v34 : BitVec 32 := Scalar.addi v29 v33
  let c128_i32 : BitVec 32 := 128#32
  let v356 : BitVec 32 := Scalar.addi v34 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t15
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off43 (v3 : BitVec 32) (v8 : BitVec 32) (v13 : BitVec 32) (v18 : BitVec 32) (v23 : BitVec 32) (v28 : BitVec 32) (v33 : BitVec 32) (k0_t15 : Fin (k0_t15_loop v3 v8 v13 v18 v23 v28 v33).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let c0_i32_153 : BitVec 32 := 0#32
  let v340 : BitVec 1 := Scalar.cmpi .sgt v29 c0_i32_153
  let v341 : BitVec 32 := Scalar.extui v340
  let c0_i32_154 : BitVec 32 := 0#32
  let v342 : BitVec 1 := Scalar.cmpi .slt v29 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v29 c16_i32
  let c0_i32_157 : BitVec 32 := 0#32
  let v352 : BitVec 1 := Scalar.cmpi .ne v351 c0_i32_157
  let v353 : BitVec 1 := Scalar.andi v350 v352
  let v339 : BitVec 32 := Scalar.divsi v29 c16_i32
  let c1_i32 : BitVec 32 := 1#32
  let v354 : BitVec 32 := Scalar.subi v339 c1_i32
  let v355 : BitVec 32 := Scalar.select v353 v354 v339
  let c0_i32_168 : BitVec 32 := 0#32
  let v34 : BitVec 32 := Scalar.addi v29 v33
  let c128_i32 : BitVec 32 := 128#32
  let v356 : BitVec 32 := Scalar.addi v34 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t15
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off44 (v3 : BitVec 32) (v8 : BitVec 32) (v13 : BitVec 32) (v18 : BitVec 32) (v23 : BitVec 32) (v28 : BitVec 32) (v33 : BitVec 32) (k0_t15 : Fin (k0_t15_loop v3 v8 v13 v18 v23 v28 v33).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let c0_i32_153 : BitVec 32 := 0#32
  let v340 : BitVec 1 := Scalar.cmpi .sgt v29 c0_i32_153
  let v341 : BitVec 32 := Scalar.extui v340
  let c0_i32_154 : BitVec 32 := 0#32
  let v342 : BitVec 1 := Scalar.cmpi .slt v29 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v29 c16_i32
  let c0_i32_157 : BitVec 32 := 0#32
  let v352 : BitVec 1 := Scalar.cmpi .ne v351 c0_i32_157
  let v353 : BitVec 1 := Scalar.andi v350 v352
  let v339 : BitVec 32 := Scalar.divsi v29 c16_i32
  let c1_i32 : BitVec 32 := 1#32
  let v354 : BitVec 32 := Scalar.subi v339 c1_i32
  let v355 : BitVec 32 := Scalar.select v353 v354 v339
  let c0_i32_168 : BitVec 32 := 0#32
  let v34 : BitVec 32 := Scalar.addi v29 v33
  let c128_i32 : BitVec 32 := 128#32
  let v356 : BitVec 32 := Scalar.addi v34 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t15
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]

def k0_chk7 (v3 : BitVec 32) (v8 : BitVec 32) (v13 : BitVec 32) (v18 : BitVec 32) (v23 : BitVec 32) (v28 : BitVec 32) (v33 : BitVec 32) : Prop :=
  (∀ (k0_h8 : k0_cond8 v33 = 1#1), (k0_t14_loop v3 v8 v13 v18 v23 v28 v33).OK) ∧
  (∀ k0_t14 : Fin (k0_t14_loop v3 v8 v13 v18 v23 v28 v33).trips, ∀ (k0_h8 : k0_cond8 v33 = 1#1), ∀ a, (k0_off39 v3 v8 v13 v18 v23 v28 v33 k0_t14) a + S8x16x2048.size a ≤ S96x16x2048.size a) ∧
  (∀ k0_t14 : Fin (k0_t14_loop v3 v8 v13 v18 v23 v28 v33).trips, ∀ (k0_h8 : k0_cond8 v33 = 1#1), ∀ a, (k0_off40 v3 v8 v13 v18 v23 v28 v33 k0_t14) a + S8x16x128.size a ≤ S96x16x128.size a) ∧
  (∀ k0_t14 : Fin (k0_t14_loop v3 v8 v13 v18 v23 v28 v33).trips, ∀ (k0_h8 : k0_cond8 v33 = 1#1), ∀ a, (k0_off41 v3 v8 v13 v18 v23 v28 v33 k0_t14) a + S8x16x512.size a ≤ S96x16x512.size a) ∧
  (∀ k0_t14 : Fin (k0_t14_loop v3 v8 v13 v18 v23 v28 v33).trips, ∀ (k0_h8 : k0_cond8 v33 = 1#1), ∀ (hinb : ∀ a, (k0_off41 v3 v8 v13 v18 v23 v28 v33 k0_t14) a + S8x16x512.size a ≤ S96x16x512.size a), (Rect.unit (s := S96x16x512) (k0_off41 v3 v8 v13 v18 v23 v28 v33 k0_t14) S8x16x512.size hinb).PackedRows (EltTy.packing .bf16)) ∧
  (∀ (k0_h8 : k0_cond8 v33 = 1#1), (k0_t15_loop v3 v8 v13 v18 v23 v28 v33).OK) ∧
  (∀ k0_t15 : Fin (k0_t15_loop v3 v8 v13 v18 v23 v28 v33).trips, ∀ (k0_h8 : k0_cond8 v33 = 1#1), ∀ a, (k0_off42 v3 v8 v13 v18 v23 v28 v33 k0_t15) a + S8x16x2048.size a ≤ S96x16x2048.size a) ∧
  (∀ k0_t15 : Fin (k0_t15_loop v3 v8 v13 v18 v23 v28 v33).trips, ∀ (k0_h8 : k0_cond8 v33 = 1#1), ∀ a, (k0_off43 v3 v8 v13 v18 v23 v28 v33 k0_t15) a + S8x16x128.size a ≤ S96x16x128.size a) ∧
  (∀ k0_t15 : Fin (k0_t15_loop v3 v8 v13 v18 v23 v28 v33).trips, ∀ (k0_h8 : k0_cond8 v33 = 1#1), ∀ a, (k0_off44 v3 v8 v13 v18 v23 v28 v33 k0_t15) a + S8x16x512.size a ≤ S96x16x512.size a) ∧
  (∀ k0_t15 : Fin (k0_t15_loop v3 v8 v13 v18 v23 v28 v33).trips, ∀ (k0_h8 : k0_cond8 v33 = 1#1), ∀ (hinb : ∀ a, (k0_off44 v3 v8 v13 v18 v23 v28 v33 k0_t15) a + S8x16x512.size a ≤ S96x16x512.size a), (Rect.unit (s := S96x16x512) (k0_off44 v3 v8 v13 v18 v23 v28 v33 k0_t15) S8x16x512.size hinb).PackedRows (EltTy.packing .bf16))
theorem k0_t14_ok : ∀ (v3 : BitVec 32) (v8 : BitVec 32) (v13 : BitVec 32) (v18 : BitVec 32) (v23 : BitVec 32) (v28 : BitVec 32) (v33 : BitVec 32) (k0_hw7 : k0_chk7 v3 v8 v13 v18 v23 v28 v33), ∀ (k0_h8 : k0_cond8 v33 = 1#1), (k0_t14_loop v3 v8 v13 v18 v23 v28 v33).OK := fun v3 v8 v13 v18 v23 v28 v33 k0_hw7 k0_h8 => k0_hw7.1 k0_h8
theorem k0_off39_inb : ∀ (v3 : BitVec 32) (v8 : BitVec 32) (v13 : BitVec 32) (v18 : BitVec 32) (v23 : BitVec 32) (v28 : BitVec 32) (v33 : BitVec 32) (k0_hw7 : k0_chk7 v3 v8 v13 v18 v23 v28 v33) (k0_t14 : Fin (k0_t14_loop v3 v8 v13 v18 v23 v28 v33).trips), ∀ (k0_h8 : k0_cond8 v33 = 1#1), ∀ a, (k0_off39 v3 v8 v13 v18 v23 v28 v33 k0_t14) a + S8x16x2048.size a ≤ S96x16x2048.size a := fun v3 v8 v13 v18 v23 v28 v33 k0_hw7 k0_t14 k0_h8 => k0_hw7.2.1 k0_t14 k0_h8
theorem k0_off40_inb : ∀ (v3 : BitVec 32) (v8 : BitVec 32) (v13 : BitVec 32) (v18 : BitVec 32) (v23 : BitVec 32) (v28 : BitVec 32) (v33 : BitVec 32) (k0_hw7 : k0_chk7 v3 v8 v13 v18 v23 v28 v33) (k0_t14 : Fin (k0_t14_loop v3 v8 v13 v18 v23 v28 v33).trips), ∀ (k0_h8 : k0_cond8 v33 = 1#1), ∀ a, (k0_off40 v3 v8 v13 v18 v23 v28 v33 k0_t14) a + S8x16x128.size a ≤ S96x16x128.size a := fun v3 v8 v13 v18 v23 v28 v33 k0_hw7 k0_t14 k0_h8 => k0_hw7.2.2.1 k0_t14 k0_h8
theorem k0_off41_inb : ∀ (v3 : BitVec 32) (v8 : BitVec 32) (v13 : BitVec 32) (v18 : BitVec 32) (v23 : BitVec 32) (v28 : BitVec 32) (v33 : BitVec 32) (k0_hw7 : k0_chk7 v3 v8 v13 v18 v23 v28 v33) (k0_t14 : Fin (k0_t14_loop v3 v8 v13 v18 v23 v28 v33).trips), ∀ (k0_h8 : k0_cond8 v33 = 1#1), ∀ a, (k0_off41 v3 v8 v13 v18 v23 v28 v33 k0_t14) a + S8x16x512.size a ≤ S96x16x512.size a := fun v3 v8 v13 v18 v23 v28 v33 k0_hw7 k0_t14 k0_h8 => k0_hw7.2.2.2.1 k0_t14 k0_h8
theorem k0_off41_packedbf16 : ∀ (v3 : BitVec 32) (v8 : BitVec 32) (v13 : BitVec 32) (v18 : BitVec 32) (v23 : BitVec 32) (v28 : BitVec 32) (v33 : BitVec 32) (k0_hw7 : k0_chk7 v3 v8 v13 v18 v23 v28 v33) (k0_t14 : Fin (k0_t14_loop v3 v8 v13 v18 v23 v28 v33).trips), ∀ (k0_h8 : k0_cond8 v33 = 1#1), (Rect.unit (s := S96x16x512) (k0_off41 v3 v8 v13 v18 v23 v28 v33 k0_t14) S8x16x512.size (k0_off41_inb v3 v8 v13 v18 v23 v28 v33 k0_hw7 k0_t14 k0_h8)).PackedRows (EltTy.packing .bf16) := fun v3 v8 v13 v18 v23 v28 v33 k0_hw7 k0_t14 k0_h8 => k0_hw7.2.2.2.2.1 k0_t14 k0_h8 (k0_off41_inb v3 v8 v13 v18 v23 v28 v33 k0_hw7 k0_t14 k0_h8)
theorem k0_t15_ok : ∀ (v3 : BitVec 32) (v8 : BitVec 32) (v13 : BitVec 32) (v18 : BitVec 32) (v23 : BitVec 32) (v28 : BitVec 32) (v33 : BitVec 32) (k0_hw7 : k0_chk7 v3 v8 v13 v18 v23 v28 v33), ∀ (k0_h8 : k0_cond8 v33 = 1#1), (k0_t15_loop v3 v8 v13 v18 v23 v28 v33).OK := fun v3 v8 v13 v18 v23 v28 v33 k0_hw7 k0_h8 => k0_hw7.2.2.2.2.2.1 k0_h8
theorem k0_off42_inb : ∀ (v3 : BitVec 32) (v8 : BitVec 32) (v13 : BitVec 32) (v18 : BitVec 32) (v23 : BitVec 32) (v28 : BitVec 32) (v33 : BitVec 32) (k0_hw7 : k0_chk7 v3 v8 v13 v18 v23 v28 v33) (k0_t15 : Fin (k0_t15_loop v3 v8 v13 v18 v23 v28 v33).trips), ∀ (k0_h8 : k0_cond8 v33 = 1#1), ∀ a, (k0_off42 v3 v8 v13 v18 v23 v28 v33 k0_t15) a + S8x16x2048.size a ≤ S96x16x2048.size a := fun v3 v8 v13 v18 v23 v28 v33 k0_hw7 k0_t15 k0_h8 => k0_hw7.2.2.2.2.2.2.1 k0_t15 k0_h8
theorem k0_off43_inb : ∀ (v3 : BitVec 32) (v8 : BitVec 32) (v13 : BitVec 32) (v18 : BitVec 32) (v23 : BitVec 32) (v28 : BitVec 32) (v33 : BitVec 32) (k0_hw7 : k0_chk7 v3 v8 v13 v18 v23 v28 v33) (k0_t15 : Fin (k0_t15_loop v3 v8 v13 v18 v23 v28 v33).trips), ∀ (k0_h8 : k0_cond8 v33 = 1#1), ∀ a, (k0_off43 v3 v8 v13 v18 v23 v28 v33 k0_t15) a + S8x16x128.size a ≤ S96x16x128.size a := fun v3 v8 v13 v18 v23 v28 v33 k0_hw7 k0_t15 k0_h8 => k0_hw7.2.2.2.2.2.2.2.1 k0_t15 k0_h8
theorem k0_off44_inb : ∀ (v3 : BitVec 32) (v8 : BitVec 32) (v13 : BitVec 32) (v18 : BitVec 32) (v23 : BitVec 32) (v28 : BitVec 32) (v33 : BitVec 32) (k0_hw7 : k0_chk7 v3 v8 v13 v18 v23 v28 v33) (k0_t15 : Fin (k0_t15_loop v3 v8 v13 v18 v23 v28 v33).trips), ∀ (k0_h8 : k0_cond8 v33 = 1#1), ∀ a, (k0_off44 v3 v8 v13 v18 v23 v28 v33 k0_t15) a + S8x16x512.size a ≤ S96x16x512.size a := fun v3 v8 v13 v18 v23 v28 v33 k0_hw7 k0_t15 k0_h8 => k0_hw7.2.2.2.2.2.2.2.2.1 k0_t15 k0_h8
theorem k0_off44_packedbf16 : ∀ (v3 : BitVec 32) (v8 : BitVec 32) (v13 : BitVec 32) (v18 : BitVec 32) (v23 : BitVec 32) (v28 : BitVec 32) (v33 : BitVec 32) (k0_hw7 : k0_chk7 v3 v8 v13 v18 v23 v28 v33) (k0_t15 : Fin (k0_t15_loop v3 v8 v13 v18 v23 v28 v33).trips), ∀ (k0_h8 : k0_cond8 v33 = 1#1), (Rect.unit (s := S96x16x512) (k0_off44 v3 v8 v13 v18 v23 v28 v33 k0_t15) S8x16x512.size (k0_off44_inb v3 v8 v13 v18 v23 v28 v33 k0_hw7 k0_t15 k0_h8)).PackedRows (EltTy.packing .bf16) := fun v3 v8 v13 v18 v23 v28 v33 k0_hw7 k0_t15 k0_h8 => k0_hw7.2.2.2.2.2.2.2.2.2 k0_t15 k0_h8 (k0_off44_inb v3 v8 v13 v18 v23 v28 v33 k0_hw7 k0_t15 k0_h8)

@[reducible] def k0_t16_loop (v3 : BitVec 32) (v8 : BitVec 32) (v13 : BitVec 32) (v18 : BitVec 32) (v23 : BitVec 32) (v28 : BitVec 32) (v33 : BitVec 32) (v38 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let v34 : BitVec 32 := Scalar.addi v29 v33
  let v39 : BitVec 32 := Scalar.addi v34 v38
  let c128_i32 : BitVec 32 := 128#32
  let v356 : BitVec 32 := Scalar.addi v39 c128_i32
  let c1_i32_158 : BitVec 32 := 1#32
  let v357 : BitVec 32 := Scalar.subi v356 c1_i32_158
  let c0_i32_153 : BitVec 32 := 0#32
  let v340 : BitVec 1 := Scalar.cmpi .sgt v34 c0_i32_153
  let v341 : BitVec 32 := Scalar.extui v340
  let c0_i32_154 : BitVec 32 := 0#32
  let v342 : BitVec 1 := Scalar.cmpi .slt v34 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v34 c16_i32
  let c0_i32_157 : BitVec 32 := 0#32
  let v352 : BitVec 1 := Scalar.cmpi .ne v351 c0_i32_157
  let v353 : BitVec 1 := Scalar.andi v350 v352
  let v339 : BitVec 32 := Scalar.divsi v34 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_170 : BitVec 32 := 1#32
  ⟨c0_i32_168, v381, c1_i32_170⟩
def k0_cond9 (v38 : BitVec 32) : BitVec 1 :=
  let c0_i32_17 : BitVec 32 := 0#32
  let v40 : BitVec 1 := Scalar.cmpi .sgt v38 c0_i32_17
  let v41 : BitVec 32 := Scalar.extui v40
  let c0_i32_18 : BitVec 32 := 0#32
  let v42 : BitVec 1 := Scalar.cmpi .ne v41 c0_i32_18
  v42

def k0_off45 (v3 : BitVec 32) (v8 : BitVec 32) (v13 : BitVec 32) (v18 : BitVec 32) (v23 : BitVec 32) (v28 : BitVec 32) (v33 : BitVec 32) (v38 : BitVec 32) (k0_t16 : Fin (k0_t16_loop v3 v8 v13 v18 v23 v28 v33 v38).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let v34 : BitVec 32 := Scalar.addi v29 v33
  let c0_i32_153 : BitVec 32 := 0#32
  let v340 : BitVec 1 := Scalar.cmpi .sgt v34 c0_i32_153
  let v341 : BitVec 32 := Scalar.extui v340
  let c0_i32_154 : BitVec 32 := 0#32
  let v342 : BitVec 1 := Scalar.cmpi .slt v34 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v34 c16_i32
  let c0_i32_157 : BitVec 32 := 0#32
  let v352 : BitVec 1 := Scalar.cmpi .ne v351 c0_i32_157
  let v353 : BitVec 1 := Scalar.andi v350 v352
  let v339 : BitVec 32 := Scalar.divsi v34 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t16
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off46 (v3 : BitVec 32) (v8 : BitVec 32) (v13 : BitVec 32) (v18 : BitVec 32) (v23 : BitVec 32) (v28 : BitVec 32) (v33 : BitVec 32) (v38 : BitVec 32) (k0_t16 : Fin (k0_t16_loop v3 v8 v13 v18 v23 v28 v33 v38).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let v34 : BitVec 32 := Scalar.addi v29 v33
  let c0_i32_153 : BitVec 32 := 0#32
  let v340 : BitVec 1 := Scalar.cmpi .sgt v34 c0_i32_153
  let v341 : BitVec 32 := Scalar.extui v340
  let c0_i32_154 : BitVec 32 := 0#32
  let v342 : BitVec 1 := Scalar.cmpi .slt v34 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v34 c16_i32
  let c0_i32_157 : BitVec 32 := 0#32
  let v352 : BitVec 1 := Scalar.cmpi .ne v351 c0_i32_157
  let v353 : BitVec 1 := Scalar.andi v350 v352
  let v339 : BitVec 32 := Scalar.divsi v34 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t16
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off47 (v3 : BitVec 32) (v8 : BitVec 32) (v13 : BitVec 32) (v18 : BitVec 32) (v23 : BitVec 32) (v28 : BitVec 32) (v33 : BitVec 32) (v38 : BitVec 32) (k0_t16 : Fin (k0_t16_loop v3 v8 v13 v18 v23 v28 v33 v38).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let v34 : BitVec 32 := Scalar.addi v29 v33
  let c0_i32_153 : BitVec 32 := 0#32
  let v340 : BitVec 1 := Scalar.cmpi .sgt v34 c0_i32_153
  let v341 : BitVec 32 := Scalar.extui v340
  let c0_i32_154 : BitVec 32 := 0#32
  let v342 : BitVec 1 := Scalar.cmpi .slt v34 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v34 c16_i32
  let c0_i32_157 : BitVec 32 := 0#32
  let v352 : BitVec 1 := Scalar.cmpi .ne v351 c0_i32_157
  let v353 : BitVec 1 := Scalar.andi v350 v352
  let v339 : BitVec 32 := Scalar.divsi v34 c16_i32
  let c1_i32 : BitVec 32 := 1#32
  let v354 : BitVec 32 := Scalar.subi v339 c1_i32
  let v355 : BitVec 32 := Scalar.select v353 v354 v339
  let c0_i32_168 : BitVec 32 := 0#32
  let c1_i32_170 : BitVec 32 := 1#32
  let arg9 : BitVec 32 := Scf.iv c0_i32_168 c1_i32_170 k0_t16
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]
@[reducible] def k0_t17_loop (v3 : BitVec 32) (v8 : BitVec 32) (v13 : BitVec 32) (v18 : BitVec 32) (v23 : BitVec 32) (v28 : BitVec 32) (v33 : BitVec 32) (v38 : BitVec 32) : Scf.Loop 32 :=
  let c0_i32_168 : BitVec 32 := 0#32
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let v34 : BitVec 32 := Scalar.addi v29 v33
  let v39 : BitVec 32 := Scalar.addi v34 v38
  let c128_i32 : BitVec 32 := 128#32
  let v356 : BitVec 32 := Scalar.addi v39 c128_i32
  let c1_i32_158 : BitVec 32 := 1#32
  let v357 : BitVec 32 := Scalar.subi v356 c1_i32_158
  let c0_i32_153 : BitVec 32 := 0#32
  let v340 : BitVec 1 := Scalar.cmpi .sgt v34 c0_i32_153
  let v341 : BitVec 32 := Scalar.extui v340
  let c0_i32_154 : BitVec 32 := 0#32
  let v342 : BitVec 1 := Scalar.cmpi .slt v34 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v34 c16_i32
  let c0_i32_157 : BitVec 32 := 0#32
  let v352 : BitVec 1 := Scalar.cmpi .ne v351 c0_i32_157
  let v353 : BitVec 1 := Scalar.andi v350 v352
  let v339 : BitVec 32 := Scalar.divsi v34 c16_i32
  let c1_i32 : BitVec 32 := 1#32
  let v354 : BitVec 32 := Scalar.subi v339 c1_i32
  let v355 : BitVec 32 := Scalar.select v353 v354 v339
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let v378 : BitVec 32 := Scalar.addi c0_i32_168 v377
  let c1_i32_171 : BitVec 32 := 1#32
  ⟨v381, v378, c1_i32_171⟩
def k0_off48 (v3 : BitVec 32) (v8 : BitVec 32) (v13 : BitVec 32) (v18 : BitVec 32) (v23 : BitVec 32) (v28 : BitVec 32) (v33 : BitVec 32) (v38 : BitVec 32) (k0_t17 : Fin (k0_t17_loop v3 v8 v13 v18 v23 v28 v33 v38).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let v34 : BitVec 32 := Scalar.addi v29 v33
  let c0_i32_153 : BitVec 32 := 0#32
  let v340 : BitVec 1 := Scalar.cmpi .sgt v34 c0_i32_153
  let v341 : BitVec 32 := Scalar.extui v340
  let c0_i32_154 : BitVec 32 := 0#32
  let v342 : BitVec 1 := Scalar.cmpi .slt v34 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v34 c16_i32
  let c0_i32_157 : BitVec 32 := 0#32
  let v352 : BitVec 1 := Scalar.cmpi .ne v351 c0_i32_157
  let v353 : BitVec 1 := Scalar.andi v350 v352
  let v339 : BitVec 32 := Scalar.divsi v34 c16_i32
  let c1_i32 : BitVec 32 := 1#32
  let v354 : BitVec 32 := Scalar.subi v339 c1_i32
  let v355 : BitVec 32 := Scalar.select v353 v354 v339
  let c0_i32_168 : BitVec 32 := 0#32
  let v39 : BitVec 32 := Scalar.addi v34 v38
  let c128_i32 : BitVec 32 := 128#32
  let v356 : BitVec 32 := Scalar.addi v39 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t17
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v385 : Index := Scalar.indexCast v384
  let c0_173 : Index := 0#32
  let c0_174 : Index := 0#32
  ![v385.toNat, 0, 0]
def k0_off49 (v3 : BitVec 32) (v8 : BitVec 32) (v13 : BitVec 32) (v18 : BitVec 32) (v23 : BitVec 32) (v28 : BitVec 32) (v33 : BitVec 32) (v38 : BitVec 32) (k0_t17 : Fin (k0_t17_loop v3 v8 v13 v18 v23 v28 v33 v38).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let v34 : BitVec 32 := Scalar.addi v29 v33
  let c0_i32_153 : BitVec 32 := 0#32
  let v340 : BitVec 1 := Scalar.cmpi .sgt v34 c0_i32_153
  let v341 : BitVec 32 := Scalar.extui v340
  let c0_i32_154 : BitVec 32 := 0#32
  let v342 : BitVec 1 := Scalar.cmpi .slt v34 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v34 c16_i32
  let c0_i32_157 : BitVec 32 := 0#32
  let v352 : BitVec 1 := Scalar.cmpi .ne v351 c0_i32_157
  let v353 : BitVec 1 := Scalar.andi v350 v352
  let v339 : BitVec 32 := Scalar.divsi v34 c16_i32
  let c1_i32 : BitVec 32 := 1#32
  let v354 : BitVec 32 := Scalar.subi v339 c1_i32
  let v355 : BitVec 32 := Scalar.select v353 v354 v339
  let c0_i32_168 : BitVec 32 := 0#32
  let v39 : BitVec 32 := Scalar.addi v34 v38
  let c128_i32 : BitVec 32 := 128#32
  let v356 : BitVec 32 := Scalar.addi v39 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t17
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v391 : Index := Scalar.indexCast v384
  let c0_177 : Index := 0#32
  let c0_178 : Index := 0#32
  ![v391.toNat, 0, 0]
def k0_off50 (v3 : BitVec 32) (v8 : BitVec 32) (v13 : BitVec 32) (v18 : BitVec 32) (v23 : BitVec 32) (v28 : BitVec 32) (v33 : BitVec 32) (v38 : BitVec 32) (k0_t17 : Fin (k0_t17_loop v3 v8 v13 v18 v23 v28 v33 v38).trips) : Fin 3 → Nat :=
  let c0_i32_1 : BitVec 32 := 0#32
  let v4 : BitVec 32 := Scalar.addi c0_i32_1 v3
  let v9 : BitVec 32 := Scalar.addi v4 v8
  let v14 : BitVec 32 := Scalar.addi v9 v13
  let v19 : BitVec 32 := Scalar.addi v14 v18
  let v24 : BitVec 32 := Scalar.addi v19 v23
  let v29 : BitVec 32 := Scalar.addi v24 v28
  let v34 : BitVec 32 := Scalar.addi v29 v33
  let c0_i32_153 : BitVec 32 := 0#32
  let v340 : BitVec 1 := Scalar.cmpi .sgt v34 c0_i32_153
  let v341 : BitVec 32 := Scalar.extui v340
  let c0_i32_154 : BitVec 32 := 0#32
  let v342 : BitVec 1 := Scalar.cmpi .slt v34 c0_i32_154
  let v343 : BitVec 32 := Scalar.extui v342
  let v344 : BitVec 32 := Scalar.subi v341 v343
  let c16_i32 : BitVec 32 := 16#32
  let c0_i32_155 : BitVec 32 := 0#32
  let v345 : BitVec 1 := Scalar.cmpi .sgt c16_i32 c0_i32_155
  let v346 : BitVec 32 := Scalar.extui v345
  let c0_i32_156 : BitVec 32 := 0#32
  let v347 : BitVec 1 := Scalar.cmpi .slt c16_i32 c0_i32_156
  let v348 : BitVec 32 := Scalar.extui v347
  let v349 : BitVec 32 := Scalar.subi v346 v348
  let v350 : BitVec 1 := Scalar.cmpi .ne v344 v349
  let v351 : BitVec 32 := Scalar.remsi v34 c16_i32
  let c0_i32_157 : BitVec 32 := 0#32
  let v352 : BitVec 1 := Scalar.cmpi .ne v351 c0_i32_157
  let v353 : BitVec 1 := Scalar.andi v350 v352
  let v339 : BitVec 32 := Scalar.divsi v34 c16_i32
  let c1_i32 : BitVec 32 := 1#32
  let v354 : BitVec 32 := Scalar.subi v339 c1_i32
  let v355 : BitVec 32 := Scalar.select v353 v354 v339
  let c0_i32_168 : BitVec 32 := 0#32
  let v39 : BitVec 32 := Scalar.addi v34 v38
  let c128_i32 : BitVec 32 := 128#32
  let v356 : BitVec 32 := Scalar.addi v39 c128_i32
  let c1_i32_158 : BitVec 32 := 1#32
  let v357 : BitVec 32 := Scalar.subi v356 c1_i32_158
  let c16_i32_159 : BitVec 32 := 16#32
  let v358 : BitVec 32 := Scalar.muli v355 c16_i32_159
  let v359 : BitVec 32 := Scalar.subi v357 v358
  let c0_i32_161 : BitVec 32 := 0#32
  let v361 : BitVec 1 := Scalar.cmpi .sgt v359 c0_i32_161
  let v362 : BitVec 32 := Scalar.extui v361
  let c0_i32_162 : BitVec 32 := 0#32
  let v363 : BitVec 1 := Scalar.cmpi .slt v359 c0_i32_162
  let v364 : BitVec 32 := Scalar.extui v363
  let v365 : BitVec 32 := Scalar.subi v362 v364
  let c128_i32_160 : BitVec 32 := 128#32
  let c0_i32_163 : BitVec 32 := 0#32
  let v366 : BitVec 1 := Scalar.cmpi .sgt c128_i32_160 c0_i32_163
  let v367 : BitVec 32 := Scalar.extui v366
  let c0_i32_164 : BitVec 32 := 0#32
  let v368 : BitVec 1 := Scalar.cmpi .slt c128_i32_160 c0_i32_164
  let v369 : BitVec 32 := Scalar.extui v368
  let v370 : BitVec 32 := Scalar.subi v367 v369
  let v371 : BitVec 1 := Scalar.cmpi .ne v365 v370
  let v372 : BitVec 32 := Scalar.remsi v359 c128_i32_160
  let c0_i32_165 : BitVec 32 := 0#32
  let v373 : BitVec 1 := Scalar.cmpi .ne v372 c0_i32_165
  let v374 : BitVec 1 := Scalar.andi v371 v373
  let v360 : BitVec 32 := Scalar.divsi v359 c128_i32_160
  let c1_i32_166 : BitVec 32 := 1#32
  let v375 : BitVec 32 := Scalar.subi v360 c1_i32_166
  let v376 : BitVec 32 := Scalar.select v374 v375 v360
  let v377 : BitVec 32 := Scalar.subi v376 c0_i32_168
  let c1_i32_169 : BitVec 32 := 1#32
  let v379 : BitVec 32 := Scalar.divsi v377 c1_i32_169
  let v380 : BitVec 32 := Scalar.muli v379 c1_i32_169
  let v381 : BitVec 32 := Scalar.addi c0_i32_168 v380
  let c1_i32_171 : BitVec 32 := 1#32
  let arg9 : BitVec 32 := Scf.iv v381 c1_i32_171 k0_t17
  let c8_i32_172 : BitVec 32 := 8#32
  let v382 : BitVec 32 := Scalar.muli arg9 c8_i32_172
  let v383 : BitVec 32 := Scalar.addi v355 v382
  let c88_i32 : BitVec 32 := 88#32
  let v384 : BitVec 32 := Scalar.minsi v383 c88_i32
  let v408 : Index := Scalar.indexCast v384
  let c0_181 : Index := 0#32
  let c0_182 : Index := 0#32
  ![v408.toNat, 0, 0]

def k0_chk8 (v3 : BitVec 32) (v8 : BitVec 32) (v13 : BitVec 32) (v18 : BitVec 32) (v23 : BitVec 32) (v28 : BitVec 32) (v33 : BitVec 32) (v38 : BitVec 32) : Prop :=
  (∀ (k0_h9 : k0_cond9 v38 = 1#1), (k0_t16_loop v3 v8 v13 v18 v23 v28 v33 v38).OK) ∧
  (∀ k0_t16 : Fin (k0_t16_loop v3 v8 v13 v18 v23 v28 v33 v38).trips, ∀ (k0_h9 : k0_cond9 v38 = 1#1), ∀ a, (k0_off45 v3 v8 v13 v18 v23 v28 v33 v38 k0_t16) a + S8x16x2048.size a ≤ S96x16x2048.size a) ∧
  (∀ k0_t16 : Fin (k0_t16_loop v3 v8 v13 v18 v23 v28 v33 v38).trips, ∀ (k0_h9 : k0_cond9 v38 = 1#1), ∀ a, (k0_off46 v3 v8 v13 v18 v23 v28 v33 v38 k0_t16) a + S8x16x128.size a ≤ S96x16x128.size a) ∧
  (∀ k0_t16 : Fin (k0_t16_loop v3 v8 v13 v18 v23 v28 v33 v38).trips, ∀ (k0_h9 : k0_cond9 v38 = 1#1), ∀ a, (k0_off47 v3 v8 v13 v18 v23 v28 v33 v38 k0_t16) a + S8x16x512.size a ≤ S96x16x512.size a) ∧
  (∀ k0_t16 : Fin (k0_t16_loop v3 v8 v13 v18 v23 v28 v33 v38).trips, ∀ (k0_h9 : k0_cond9 v38 = 1#1), ∀ (hinb : ∀ a, (k0_off47 v3 v8 v13 v18 v23 v28 v33 v38 k0_t16) a + S8x16x512.size a ≤ S96x16x512.size a), (Rect.unit (s := S96x16x512) (k0_off47 v3 v8 v13 v18 v23 v28 v33 v38 k0_t16) S8x16x512.size hinb).PackedRows (EltTy.packing .bf16)) ∧
  (∀ (k0_h9 : k0_cond9 v38 = 1#1), (k0_t17_loop v3 v8 v13 v18 v23 v28 v33 v38).OK) ∧
  (∀ k0_t17 : Fin (k0_t17_loop v3 v8 v13 v18 v23 v28 v33 v38).trips, ∀ (k0_h9 : k0_cond9 v38 = 1#1), ∀ a, (k0_off48 v3 v8 v13 v18 v23 v28 v33 v38 k0_t17) a + S8x16x2048.size a ≤ S96x16x2048.size a) ∧
  (∀ k0_t17 : Fin (k0_t17_loop v3 v8 v13 v18 v23 v28 v33 v38).trips, ∀ (k0_h9 : k0_cond9 v38 = 1#1), ∀ a, (k0_off49 v3 v8 v13 v18 v23 v28 v33 v38 k0_t17) a + S8x16x128.size a ≤ S96x16x128.size a) ∧
  (∀ k0_t17 : Fin (k0_t17_loop v3 v8 v13 v18 v23 v28 v33 v38).trips, ∀ (k0_h9 : k0_cond9 v38 = 1#1), ∀ a, (k0_off50 v3 v8 v13 v18 v23 v28 v33 v38 k0_t17) a + S8x16x512.size a ≤ S96x16x512.size a) ∧
  (∀ k0_t17 : Fin (k0_t17_loop v3 v8 v13 v18 v23 v28 v33 v38).trips, ∀ (k0_h9 : k0_cond9 v38 = 1#1), ∀ (hinb : ∀ a, (k0_off50 v3 v8 v13 v18 v23 v28 v33 v38 k0_t17) a + S8x16x512.size a ≤ S96x16x512.size a), (Rect.unit (s := S96x16x512) (k0_off50 v3 v8 v13 v18 v23 v28 v33 v38 k0_t17) S8x16x512.size hinb).PackedRows (EltTy.packing .bf16))
theorem k0_t16_ok : ∀ (v3 : BitVec 32) (v8 : BitVec 32) (v13 : BitVec 32) (v18 : BitVec 32) (v23 : BitVec 32) (v28 : BitVec 32) (v33 : BitVec 32) (v38 : BitVec 32) (k0_hw8 : k0_chk8 v3 v8 v13 v18 v23 v28 v33 v38), ∀ (k0_h9 : k0_cond9 v38 = 1#1), (k0_t16_loop v3 v8 v13 v18 v23 v28 v33 v38).OK := fun v3 v8 v13 v18 v23 v28 v33 v38 k0_hw8 k0_h9 => k0_hw8.1 k0_h9
theorem k0_off45_inb : ∀ (v3 : BitVec 32) (v8 : BitVec 32) (v13 : BitVec 32) (v18 : BitVec 32) (v23 : BitVec 32) (v28 : BitVec 32) (v33 : BitVec 32) (v38 : BitVec 32) (k0_hw8 : k0_chk8 v3 v8 v13 v18 v23 v28 v33 v38) (k0_t16 : Fin (k0_t16_loop v3 v8 v13 v18 v23 v28 v33 v38).trips), ∀ (k0_h9 : k0_cond9 v38 = 1#1), ∀ a, (k0_off45 v3 v8 v13 v18 v23 v28 v33 v38 k0_t16) a + S8x16x2048.size a ≤ S96x16x2048.size a := fun v3 v8 v13 v18 v23 v28 v33 v38 k0_hw8 k0_t16 k0_h9 => k0_hw8.2.1 k0_t16 k0_h9
theorem k0_off46_inb : ∀ (v3 : BitVec 32) (v8 : BitVec 32) (v13 : BitVec 32) (v18 : BitVec 32) (v23 : BitVec 32) (v28 : BitVec 32) (v33 : BitVec 32) (v38 : BitVec 32) (k0_hw8 : k0_chk8 v3 v8 v13 v18 v23 v28 v33 v38) (k0_t16 : Fin (k0_t16_loop v3 v8 v13 v18 v23 v28 v33 v38).trips), ∀ (k0_h9 : k0_cond9 v38 = 1#1), ∀ a, (k0_off46 v3 v8 v13 v18 v23 v28 v33 v38 k0_t16) a + S8x16x128.size a ≤ S96x16x128.size a := fun v3 v8 v13 v18 v23 v28 v33 v38 k0_hw8 k0_t16 k0_h9 => k0_hw8.2.2.1 k0_t16 k0_h9
theorem k0_off47_inb : ∀ (v3 : BitVec 32) (v8 : BitVec 32) (v13 : BitVec 32) (v18 : BitVec 32) (v23 : BitVec 32) (v28 : BitVec 32) (v33 : BitVec 32) (v38 : BitVec 32) (k0_hw8 : k0_chk8 v3 v8 v13 v18 v23 v28 v33 v38) (k0_t16 : Fin (k0_t16_loop v3 v8 v13 v18 v23 v28 v33 v38).trips), ∀ (k0_h9 : k0_cond9 v38 = 1#1), ∀ a, (k0_off47 v3 v8 v13 v18 v23 v28 v33 v38 k0_t16) a + S8x16x512.size a ≤ S96x16x512.size a := fun v3 v8 v13 v18 v23 v28 v33 v38 k0_hw8 k0_t16 k0_h9 => k0_hw8.2.2.2.1 k0_t16 k0_h9
theorem k0_off47_packedbf16 : ∀ (v3 : BitVec 32) (v8 : BitVec 32) (v13 : BitVec 32) (v18 : BitVec 32) (v23 : BitVec 32) (v28 : BitVec 32) (v33 : BitVec 32) (v38 : BitVec 32) (k0_hw8 : k0_chk8 v3 v8 v13 v18 v23 v28 v33 v38) (k0_t16 : Fin (k0_t16_loop v3 v8 v13 v18 v23 v28 v33 v38).trips), ∀ (k0_h9 : k0_cond9 v38 = 1#1), (Rect.unit (s := S96x16x512) (k0_off47 v3 v8 v13 v18 v23 v28 v33 v38 k0_t16) S8x16x512.size (k0_off47_inb v3 v8 v13 v18 v23 v28 v33 v38 k0_hw8 k0_t16 k0_h9)).PackedRows (EltTy.packing .bf16) := fun v3 v8 v13 v18 v23 v28 v33 v38 k0_hw8 k0_t16 k0_h9 => k0_hw8.2.2.2.2.1 k0_t16 k0_h9 (k0_off47_inb v3 v8 v13 v18 v23 v28 v33 v38 k0_hw8 k0_t16 k0_h9)
theorem k0_t17_ok : ∀ (v3 : BitVec 32) (v8 : BitVec 32) (v13 : BitVec 32) (v18 : BitVec 32) (v23 : BitVec 32) (v28 : BitVec 32) (v33 : BitVec 32) (v38 : BitVec 32) (k0_hw8 : k0_chk8 v3 v8 v13 v18 v23 v28 v33 v38), ∀ (k0_h9 : k0_cond9 v38 = 1#1), (k0_t17_loop v3 v8 v13 v18 v23 v28 v33 v38).OK := fun v3 v8 v13 v18 v23 v28 v33 v38 k0_hw8 k0_h9 => k0_hw8.2.2.2.2.2.1 k0_h9
theorem k0_off48_inb : ∀ (v3 : BitVec 32) (v8 : BitVec 32) (v13 : BitVec 32) (v18 : BitVec 32) (v23 : BitVec 32) (v28 : BitVec 32) (v33 : BitVec 32) (v38 : BitVec 32) (k0_hw8 : k0_chk8 v3 v8 v13 v18 v23 v28 v33 v38) (k0_t17 : Fin (k0_t17_loop v3 v8 v13 v18 v23 v28 v33 v38).trips), ∀ (k0_h9 : k0_cond9 v38 = 1#1), ∀ a, (k0_off48 v3 v8 v13 v18 v23 v28 v33 v38 k0_t17) a + S8x16x2048.size a ≤ S96x16x2048.size a := fun v3 v8 v13 v18 v23 v28 v33 v38 k0_hw8 k0_t17 k0_h9 => k0_hw8.2.2.2.2.2.2.1 k0_t17 k0_h9
theorem k0_off49_inb : ∀ (v3 : BitVec 32) (v8 : BitVec 32) (v13 : BitVec 32) (v18 : BitVec 32) (v23 : BitVec 32) (v28 : BitVec 32) (v33 : BitVec 32) (v38 : BitVec 32) (k0_hw8 : k0_chk8 v3 v8 v13 v18 v23 v28 v33 v38) (k0_t17 : Fin (k0_t17_loop v3 v8 v13 v18 v23 v28 v33 v38).trips), ∀ (k0_h9 : k0_cond9 v38 = 1#1), ∀ a, (k0_off49 v3 v8 v13 v18 v23 v28 v33 v38 k0_t17) a + S8x16x128.size a ≤ S96x16x128.size a := fun v3 v8 v13 v18 v23 v28 v33 v38 k0_hw8 k0_t17 k0_h9 => k0_hw8.2.2.2.2.2.2.2.1 k0_t17 k0_h9
theorem k0_off50_inb : ∀ (v3 : BitVec 32) (v8 : BitVec 32) (v13 : BitVec 32) (v18 : BitVec 32) (v23 : BitVec 32) (v28 : BitVec 32) (v33 : BitVec 32) (v38 : BitVec 32) (k0_hw8 : k0_chk8 v3 v8 v13 v18 v23 v28 v33 v38) (k0_t17 : Fin (k0_t17_loop v3 v8 v13 v18 v23 v28 v33 v38).trips), ∀ (k0_h9 : k0_cond9 v38 = 1#1), ∀ a, (k0_off50 v3 v8 v13 v18 v23 v28 v33 v38 k0_t17) a + S8x16x512.size a ≤ S96x16x512.size a := fun v3 v8 v13 v18 v23 v28 v33 v38 k0_hw8 k0_t17 k0_h9 => k0_hw8.2.2.2.2.2.2.2.2.1 k0_t17 k0_h9
theorem k0_off50_packedbf16 : ∀ (v3 : BitVec 32) (v8 : BitVec 32) (v13 : BitVec 32) (v18 : BitVec 32) (v23 : BitVec 32) (v28 : BitVec 32) (v33 : BitVec 32) (v38 : BitVec 32) (k0_hw8 : k0_chk8 v3 v8 v13 v18 v23 v28 v33 v38) (k0_t17 : Fin (k0_t17_loop v3 v8 v13 v18 v23 v28 v33 v38).trips), ∀ (k0_h9 : k0_cond9 v38 = 1#1), (Rect.unit (s := S96x16x512) (k0_off50 v3 v8 v13 v18 v23 v28 v33 v38 k0_t17) S8x16x512.size (k0_off50_inb v3 v8 v13 v18 v23 v28 v33 v38 k0_hw8 k0_t17 k0_h9)).PackedRows (EltTy.packing .bf16) := fun v3 v8 v13 v18 v23 v28 v33 v38 k0_hw8 k0_t17 k0_h9 => k0_hw8.2.2.2.2.2.2.2.2.2 k0_t17 k0_h9 (k0_off50_inb v3 v8 v13 v18 v23 v28 v33 v38 k0_hw8 k0_t17 k0_h9)

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S96x16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1536x2048 : Shape := ⟨2, ![1536, 2048]⟩
abbrev S8 : Shape := ⟨1, ![8]⟩
abbrev S8x1024x7168 : Shape := ⟨3, ![8, 1024, 7168]⟩
abbrev S8x16x7168 : Shape := ⟨3, ![8, 16, 7168]⟩
abbrev S1536x7168 : Shape := ⟨2, ![1536, 7168]⟩
abbrev S1536 : Shape := ⟨1, ![1536]⟩
abbrev S1536x1 : Shape := ⟨2, ![1536, 1]⟩
abbrev S1 : Shape := ⟨1, ![1]⟩
abbrev S1x1024x7168 : Shape := ⟨3, ![1, 1024, 7168]⟩
abbrev S1024x7168 : Shape := ⟨2, ![1024, 7168]⟩
abbrev S1x16x7168 : Shape := ⟨3, ![1, 16, 7168]⟩
abbrev S16x7168 : Shape := ⟨2, ![16, 7168]⟩
abbrev S8x7168 : Shape := ⟨2, ![8, 7168]⟩
abbrev S8x128x7168 : Shape := ⟨3, ![8, 128, 7168]⟩
abbrev S8x1x7168 : Shape := ⟨3, ![8, 1, 7168]⟩
abbrev S1536x1024 : Shape := ⟨2, ![1536, 1024]⟩

abbrev nBuf : Space → Nat
  | .hbm => 5
  | .vmem => 4
  | .smem => 1
  | _ => 0

abbrev bufTy : (tb : Table) → Fin (tcTables nBuf tb) → BufTy
  | .hbm, ⟨0, _⟩ => ⟨S1536x2048, .bf16⟩
  | .hbm, ⟨1, _⟩ => ⟨S8, .i32⟩
  | .hbm, ⟨2, _⟩ => ⟨S8x1024x7168, .i8⟩
  | .hbm, ⟨3, _⟩ => ⟨S8x16x7168, .f32⟩
  | .hbm, ⟨4, _⟩ => ⟨S1536x7168, .bf16⟩
  | .local _ .vmem, ⟨0, _⟩ => ⟨S1536x2048, .bf16⟩
  | .local _ .vmem, ⟨1, _⟩ => ⟨S8x1024x7168, .i8⟩
  | .local _ .vmem, ⟨2, _⟩ => ⟨S8x16x7168, .f32⟩
  | .local _ .vmem, ⟨3, _⟩ => ⟨S1536x7168, .bf16⟩
  | .local _ .smem, ⟨0, _⟩ => ⟨S8, .i32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x16x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Mem.lean ====
/- Loads and stores through a memref that is owned at named contents: a load returns the window of the contents, a store
   patches the contents. -/
module

public import Idealize.ShloMosaic.Lib.Tactic
public import Idealize.ShloMosaic.Lib.Memref
public import Idealize.ShloMosaic.Lib.WritesUnit
public import Idealize.ShloMosaic.Lib.LoopRemainder

@[expose] public section

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The contents `X` overwritten by `w` on the rectangle of size `size` at `off`. -/
def patch {s : Shape} {α : Type} (off size : Fin s.rank → ℕ) (w : ((a : Fin s.rank) → Fin (size a)) → α) (X : s.Idx → α) :
    s.Idx → α :=
  fun y => if h : ∀ a, off a ≤ (y a).val ∧ (y a).val < off a + size a then
    w (Rect.unitLocal (s := s) (off := off) (size := size) y h) else X y

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {s : Shape} {e : EltTy} {α : Type}

theorem load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} {Q : α → sProp 𝕄} :
    (owns c m q X : sProp 𝕄)
      ⊢ iprop((owns c m q X -∗ wp frame (wpE defs 𝒱 c bd) E (k (fun j => X (r.emb j))) Q)
        -∗ wp frame (wpE defs 𝒱 c bd) E (.op (.load m r.toLoadRect hl) k) Q) := by
  unfold owns
  iintro ⟨%f, %hf, H⟩ HK
  subst hf
  iapply (wp_load_rect (defs := defs) 𝒱 c bd E (m := m) (r := r) (k := k) (q := q) (f := f)
    (S := m.view.set) (View.set_slice_subset _ _)) $$ H
  iintro H
  iapply HK
  iexists f
  isplitr; · ipureintro; rfl
  iexact H

theorem store_owns {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ c.2) α} {X : s.Idx → Val e} {Q : α → sProp 𝕄} :
    (owns c m fullShare X : sProp 𝕄)
      ⊢ iprop((owns c m fullShare (patch off size w X) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ HK
  subst hf
  iapply (wp_store (defs := defs) 𝒱 c bd E (m := m) (r := Rect.unit off size inb) (w := w) (k := k) (f := f)
    (S := m.view.set) (View.set_slice_subset _ _)) $$ H
  iintro H
  iapply HK
  iexists (m.view.writes Val f [⟨Rect.unit off size inb, w⟩])
  isplitr
  · ipureintro
    funext y
    rw [View.read_writes_cons_unit m.view f inb w [] y rfl]
    rfl
  iexact H

theorem smem_owns {m : Memref sig c.2.kind .smem s e} {r : Rect s} {hw : (m.access r).Loads} {x : r.shape.Idx}
    {k : Val e → Prog (TpuEff nD τ sig Val Λ c.2) α} {q : PosShare TreeShare} {X : s.Idx → Val e} {Q : α → sProp 𝕄} :
    (owns c m q X : sProp 𝕄)
      ⊢ iprop((owns c m q X -∗ wp frame (wpE defs 𝒱 c bd) E (k (X (r.emb x))) Q)
        -∗ wp frame (wpE defs 𝒱 c bd) E (smemLoadElt m r hw x k) Q) := by
  unfold owns
  iintro ⟨%f, %hf, H⟩ HK
  subst hf
  iapply (wp_smemLoadElt (defs := defs) 𝒱 c bd E (m := m) (r := r) (x := x) (k := k) (q := q) (f := f)
    (S := m.view.set) (View.set_slice_subset _ _)) $$ H
  iintro H
  iapply HK
  iexists f
  isplitr; · ipureintro; rfl
  iexact H

end Cert.Hand

end
-- ==== Proof.Shape.lean ====
/- One expert's block of the kernel, written once over its number and its first and last row: the words it computes, its
   weights' dequantisation, the chunk of 128 rows, and the eight printed blocks as its instances. -/
module

public import proofs.«01_k».proof.Proof.Gen.KernelIdeal.Skeleton
public import proofs.«01_k».proof.Proof.Mem

@[expose] public section

noncomputable section

namespace Cert.KernelIdeal.Hand

open Cert.KernelIdeal Cert.KernelIdeal.Gen
open Idealize.ShloMosaic Idealize.SL.Sem

variable {F : FTy → Type} [FloatOps F]

/-! ## The words -/

/-- Floor division, as the kernel computes it. -/
def fdiv (a k : BitVec 32) : BitVec 32 :=
  Scalar.select
    (Scalar.andi
      (Scalar.cmpi .ne
        (Scalar.subi (Scalar.extui (Scalar.cmpi .sgt a 0#32)) (Scalar.extui (Scalar.cmpi .slt a 0#32)) : BitVec 32)
        (Scalar.subi (Scalar.extui (Scalar.cmpi .sgt k 0#32)) (Scalar.extui (Scalar.cmpi .slt k 0#32)) : BitVec 32))
      (Scalar.cmpi .ne (Scalar.remsi a k) 0#32))
    (Scalar.subi (Scalar.divsi a k) 1#32) (Scalar.divsi a k)

/-- The tile of the first row. -/
def tile0 (st : BitVec 32) : BitVec 32 := fdiv st 16#32

/-- The number of chunks. -/
def nChunk (st en : BitVec 32) : BitVec 32 :=
  Scalar.subi (fdiv (Scalar.subi (Scalar.subi (Scalar.addi en 128#32) 1#32) (Scalar.muli (tile0 st) 16#32)) 128#32) 0#32

/-- The loop over the chunks. -/
@[reducible] def mainLoop (st en : BitVec 32) : Scf.Loop 32 :=
  ⟨0#32, Scalar.addi 0#32 (Scalar.muli (Scalar.divsi (nChunk st en) 1#32) 1#32), 1#32⟩

/-- The loop of no trips behind it. -/
@[reducible] def remLoop (st en : BitVec 32) : Scf.Loop 32 :=
  ⟨Scalar.addi 0#32 (Scalar.muli (Scalar.divsi (nChunk st en) 1#32) 1#32), Scalar.addi 0#32 (nChunk st en), 1#32⟩

/-- The first tile of the chunk at induction variable `w`. -/
def ttW (st w : BitVec 32) : BitVec 32 :=
  Scalar.minsi (Scalar.addi (tile0 st) (Scalar.muli w 8#32)) 88#32

/-- The offsets of the chunk's slabs. -/
def offW (st w : BitVec 32) : Fin 3 → ℕ := ![(Scalar.indexCast (ttW st w) : Index).toNat, 0, 0]

/-- The induction variable of the main loop's trip, -/
def ivM (st en : BitVec 32) (k : Fin (mainLoop st en).trips) : BitVec 32 := Scf.iv 0#32 1#32 k

/-- and of the second loop's. -/
def ivR (st en : BitVec 32) (k : Fin (remLoop st en).trips) : BitVec 32 :=
  Scf.iv (Scalar.addi 0#32 (Scalar.muli (Scalar.divsi (nChunk st en) 1#32) 1#32)) 1#32 k

/-- What the kernel assumes of one expert's words. -/
def Chk (st en sz : BitVec 32) : Prop :=
  (∀ (h : k0_cond2 sz = 1#1), (mainLoop st en).OK) ∧
  (∀ k : Fin (mainLoop st en).trips, ∀ (h : k0_cond2 sz = 1#1), ∀ a, (offW st (ivM st en k)) a + S8x16x2048.size a ≤ S96x16x2048.size a) ∧
  (∀ k : Fin (mainLoop st en).trips, ∀ (h : k0_cond2 sz = 1#1), ∀ a, (offW st (ivM st en k)) a + S8x16x128.size a ≤ S96x16x128.size a) ∧
  (∀ k : Fin (mainLoop st en).trips, ∀ (h : k0_cond2 sz = 1#1), ∀ a, (offW st (ivM st en k)) a + S8x16x512.size a ≤ S96x16x512.size a) ∧
  (∀ k : Fin (mainLoop st en).trips, ∀ (h : k0_cond2 sz = 1#1), ∀ (hinb : ∀ a, (offW st (ivM st en k)) a + S8x16x512.size a ≤ S96x16x512.size a), (Rect.unit (s := S96x16x512) (offW st (ivM st en k)) S8x16x512.size hinb).PackedRows (EltTy.packing .bf16)) ∧
  (∀ (h : k0_cond2 sz = 1#1), (remLoop st en).OK) ∧
  (∀ k : Fin (remLoop st en).trips, ∀ (h : k0_cond2 sz = 1#1), ∀ a, (offW st (ivR st en k)) a + S8x16x2048.size a ≤ S96x16x2048.size a) ∧
  (∀ k : Fin (remLoop st en).trips, ∀ (h : k0_cond2 sz = 1#1), ∀ a, (offW st (ivR st en k)) a + S8x16x128.size a ≤ S96x16x128.size a) ∧
  (∀ k : Fin (remLoop st en).trips, ∀ (h : k0_cond2 sz = 1#1), ∀ a, (offW st (ivR st en k)) a + S8x16x512.size a ≤ S96x16x512.size a) ∧
  (∀ k : Fin (remLoop st en).trips, ∀ (h : k0_cond2 sz = 1#1), ∀ (hinb : ∀ a, (offW st (ivR st en k)) a + S8x16x512.size a ≤ S96x16x512.size a), (Rect.unit (s := S96x16x512) (offW st (ivR st en k)) S8x16x512.size hinb).PackedRows (EltTy.packing .bf16))

/-! ## The chunk -/

/-- What a chunk stores: in the rows from `st` to `en` the product times the rows' scales, elsewhere what was there. -/
def chunkPay (st en tt : BitVec 32) (v386 : Vec F S8x16x2048 .bf16) (v388 : Vec F S2048x512 .bf16) (v392 : Vec F S8x16x128 .f32) (v409 : Vec F S8x16x512 .bf16) : FVec F S8x16x512 .bf16 :=
  have v387 : FVec F S128x2048 .bf16 := shapeCast S128x2048 v386 shapeCasts_S8x16x2048_S128x2048
  have cst : FVec F S128x512 .f32 := constant S128x512 .f32 0x00000000#32
  have v389 : FVec F S128x512 .f32 := matmul dot_S128x2048_S2048x512_S128x512_1_0_0_1_n_n none v387 v388 cst
  have v390 : FVec F S8x16x512 .f32 := shapeCast S8x16x512 v389 shapeCasts_S128x512_S8x16x512
  have v393 : FVec F S8x16x512 .f32 := concatenate S8x16x512 2 [⟨S8x16x128, v392⟩, ⟨S8x16x128, v392⟩, ⟨S8x16x128, v392⟩, ⟨S8x16x128, v392⟩] concatenates_S8x16x128_S8x16x128_S8x16x128_S8x16x128_S8x16x512_d2
  have v394 : FVec F S8x16x512 .f32 := mulf v390 v393
  let v395 : BitVec 32 := Scalar.muli tt 16#32
  have v396 : IVec S8x16x512 32 := iota .tc S8x16x512 32 [0] iota_S8x16x512_d0_w32
  have v397 : IVec S8x16x512 32 := broadcast S8x16x512 16#32
  have v398 : IVec S8x16x512 32 := muli v396 v397
  have v399 : IVec S8x16x512 32 := broadcast S8x16x512 v395
  have v400 : IVec S8x16x512 32 := addi v399 v398
  have v401 : IVec S8x16x512 32 := iota .tc S8x16x512 32 [1] iota_S8x16x512_d1_w32
  have v402 : IVec S8x16x512 32 := addi v400 v401
  have v403 : IVec S8x16x512 32 := broadcast S8x16x512 st
  have v404 : IVec S8x16x512 1 := cmpi .sge v402 v403
  have v405 : IVec S8x16x512 32 := broadcast S8x16x512 en
  have v406 : IVec S8x16x512 1 := cmpi .slt v402 v405
  have v407 : IVec S8x16x512 1 := andi v404 v406
  have v410 : FVec F S8x16x512 .bf16 := shapeCast S8x16x512 v409 shapeCasts_S8x16x512_S8x16x512
  have v411 : FVec F S8x16x512 .f32 := extf .f32 v410 bitsLt_bf16_f32
  have v412 : FVec F S8x16x512 .f32 := select v407 v394 v411
  have v413 : FVec F S8x16x512 .bf16 := truncf .bf16 v412 bitsLt_bf16_f32
  v413

def chunkProg (arg3 : Memref sig .tc .vmem S8x1024x512 .i8) (arg4 : Memref sig .tc .vmem S8x16x512 .f32) (arg5 : Memref sig .tc .vmem S96x16x512 .bf16) (harg5 : arg5.IsWhole) (arg6 : Memref sig .tc .vmem S96x16x2048 .bf16) (arg7 : Memref sig .tc .vmem S96x16x128 .f32) (arg8 : Memref sig .tc .vmem S2048x512 .bf16) (harg8 : arg8.IsWhole) (off : Fin 3 → ℕ)
    (h6 : ∀ a, off a + S8x16x2048.size a ≤ S96x16x2048.size a) (h7 : ∀ a, off a + S8x16x128.size a ≤ S96x16x128.size a)
    (h5 : ∀ a, off a + S8x16x512.size a ≤ S96x16x512.size a)
    (hp : (Rect.unit (s := S96x16x512) off S8x16x512.size h5).PackedRows (EltTy.packing .bf16))
    (pay : Vec F S8x16x2048 .bf16 → Vec F S2048x512 .bf16 → Vec F S8x16x128 .f32 → Vec F S8x16x512 .bf16 → FVec F S8x16x512 .bf16) :
    Prog (TpuEff nD τ sig (Elt F) Λ₀ .tc) Unit := do
  let v386 : Vec F S8x16x2048 .bf16 ← Prog.lift (.load arg6 (Rect.unit (s := S96x16x2048) off S8x16x2048.size h6).toLoadRect (View.loadsAt_vmem h_S8x16x2048))
  let v388 : Vec F S2048x512 .bf16 ← Prog.lift (.load arg8 (Rect.unit (s := S2048x512) ![0, 0] S2048x512.size inb_S2048x512_S2048x512_0_0).toLoadRect (View.loadsAt_vmem h_S2048x512))
  let v392 : Vec F S8x16x128 .f32 ← Prog.lift (.load arg7 (Rect.unit (s := S96x16x128) off S8x16x128.size h7).toLoadRect (View.loadsAt_vmem h_S8x16x128))
  let v409 : Vec F S8x16x512 .bf16 ← Prog.lift (.load arg5 (Rect.unit (s := S96x16x512) off S8x16x512.size h5).toLoadRect (View.loadsAt_vmem h_S8x16x512))
  let v415 : Vec F S8x16x512 .bf16 ← Prog.lift (.load arg5 (Rect.unit (s := S96x16x512) off S8x16x512.size h5).toLoadRect (View.loadsAt_vmem h_S8x16x512))
  Prog.lift (.store arg5 (Rect.unit (s := S96x16x512) off S8x16x512.size h5) (pay v386 v388 v392 v409) Finset.univ (View.stores_vmem h_S8x16x512 (harg5.storeExact_slice rfl _ hp) (fun _ => rfl)) (.inl rfl))
  pure ⟨⟩

/-- One trip of the loop over the chunks, -/
def chunkBody (arg3 : Memref sig .tc .vmem S8x1024x512 .i8) (arg4 : Memref sig .tc .vmem S8x16x512 .f32) (arg5 : Memref sig .tc .vmem S96x16x512 .bf16) (harg5 : arg5.IsWhole) (arg6 : Memref sig .tc .vmem S96x16x2048 .bf16) (arg7 : Memref sig .tc .vmem S96x16x128 .f32) (arg8 : Memref sig .tc .vmem S2048x512 .bf16) (harg8 : arg8.IsWhole) (st en sz : BitVec 32) (hc : Chk st en sz) (h : k0_cond2 sz = 1#1) :
    Fin (mainLoop st en).trips → Unit → Prog (TpuEff nD τ sig (Elt F) Λ₀ .tc) Unit := fun k _ =>
  chunkProg arg3 arg4 arg5 harg5 arg6 arg7 arg8 harg8 (offW st (ivM st en k)) (hc.2.1 k h) (hc.2.2.1 k h) (hc.2.2.2.1 k h)
    (hc.2.2.2.2.1 k h _) (chunkPay st en (ttW st (ivM st en k)))

/-- and of the second loop. -/
def restBody (arg3 : Memref sig .tc .vmem S8x1024x512 .i8) (arg4 : Memref sig .tc .vmem S8x16x512 .f32) (arg5 : Memref sig .tc .vmem S96x16x512 .bf16) (harg5 : arg5.IsWhole) (arg6 : Memref sig .tc .vmem S96x16x2048 .bf16) (arg7 : Memref sig .tc .vmem S96x16x128 .f32) (arg8 : Memref sig .tc .vmem S2048x512 .bf16) (harg8 : arg8.IsWhole) (st en sz : BitVec 32) (hc : Chk st en sz) (h : k0_cond2 sz = 1#1) :
    Fin (remLoop st en).trips → Unit → Prog (TpuEff nD τ sig (Elt F) Λ₀ .tc) Unit := fun k _ =>
  chunkProg arg3 arg4 arg5 harg5 arg6 arg7 arg8 harg8 (offW st (ivR st en k)) (hc.2.2.2.2.2.2.1 k h) (hc.2.2.2.2.2.2.2.1 k h)
    (hc.2.2.2.2.2.2.2.2.1 k h) (hc.2.2.2.2.2.2.2.2.2 k h _) (chunkPay st en (ttW st (ivR st en k)))

/-! ## The weights -/

theorem inb3 (e g : Fin 8) : ∀ a, (![e.val, 128 * g.val, 0] : Fin 3 → ℕ) a + S1x128x512.size a ≤ S8x1024x512.size a := by
  intro a; fin_cases a <;> simp [S1x128x512, S8x1024x512] <;> omega

theorem inb4 (e : Fin 8) (g : ℕ) (hg : g < 16) : ∀ a, (![e.val, g, 0] : Fin 3 → ℕ) a + S1x1x512.size a ≤ S8x16x512.size a := by
  intro a; fin_cases a <;> simp [S1x1x512, S8x16x512] <;> omega

theorem inb8 (r : ℕ) (hr : r + 128 ≤ 2048) : ∀ a, (![r, 0] : Fin 2 → ℕ) a + S128x512.size a ≤ S2048x512.size a := by
  intro a; fin_cases a <;> simp [S128x512, S2048x512] <;> omega

/-- Group `g` of expert `e`: 128 bytes' rows give 128 rows from the low nibbles and 128 from the high ones. -/
def dqStep (arg3 : Memref sig .tc .vmem S8x1024x512 .i8) (arg4 : Memref sig .tc .vmem S8x16x512 .f32) (arg5 : Memref sig .tc .vmem S96x16x512 .bf16) (harg5 : arg5.IsWhole) (arg6 : Memref sig .tc .vmem S96x16x2048 .bf16) (arg7 : Memref sig .tc .vmem S96x16x128 .f32) (arg8 : Memref sig .tc .vmem S2048x512 .bf16) (harg8 : arg8.IsWhole) (e g : Fin 8)
    (hlo : (Rect.unit (s := S2048x512) ![128 * g.val, 0] S128x512.size (inb8 _ (by omega))).PackedRows (EltTy.packing .bf16))
    (hhi : (Rect.unit (s := S2048x512) ![1024 + 128 * g.val, 0] S128x512.size (inb8 _ (by omega))).PackedRows (EltTy.packing .bf16)) :
    Prog (TpuEff nD τ sig (Elt F) Λ₀ .tc) PUnit := do
  let v43 : Vec F S1x128x512 .i8 ← Prog.lift (.load arg3 (Rect.unit (s := S8x1024x512) ![e.val, 128 * g.val, 0] S1x128x512.size (inb3 e g)).toLoadRect (View.loadsAt_vmem h_S1x128x512))
  let v64 : Vec F S1x1x512 .f32 ← Prog.lift (.load arg4 (Rect.unit (s := S8x16x512) ![e.val, g.val, 0] S1x1x512.size (inb4 e _ (by omega))).toLoadRect (View.loadsAt_vmem h_S1x1x512))
  let v67 : Vec F S1x1x512 .f32 ← Prog.lift (.load arg4 (Rect.unit (s := S8x16x512) ![e.val, 8 + g.val, 0] S1x1x512.size (inb4 e _ (by omega))).toLoadRect (View.loadsAt_vmem h_S1x1x512))
  let v72 : Vec F S128x512 .bf16 ← Prog.lift (.load arg8 (Rect.unit (s := S2048x512) ![128 * g.val, 0] S128x512.size (inb8 _ (by omega))).toLoadRect (View.loadsAt_vmem h_S128x512))
  Prog.lift (.store arg8 (Rect.unit (s := S2048x512) ![128 * g.val, 0] S128x512.size (inb8 _ (by omega))) (k0_pay17 v43 v64) Finset.univ (View.stores_vmem h_S128x512 (harg8.storeExact_slice rfl _ hlo) (fun _ => rfl)) (.inl rfl))
  let v77 : Vec F S128x512 .bf16 ← Prog.lift (.load arg8 (Rect.unit (s := S2048x512) ![1024 + 128 * g.val, 0] S128x512.size (inb8 _ (by omega))).toLoadRect (View.loadsAt_vmem h_S128x512))
  Prog.lift (.store arg8 (Rect.unit (s := S2048x512) ![1024 + 128 * g.val, 0] S128x512.size (inb8 _ (by omega))) (k0_pay18 v43 v67) Finset.univ (View.stores_vmem h_S128x512 (harg8.storeExact_slice rfl _ hhi) (fun _ => rfl)) (.inl rfl))
  pure ⟨⟩

/-- Expert `e`'s weights. -/
def dqProg (arg3 : Memref sig .tc .vmem S8x1024x512 .i8) (arg4 : Memref sig .tc .vmem S8x16x512 .f32) (arg5 : Memref sig .tc .vmem S96x16x512 .bf16) (harg5 : arg5.IsWhole) (arg6 : Memref sig .tc .vmem S96x16x2048 .bf16) (arg7 : Memref sig .tc .vmem S96x16x128 .f32) (arg8 : Memref sig .tc .vmem S2048x512 .bf16) (harg8 : arg8.IsWhole) (e : Fin 8) : Prog (TpuEff nD τ sig (Elt F) Λ₀ .tc) PUnit := do
  dqStep arg3 arg4 arg5 harg5 arg6 arg7 arg8 harg8 e 0 packedbf16_S2048x512_S128x512_0_0 packedbf16_S2048x512_S128x512_1024_0
  dqStep arg3 arg4 arg5 harg5 arg6 arg7 arg8 harg8 e 1 packedbf16_S2048x512_S128x512_128_0 packedbf16_S2048x512_S128x512_1152_0
  dqStep arg3 arg4 arg5 harg5 arg6 arg7 arg8 harg8 e 2 packedbf16_S2048x512_S128x512_256_0 packedbf16_S2048x512_S128x512_1280_0
  dqStep arg3 arg4 arg5 harg5 arg6 arg7 arg8 harg8 e 3 packedbf16_S2048x512_S128x512_384_0 packedbf16_S2048x512_S128x512_1408_0
  dqStep arg3 arg4 arg5 harg5 arg6 arg7 arg8 harg8 e 4 packedbf16_S2048x512_S128x512_512_0 packedbf16_S2048x512_S128x512_1536_0
  dqStep arg3 arg4 arg5 harg5 arg6 arg7 arg8 harg8 e 5 packedbf16_S2048x512_S128x512_640_0 packedbf16_S2048x512_S128x512_1664_0
  dqStep arg3 arg4 arg5 harg5 arg6 arg7 arg8 harg8 e 6 packedbf16_S2048x512_S128x512_768_0 packedbf16_S2048x512_S128x512_1792_0
  dqStep arg3 arg4 arg5 harg5 arg6 arg7 arg8 harg8 e 7 packedbf16_S2048x512_S128x512_896_0 packedbf16_S2048x512_S128x512_1920_0

/-- The program of the first part of an expert's block: its weights, then the words its loops run over. -/
def headProg (arg3 : Memref sig .tc .vmem S8x1024x512 .i8) (arg4 : Memref sig .tc .vmem S8x16x512 .f32) (arg5 : Memref sig .tc .vmem S96x16x512 .bf16) (harg5 : arg5.IsWhole) (arg6 : Memref sig .tc .vmem S96x16x2048 .bf16) (arg7 : Memref sig .tc .vmem S96x16x128 .f32) (arg8 : Memref sig .tc .vmem S2048x512 .bf16) (harg8 : arg8.IsWhole) (e : Fin 8) (st en : BitVec 32) :
    Prog (TpuEff nD τ sig (Elt F) Λ₀ .tc) (Σ' (v355 : BitVec 32) (c0_i32_168 : BitVec 32) (v377 : BitVec 32), BitVec 32) := do
  dqProg arg3 arg4 arg5 harg5 arg6 arg7 arg8 harg8 e
  pure ⟨tile0 st, 0#32, nChunk st en, 1#32⟩

section Parts
variable (i : grid0.Coords) (arg1 : Memref sig .tc .smem S8 .i32) (harg1 : arg1.IsWhole) (arg2 : Memref sig .tc .vmem S96x16x2048 .bf16) (harg2 : arg2.IsWhole) (arg3 : Memref sig .tc .vmem S8x1024x512 .i8) (harg3 : arg3.IsWhole) (arg4 : Memref sig .tc .vmem S8x16x512 .f32) (harg4 : arg4.IsWhole) (arg5 : Memref sig .tc .vmem S96x16x512 .bf16) (harg5 : arg5.IsWhole) (arg6 : Memref sig .tc .vmem S96x16x2048 .bf16) (harg6 : arg6.IsWhole) (arg7 : Memref sig .tc .vmem S96x16x128 .f32) (harg7 : arg7.IsWhole) (arg8 : Memref sig .tc .vmem S2048x512 .bf16) (harg8 : arg8.IsWhole) (st en : BitVec 32)
set_option maxRecDepth 65536

theorem part12_eq : k0_part12 (F := F) i arg1 harg1 arg2 harg2 arg3 harg3 arg4 harg4 arg5 harg5 arg6 harg6 arg7 harg7 arg8 harg8 en 0#32
    = headProg arg3 arg4 arg5 harg5 arg6 arg7 arg8 harg8 0 0#32 en := rfl

theorem part21_eq : k0_part21 (F := F) i arg1 harg1 arg2 harg2 arg3 harg3 arg4 harg4 arg5 harg5 arg6 harg6 arg7 harg7 arg8 harg8 st en
    = headProg arg3 arg4 arg5 harg5 arg6 arg7 arg8 harg8 1 st en := rfl

theorem part30_eq : k0_part30 (F := F) i arg1 harg1 arg2 harg2 arg3 harg3 arg4 harg4 arg5 harg5 arg6 harg6 arg7 harg7 arg8 harg8 st en
    = headProg arg3 arg4 arg5 harg5 arg6 arg7 arg8 harg8 2 st en := rfl

theorem part39_eq : k0_part39 (F := F) i arg1 harg1 arg2 harg2 arg3 harg3 arg4 harg4 arg5 harg5 arg6 harg6 arg7 harg7 arg8 harg8 st en
    = headProg arg3 arg4 arg5 harg5 arg6 arg7 arg8 harg8 3 st en := rfl

theorem part48_eq : k0_part48 (F := F) i arg1 harg1 arg2 harg2 arg3 harg3 arg4 harg4 arg5 harg5 arg6 harg6 arg7 harg7 arg8 harg8 st en
    = headProg arg3 arg4 arg5 harg5 arg6 arg7 arg8 harg8 4 st en := rfl

theorem part57_eq : k0_part57 (F := F) i arg1 harg1 arg2 harg2 arg3 harg3 arg4 harg4 arg5 harg5 arg6 harg6 arg7 harg7 arg8 harg8 st en
    = headProg arg3 arg4 arg5 harg5 arg6 arg7 arg8 harg8 5 st en := rfl

theorem part66_eq : k0_part66 (F := F) i arg1 harg1 arg2 harg2 arg3 harg3 arg4 harg4 arg5 harg5 arg6 harg6 arg7 harg7 arg8 harg8 st en
    = headProg arg3 arg4 arg5 harg5 arg6 arg7 arg8 harg8 6 st en := rfl

theorem part75_eq : k0_part75 (F := F) i arg1 harg1 arg2 harg2 arg3 harg3 arg4 harg4 arg5 harg5 arg6 harg6 arg7 harg7 arg8 harg8 st en
    = headProg arg3 arg4 arg5 harg5 arg6 arg7 arg8 harg8 7 st en := rfl

end Parts

end Cert.KernelIdeal.Hand

end
-- ==== Proof.Words.lean ====
/- The words one expert's block computes, as integers: its first tile, its number of chunks, the tile each chunk begins at;
   and from them what the block assumes of its words. -/
module

public import proofs.«01_k».proof.Proof.Shape
public import Idealize.ShloMosaic.Lib.Affine
public import Idealize.ShloMosaic.Lib.LoopRemainder

@[expose] public section

noncomputable section

namespace Cert.KernelIdeal.Hand

open Cert.KernelIdeal Cert.KernelIdeal.Gen
open Idealize.ShloMosaic Idealize.SL.Sem
open Idealize.ShloMosaic.Affine

/-- Floor division of a word that is not negative by a positive literal. -/
theorem fdiv_int {a : BitVec 32} {ea e : Int} (ha : IsInt a ea) (h0 : 0 ≤ ea) (k : ℕ) (hk0 : 0 < k) (hk : k < 2 ^ 31)
    (he : e = ea / k) : IsInt (fdiv a (BitVec.ofNat 32 k)) e := by
  have hkk : IsInt (BitVec.ofNat 32 k) (k : Int) := Affine.ofNat k ⟨rfl, hk⟩
  have hz : IsInt (0#32) 0 := Affine.ofNat 0 ⟨rfl, by decide⟩
  have hkp : (0 : Int) < k := by omega
  have hdiv : IsInt (Scalar.divsi a (BitVec.ofNat 32 k)) e := Affine.divsi ha hkk ⟨he, h0, hkp⟩
  have hsk : IsInt (Scalar.subi (Scalar.extui (Scalar.cmpi .sgt (BitVec.ofNat 32 k) 0#32))
      (Scalar.extui (Scalar.cmpi .slt (BitVec.ofNat 32 k) 0#32)) : BitVec 32) 1 :=
    Affine.subi (Affine.extui_holds (e := 1) (Affine.sgt_holds hkk hz hkp) rfl)
      (Affine.extui_fails (e := 0) (Affine.slt_fails hkk hz (by omega)) rfl) (by decide)
  have hw := Affine.word (Scalar.subi (Scalar.divsi a (BitVec.ofNat 32 k)) 1#32)
  unfold fdiv
  rcases lt_or_eq_of_le h0 with h | h
  · have hsa : IsInt (Scalar.subi (Scalar.extui (Scalar.cmpi .sgt a 0#32))
        (Scalar.extui (Scalar.cmpi .slt a 0#32)) : BitVec 32) 1 :=
      Affine.subi (Affine.extui_holds (e := 1) (Affine.sgt_holds ha hz h) rfl)
        (Affine.extui_fails (e := 0) (Affine.slt_fails ha hz (by omega)) rfl) (by decide)
    exact Affine.select_fails (Affine.andi_fails_left (Affine.ne_fails hsa hsk rfl) trivial) hw hdiv rfl
  · subst h
    exact Affine.select_fails (Affine.andi_fails_right trivial
      (Affine.ne_fails (Affine.remsi (e := 0) ha hkk ⟨by simp, le_refl _, hkp⟩) hz rfl)) hw hdiv rfl

variable {st en : BitVec 32} {s n : ℕ}

theorem tile0_int (hs : IsInt st s) : IsInt (tile0 st) ((s / 16 : ℕ) : Int) :=
  fdiv_int hs (by omega) 16 (by decide) (by decide) (by omega)

theorem nChunk_int (hs : IsInt st s) (hn : IsInt en n) (hsn : s ≤ n) (hT : n ≤ 1536) :
    IsInt (nChunk st en) (((n + 127 - 16 * (s / 16)) / 128 : ℕ) : Int) := by
  have h1 : IsInt (Scalar.addi en 128#32) ((n + 128 : ℕ) : Int) :=
    Affine.addi hn (Affine.ofNat (e := 128) 128 ⟨rfl, by decide⟩) ⟨by omega, by omega, by omega⟩
  have h2 : IsInt (Scalar.subi (Scalar.addi en 128#32) 1#32) ((n + 127 : ℕ) : Int) :=
    Affine.subi h1 (Affine.ofNat (e := 1) 1 ⟨rfl, by decide⟩) ⟨by omega, by omega, by omega⟩
  have h3 : IsInt (Scalar.muli (tile0 st) 16#32) ((16 * (s / 16) : ℕ) : Int) :=
    Affine.muli (tile0_int hs) (Affine.ofNat (e := 16) 16 ⟨rfl, by decide⟩) ⟨by omega, by omega, by omega⟩
  have h4 : IsInt (Scalar.subi (Scalar.subi (Scalar.addi en 128#32) 1#32) (Scalar.muli (tile0 st) 16#32))
      ((n + 127 - 16 * (s / 16) : ℕ) : Int) :=
    Affine.subi h2 h3 ⟨by omega, by omega, by omega⟩
  exact Affine.subi (fdiv_int (e := (((n + 127 - 16 * (s / 16)) / 128 : ℕ) : Int)) h4 (by omega) 128 (by decide) (by decide) (by omega))
    (Affine.ofNat (e := 0) 0 ⟨rfl, by decide⟩) ⟨by omega, by omega, by omega⟩

theorem mainUb_int (hs : IsInt st s) (hn : IsInt en n) (hsn : s ≤ n) (hT : n ≤ 1536) :
    IsInt (mainLoop st en).ub (((n + 127 - 16 * (s / 16)) / 128 : ℕ) : Int) := by
  show IsInt (Scalar.addi 0#32 (Scalar.muli (Scalar.divsi (nChunk st en) 1#32) 1#32)) _
  rw [Scalar.muli_divsi_one]
  exact Affine.addi (Affine.ofNat (e := 0) 0 ⟨rfl, by decide⟩) (nChunk_int hs hn hsn hT) ⟨by omega, by omega, by omega⟩

theorem mainTrips (hs : IsInt st s) (hn : IsInt en n) (hsn : s ≤ n) (hT : n ≤ 1536) :
    (mainLoop st en).trips = (n + 127 - 16 * (s / 16)) / 128 :=
  Affine.trips_eq (Affine.ofNat (e := 0) 0 ⟨rfl, by decide⟩) (mainUb_int hs hn hsn hT)
    (Affine.ofNat (e := 1) 1 ⟨rfl, by decide⟩) _ ⟨by decide, by omega⟩

theorem mainOk (hs : IsInt st s) (hn : IsInt en n) (hsn : s ≤ n) (hT : n ≤ 1536) : (mainLoop st en).OK :=
  Affine.ok (Affine.ofNat (e := 0) 0 ⟨rfl, by decide⟩) (mainUb_int hs hn hsn hT)
    (Affine.ofNat (e := 1) 1 ⟨rfl, by decide⟩) ⟨by decide, by omega⟩

/-- The first tile of chunk `k`. -/
def ttN (s k : ℕ) : ℕ := min (s / 16 + 8 * k) 88

theorem ttN_le (s k : ℕ) : ttN s k ≤ 88 := Nat.min_le_right _ _

theorem tt_int (hs : IsInt st s) (hn : IsInt en n) (hsn : s ≤ n) (hT : n ≤ 1536) (k : Fin (mainLoop st en).trips) :
    IsInt (ttW st (ivM st en k)) (ttN s k : Int) := by
  have hk : (k : ℕ) < (n + 127 - 16 * (s / 16)) / 128 := lt_of_lt_of_eq k.isLt (mainTrips hs hn hsn hT)
  have h1 : IsInt (ivM st en k) ((k : ℕ) : Int) :=
    Affine.iv (Affine.ofNat (e := 0) 0 ⟨rfl, by decide⟩) (Affine.ofNat (e := 1) 1 ⟨rfl, by decide⟩) k
      ⟨by omega, by omega, by omega⟩
  have h2 : IsInt (Scalar.muli (ivM st en k) 8#32) ((8 * (k : ℕ) : ℕ) : Int) :=
    Affine.muli h1 (Affine.ofNat (e := 8) 8 ⟨rfl, by decide⟩) ⟨by omega, by omega, by omega⟩
  have h3 : IsInt (Scalar.addi (tile0 st) (Scalar.muli (ivM st en k) 8#32)) ((s / 16 + 8 * (k : ℕ) : ℕ) : Int) :=
    Affine.addi (tile0_int hs) h2 ⟨by omega, by omega, by omega⟩
  exact Affine.minsi h3 (Affine.ofNat (e := 88) 88 ⟨rfl, by decide⟩) (by unfold ttN; omega)

theorem tt_nat (hs : IsInt st s) (hn : IsInt en n) (hsn : s ≤ n) (hT : n ≤ 1536) (k : Fin (mainLoop st en).trips) :
    (ttW st (ivM st en k)).toNat = ttN s k := by
  have := Affine.toNat_of (tt_int hs hn hsn hT k) (by omega)
  omega

theorem offW_eq (hs : IsInt st s) (hn : IsInt en n) (hsn : s ≤ n) (hT : n ≤ 1536) (k : Fin (mainLoop st en).trips) :
    offW st (ivM st en k) = ![ttN s k, 0, 0] := by
  unfold offW
  rw [show (Scalar.indexCast (ttW st (ivM st en k)) : Index).toNat = ttN s k from tt_nat hs hn hsn hT k]

theorem offW_inb (hs : IsInt st s) (hn : IsInt en n) (hsn : s ≤ n) (hT : n ≤ 1536) (k : Fin (mainLoop st en).trips) (L : ℕ) (a : Fin 3) :
    (offW st (ivM st en k)) a + (⟨3, ![8, 16, L]⟩ : Shape).size a ≤ (⟨3, ![96, 16, L]⟩ : Shape).size a := by
  have hle := ttN_le s k
  rw [offW_eq hs hn hsn hT k]
  match a with
  | 0 => show ttN s k + 8 ≤ 96; omega
  | 1 => show 0 + 16 ≤ 16; omega
  | 2 => show 0 + L ≤ L; omega

theorem offW_packed (w : BitVec 32) (hinb : ∀ a, (offW st w) a + S8x16x512.size a ≤ S96x16x512.size a) :
    (Rect.unit (s := S96x16x512) (offW st w) S8x16x512.size hinb).PackedRows (EltTy.packing .bf16) :=
  .inr ⟨by decide, rfl, .inl ⟨⟨0, rfl⟩, ⟨8, rfl⟩⟩⟩

/-- What an expert's block assumes of its words holds when its first and last rows are in order. -/
theorem chk_of (sz : BitVec 32) (hs : IsInt st s) (hn : IsInt en n) (hsn : s ≤ n) (hT : n ≤ 1536) : Chk st en sz :=
  ⟨fun _ => mainOk hs hn hsn hT, fun k _ => offW_inb hs hn hsn hT k 2048, fun k _ => offW_inb hs hn hsn hT k 128,
    fun k _ => offW_inb hs hn hsn hT k 512, fun k _ hinb => offW_packed _ hinb, fun _ => Scf.rem_ok _ _,
    fun k => (Scf.rem_no_trip _ _ k).elim, fun k => (Scf.rem_no_trip _ _ k).elim, fun k => (Scf.rem_no_trip _ _ k).elim,
    fun k => (Scf.rem_no_trip _ _ k).elim⟩

theorem cond_iff {sz : BitVec 32} {m : ℕ} (h : IsInt sz m) : k0_cond2 sz = 1#1 ↔ 0 < m := by
  have hz : IsInt (0#32) 0 := Affine.ofNat 0 ⟨rfl, by decide⟩
  by_cases hm : 0 < m
  · refine ⟨fun _ => hm, fun _ => ?_⟩
    have h1 : Scalar.cmpi .sgt sz 0#32 = 1#1 := Affine.sgt_holds h hz (by omega)
    show Scalar.cmpi .ne (Scalar.extui (Scalar.cmpi .sgt sz 0#32) : BitVec 32) 0#32 = 1#1
    rw [h1]; decide
  · refine ⟨fun hc => ?_, fun h => absurd h hm⟩
    have h1 : Affine.Fails (Scalar.cmpi .sgt sz 0#32) := Affine.sgt_fails h hz (by omega)
    have h2 : Scalar.cmpi .sgt sz 0#32 = 0#1 := (BitVec.eq_zero_or_eq_one _).resolve_right h1
    change Scalar.cmpi .ne (Scalar.extui (Scalar.cmpi .sgt sz 0#32) : BitVec 32) 0#32 = 1#1 at hc
    rw [h2] at hc
    exact absurd hc (by decide)

theorem add_int {a b : BitVec 32} {m k : ℕ} (ha : IsInt a m) (hb : IsInt b k) (h : m + k ≤ 1536) :
    IsInt (Scalar.addi a b) ((m + k : ℕ) : Int) :=
  Affine.addi ha hb ⟨by omega, by omega, by omega⟩

end Cert.KernelIdeal.Hand
-- ==== Proof.Content.lean ====
/- What the buffers hold, as functions of what the kernel is given: the quantised rows and their scales, one expert's
   weights, the output block after some chunks and after some experts. -/
module

public import proofs.«01_k».proof.Proof.Words

@[expose] public section

noncomputable section

namespace Cert.KernelIdeal.Hand

open Cert.KernelIdeal Cert.KernelIdeal.Gen Cert.Hand
open Idealize.ShloMosaic Idealize.SL.Sem

variable {F : FTy → Type} [FloatOps F]

/-! ## Rows -/

theorem pairIn (t : ℕ) (ht : t < 48) (L : ℕ) : ∀ a, (![2 * t, 0, 0] : Fin 3 → ℕ) a + (⟨3, ![2, 16, L]⟩ : Shape).size a ≤ (⟨3, ![96, 16, L]⟩ : Shape).size a
  | 0 => (by omega : 2 * t + 2 ≤ 96)
  | 1 => (by omega : 0 + 16 ≤ 16)
  | 2 => (by omega : 0 + L ≤ L)

theorem pairLocal {L : ℕ} (t : ℕ) (y : (⟨3, ![96, 16, L]⟩ : Shape).Idx) (h : 2 * t ≤ (y 0).val ∧ (y 0).val < 2 * t + 2) :
    ∀ a, (![2 * t, 0, 0] : Fin 3 → ℕ) a ≤ (y a).val ∧ (y a).val < (![2 * t, 0, 0] : Fin 3 → ℕ) a + (⟨3, ![2, 16, L]⟩ : Shape).size a
  | 0 => h
  | 1 => ⟨Nat.zero_le _, (by have : (y 1).val < 16 := (y 1).isLt; show (y 1).val < 0 + 16; omega)⟩
  | 2 => ⟨Nat.zero_le _, (by have : (y 2).val < L := (y 2).isLt; show (y 2).val < 0 + L; omega)⟩

/-- Two tiles of the rows. -/
def pairOf (X : S96x16x2048.Idx → Elt F .bf16) (t : ℕ) (ht : t < 48) : Vec F S2x16x2048 .bf16 :=
  fun j => X ((Rect.unit (s := S96x16x2048) ![2 * t, 0, 0] S2x16x2048.size (pairIn t ht 2048)).emb j)

/-- Two tiles quantised, -/
def qVec (v : Vec F S2x16x2048 .bf16) : Vec F S2x16x2048 .bf16 :=
  k0_pay216 (k0_pay15 (k0_pay7 v) (k0_pay8 v) (k0_pay11 (k0_pay8 v) (k0_pay9 v) (k0_pay10 v)) (k0_pay12 (k0_pay8 v) (k0_pay9 v) (k0_pay10 v)))

/-- and their scales. -/
def scVec (v : Vec F S2x16x2048 .bf16) : Vec F S2x16x128 .f32 :=
  k0_pay217 (k0_pay14 (k0_pay8 v) (k0_pay11 (k0_pay8 v) (k0_pay9 v) (k0_pay10 v)) (k0_pay12 (k0_pay8 v) (k0_pay9 v) (k0_pay10 v)))

/-- The quantised rows, -/
def aOf (X : S96x16x2048.Idx → Elt F .bf16) : S96x16x2048.Idx → Elt F .bf16 := fun y =>
  have hy : (y 0).val < 96 := (y 0).isLt
  qVec (pairOf X ((y 0).val / 2) (by omega)) (Rect.unitLocal (s := S96x16x2048) (off := ![2 * ((y 0).val / 2), 0, 0]) (size := S2x16x2048.size) y
    (pairLocal _ y (by omega)))

/-- and the scales. -/
def scOf (X : S96x16x2048.Idx → Elt F .bf16) : S96x16x128.Idx → Elt F .f32 := fun y =>
  have hy : (y 0).val < 96 := (y 0).isLt
  scVec (pairOf X ((y 0).val / 2) (by omega)) (Rect.unitLocal (s := S96x16x128) (off := ![2 * ((y 0).val / 2), 0, 0]) (size := S2x16x128.size) y
    (pairLocal _ y (by omega)))

/-- New contents in the first `2 * t` tiles. -/
def mixT {L : ℕ} {α : Type} (t : ℕ) (N O : (⟨3, ![96, 16, L]⟩ : Shape).Idx → α) : (⟨3, ![96, 16, L]⟩ : Shape).Idx → α :=
  fun y => if (y 0).val < 2 * t then N y else O y

theorem mixT_zero {L : ℕ} {α : Type} (N O : (⟨3, ![96, 16, L]⟩ : Shape).Idx → α) : mixT 0 N O = O := by
  funext y; exact if_neg (by omega)

theorem mixT_full {L : ℕ} {α : Type} (N O : (⟨3, ![96, 16, L]⟩ : Shape).Idx → α) : mixT 48 N O = N := by
  funext y
  have hy : (y 0).val < 96 := (y 0).isLt
  exact if_pos (by omega)

theorem mixT_step {L : ℕ} {α : Type} (t : ℕ) (N O : (⟨3, ![96, 16, L]⟩ : Shape).Idx → α)
    (w : ((a : Fin 3) → Fin ((⟨3, ![2, 16, L]⟩ : Shape).size a)) → α)
    (hw : ∀ (y : (⟨3, ![96, 16, L]⟩ : Shape).Idx) (h : 2 * t ≤ (y 0).val ∧ (y 0).val < 2 * t + 2),
      N y = w (Rect.unitLocal (s := ⟨3, ![96, 16, L]⟩) (off := ![2 * t, 0, 0]) (size := (⟨3, ![2, 16, L]⟩ : Shape).size) y (pairLocal t y h))) :
    patch (s := ⟨3, ![96, 16, L]⟩) ![2 * t, 0, 0] (⟨3, ![2, 16, L]⟩ : Shape).size w (mixT t N O) = mixT (t + 1) N O := by
  funext y
  unfold patch
  by_cases h : 2 * t ≤ (y 0).val ∧ (y 0).val < 2 * t + 2
  · rw [dif_pos (pairLocal t y h)]
    exact ((if_pos (by omega)).trans (hw y h)).symm
  · rw [dif_neg (fun h' => h (h' 0))]
    unfold mixT
    by_cases h2 : (y 0).val < 2 * t
    · rw [if_pos h2, if_pos (by omega)]
    · rw [if_neg h2, if_neg (by omega)]

theorem aOf_step (X : S96x16x2048.Idx → Elt F .bf16) (t : ℕ) (ht : t < 48) (O : S96x16x2048.Idx → Elt F .bf16) :
    patch (s := S96x16x2048) ![2 * t, 0, 0] S2x16x2048.size (qVec (pairOf X t ht)) (mixT (L := 2048) t (aOf X) O) = mixT (L := 2048) (t + 1) (aOf X) O := by
  refine mixT_step (L := 2048) t (aOf X) O _ fun y h => ?_
  obtain ⟨h1, h2⟩ := h
  obtain rfl : (y 0).val / 2 = t := by omega
  rfl

theorem scOf_step (X : S96x16x2048.Idx → Elt F .bf16) (t : ℕ) (ht : t < 48) (O : S96x16x128.Idx → Elt F .f32) :
    patch (s := S96x16x128) ![2 * t, 0, 0] S2x16x128.size (scVec (pairOf X t ht)) (mixT (L := 128) t (scOf X) O) = mixT (L := 128) (t + 1) (scOf X) O := by
  refine mixT_step (L := 128) t (scOf X) O _ fun y h => ?_
  obtain ⟨h1, h2⟩ := h
  obtain rfl : (y 0).val / 2 = t := by omega
  rfl

/-! ## Weights -/

/-- 128 rows of bytes, -/
def wLd (W : S8x1024x512.Idx → Elt F .i8) (e g : Fin 8) : Vec F S1x128x512 .i8 :=
  fun j => W ((Rect.unit (s := S8x1024x512) ![e.val, 128 * g.val, 0] S1x128x512.size (inb3 e g)).emb j)

/-- one group's scales, -/
def sLd (S : S8x16x512.Idx → Elt F .f32) (e : Fin 8) (g : ℕ) (hg : g < 16) : Vec F S1x1x512 .f32 :=
  fun j => S ((Rect.unit (s := S8x16x512) ![e.val, g, 0] S1x1x512.size (inb4 e g hg)).emb j)

/-- the weights of the low nibbles, -/
def wLo (W : S8x1024x512.Idx → Elt F .i8) (S : S8x16x512.Idx → Elt F .f32) (e g : Fin 8) : Vec F S128x512 .bf16 :=
  k0_pay17 (wLd W e g) (sLd S e g.val (by omega))

/-- and those of the high ones. -/
def wHi (W : S8x1024x512.Idx → Elt F .i8) (S : S8x16x512.Idx → Elt F .f32) (e g : Fin 8) : Vec F S128x512 .bf16 :=
  k0_pay18 (wLd W e g) (sLd S e (8 + g.val) (by omega))

theorem grpLocal (r : ℕ) (y : S2048x512.Idx) (h : r ≤ (y 0).val ∧ (y 0).val < r + 128) :
    ∀ a, (![r, 0] : Fin 2 → ℕ) a ≤ (y a).val ∧ (y a).val < (![r, 0] : Fin 2 → ℕ) a + S128x512.size a
  | 0 => h
  | 1 => ⟨Nat.zero_le _, (by have : (y 1).val < 512 := (y 1).isLt; show (y 1).val < 0 + 512; omega)⟩

/-- Expert `e`'s weights. -/
def wbOf (W : S8x1024x512.Idx → Elt F .i8) (S : S8x16x512.Idx → Elt F .f32) (e : Fin 8) : S2048x512.Idx → Elt F .bf16 := fun y =>
  have hy : (y 0).val < 2048 := (y 0).isLt
  if h : (y 0).val < 1024 then
    wLo W S e ⟨(y 0).val / 128, by omega⟩ (Rect.unitLocal (s := S2048x512) (off := ![128 * ((y 0).val / 128), 0]) (size := S128x512.size) y
      (grpLocal _ y (by omega)))
  else
    wHi W S e ⟨((y 0).val - 1024) / 128, by omega⟩
      (Rect.unitLocal (s := S2048x512) (off := ![1024 + 128 * (((y 0).val - 1024) / 128), 0]) (size := S128x512.size) y (grpLocal _ y (by omega)))

/-- New weights in the first `g` groups of either half. -/
def mixW (g : ℕ) (N O : S2048x512.Idx → Elt F .bf16) : S2048x512.Idx → Elt F .bf16 := fun y =>
  if ((y 0).val < 1024 ∧ (y 0).val < 128 * g) ∨ (1024 ≤ (y 0).val ∧ (y 0).val < 1024 + 128 * g) then N y else O y

theorem mixW_zero (N O : S2048x512.Idx → Elt F .bf16) : mixW 0 N O = O := by
  funext y; exact if_neg (by omega)

theorem mixW_full (N O : S2048x512.Idx → Elt F .bf16) : mixW 8 N O = N := by
  funext y
  have hy : (y 0).val < 2048 := (y 0).isLt
  exact if_pos (by omega)

theorem mixW_step (W : S8x1024x512.Idx → Elt F .i8) (S : S8x16x512.Idx → Elt F .f32) (e g : Fin 8) (O : S2048x512.Idx → Elt F .bf16) :
    patch (s := S2048x512) ![1024 + 128 * g.val, 0] S128x512.size (wHi W S e g)
      (patch (s := S2048x512) ![128 * g.val, 0] S128x512.size (wLo W S e g) (mixW g.val (wbOf W S e) O)) = mixW (g.val + 1) (wbOf W S e) O := by
  obtain ⟨g, hg⟩ := g
  funext y
  show patch (s := S2048x512) ![1024 + 128 * g, 0] S128x512.size (wHi W S e ⟨g, hg⟩)
      (patch (s := S2048x512) ![128 * g, 0] S128x512.size (wLo W S e ⟨g, hg⟩) (mixW g (wbOf W S e) O)) y = mixW (g + 1) (wbOf W S e) O y
  have hy : (y 0).val < 2048 := (y 0).isLt
  unfold patch
  by_cases h1 : 1024 + 128 * g ≤ (y 0).val ∧ (y 0).val < 1024 + 128 * g + 128
  · rw [dif_pos (grpLocal _ y h1)]
    refine ((if_pos (Or.inr (by omega))).trans ?_).symm
    unfold wbOf
    rw [dif_neg (by omega)]
    obtain ⟨h1, h2⟩ := h1
    obtain rfl : ((y 0).val - 1024) / 128 = g := by omega
    rfl
  · rw [dif_neg (fun h' => h1 (h' 0))]
    by_cases h2 : 128 * g ≤ (y 0).val ∧ (y 0).val < 128 * g + 128
    · rw [dif_pos (grpLocal _ y h2)]
      refine ((if_pos (Or.inl (by omega))).trans ?_).symm
      unfold wbOf
      rw [dif_pos (by omega)]
      obtain ⟨h3, h4⟩ := h2
      obtain rfl : (y 0).val / 128 = g := by omega
      rfl
    · rw [dif_neg (fun h' => h2 (h' 0))]
      unfold mixW
      by_cases h3 : ((y 0).val < 1024 ∧ (y 0).val < 128 * g) ∨ (1024 ≤ (y 0).val ∧ (y 0).val < 1024 + 128 * g)
      · rw [if_pos h3, if_pos (by omega)]
      · rw [if_neg h3, if_neg (by omega)]

/-! ## The output block -/

theorem slabIn (t : ℕ) (ht : t ≤ 88) (L : ℕ) : ∀ a, (![t, 0, 0] : Fin 3 → ℕ) a + (⟨3, ![8, 16, L]⟩ : Shape).size a ≤ (⟨3, ![96, 16, L]⟩ : Shape).size a
  | 0 => (by omega : t + 8 ≤ 96)
  | 1 => (by omega : 0 + 16 ≤ 16)
  | 2 => (by omega : 0 + L ≤ L)

/-- Eight tiles. -/
def slab {L : ℕ} {α : Type} (X : (⟨3, ![96, 16, L]⟩ : Shape).Idx → α) (t : ℕ) (ht : t ≤ 88) : (⟨3, ![8, 16, L]⟩ : Shape).Idx → α :=
  fun j => X ((Rect.unit (s := ⟨3, ![96, 16, L]⟩) ![t, 0, 0] (⟨3, ![8, 16, L]⟩ : Shape).size (slabIn t ht L)).emb j)

/-- The block after the chunk of the eight tiles from `t`, for the rows from `s` to `n`. -/
def chunkF (s n t : ℕ) (ht : t ≤ 88) (A : S96x16x2048.Idx → Elt F .bf16) (C : S96x16x128.Idx → Elt F .f32) (B : S2048x512.Idx → Elt F .bf16)
    (Y : S96x16x512.Idx → Elt F .bf16) : S96x16x512.Idx → Elt F .bf16 :=
  patch (s := S96x16x512) ![t, 0, 0] S8x16x512.size
    (chunkPay (BitVec.ofNat 32 s) (BitVec.ofNat 32 n) (BitVec.ofNat 32 t) (slab (L := 2048) A t ht) B (slab (L := 128) C t ht) (slab (L := 512) Y t ht)) Y

/-- The block after `k` chunks, -/
def chunksF (s n : ℕ) (A : S96x16x2048.Idx → Elt F .bf16) (C : S96x16x128.Idx → Elt F .f32) (B : S2048x512.Idx → Elt F .bf16)
    (Y : S96x16x512.Idx → Elt F .bf16) : ℕ → S96x16x512.Idx → Elt F .bf16
  | 0 => Y
  | k + 1 => chunkF s n (ttN s k) (ttN_le s k) A C B (chunksF s n A C B Y k)

/-- and after the expert whose rows are those from `s` to `n`. -/
def expF (s n : ℕ) (A : S96x16x2048.Idx → Elt F .bf16) (C : S96x16x128.Idx → Elt F .f32) (B : S2048x512.Idx → Elt F .bf16)
    (Y : S96x16x512.Idx → Elt F .bf16) : S96x16x512.Idx → Elt F .bf16 :=
  if 0 < n - s then chunksF s n A C B Y ((n + 127 - 16 * (s / 16)) / 128) else Y

/-- The rows before expert `e`. -/
def rowsTo (g : ℕ → ℕ) : ℕ → ℕ
  | 0 => 0
  | e + 1 => rowsTo g e + g e

/-- The block after `e` experts. -/
def blockF (g : ℕ → ℕ) (X : S96x16x2048.Idx → Elt F .bf16) (W : S8x1024x512.Idx → Elt F .i8) (S : S8x16x512.Idx → Elt F .f32)
    (Y : S96x16x512.Idx → Elt F .bf16) : ℕ → S96x16x512.Idx → Elt F .bf16
  | 0 => Y
  | e + 1 => expF (rowsTo g e) (rowsTo g (e + 1)) (aOf X) (scOf X) (wbOf W S (Fin.ofNat 8 e)) (blockF g X W S Y e)

end Cert.KernelIdeal.Hand
-- ==== Proof.Steps.lean ====
/- The kernel body, from the buffers it is given at known contents to what it leaves: loads and stores, one chunk, one
   expert, the quantisation, the whole body. -/
module

public import proofs.«01_k».proof.Proof.Content
public import Idealize.ShloMosaic.Lib.Tactic
public import Idealize.ShloMosaic.Lib.Pipeline.Kit

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig Unit (Elt F) ℕ (UR sig nD τ) ℕ

/-- No waits' variants. -/
abbrev 𝒱₀ : Variants := Variants.none

/-- The buffers the body is given, at their contents. -/
structure Bufs (F : FTy → Type) [FloatOps F] where
  T : S8.Idx → Elt F .i32
  X : S96x16x2048.Idx → Elt F .bf16
  W : S8x1024x512.Idx → Elt F .i8
  S : S8x16x512.Idx → Elt F .f32
  Y : S96x16x512.Idx → Elt F .bf16
  A : S96x16x2048.Idx → Elt F .bf16
  C : S96x16x128.Idx → Elt F .f32
  B : S2048x512.Idx → Elt F .bf16

variable (c : Dev nD) (E : Set ℕ) (q : PosShare TreeShare)
variable {arg1 : Memref sig .tc .smem S8 .i32} {arg2 : Memref sig .tc .vmem S96x16x2048 .bf16} {arg3 : Memref sig .tc .vmem S8x1024x512 .i8} {arg4 : Memref sig .tc .vmem S8x16x512 .f32} {arg5 : Memref sig .tc .vmem S96x16x512 .bf16} {arg6 : Memref sig .tc .vmem S96x16x2048 .bf16} {arg7 : Memref sig .tc .vmem S96x16x128 .f32} {arg8 : Memref sig .tc .vmem S2048x512 .bf16}

/-- They are held: the table at a share, the others whole. -/
def St (arg1 : Memref sig .tc .smem S8 .i32) (arg2 : Memref sig .tc .vmem S96x16x2048 .bf16) (arg3 : Memref sig .tc .vmem S8x1024x512 .i8) (arg4 : Memref sig .tc .vmem S8x16x512 .f32) (arg5 : Memref sig .tc .vmem S96x16x512 .bf16) (arg6 : Memref sig .tc .vmem S96x16x2048 .bf16) (arg7 : Memref sig .tc .vmem S96x16x128 .f32) (arg8 : Memref sig .tc .vmem S2048x512 .bf16) (b : Bufs F) : sProp 𝕄 :=
  iprop(owns (c : Thread nD τ) arg1 q b.T ∗ owns (c : Thread nD τ) arg2 fullShare b.X ∗ owns (c : Thread nD τ) arg3 fullShare b.W ∗ owns (c : Thread nD τ) arg4 fullShare b.S
    ∗ owns (c : Thread nD τ) arg5 fullShare b.Y ∗ owns (c : Thread nD τ) arg6 fullShare b.A ∗ owns (c : Thread nD τ) arg7 fullShare b.C ∗ owns (c : Thread nD τ) arg8 fullShare b.B)

section Steps
variable {α : Type}

theorem ld2 {b : Bufs F} {r : Rect S96x16x2048} {hl : arg2.view.LoadsAt r.toLoadRect}
    {k : (r.shape.Idx → Elt F .bf16) → Prog (TpuEff nD τ sig (Elt F) Λ₀ .tc) α} {Q : α → sProp 𝕄}
    (h : St c q arg1 arg2 arg3 arg4 arg5 arg6 arg7 arg8 b ⊢ wp frame (wpE (defs₀ (F := F)) 𝒱₀ (c : Thread nD τ) none) E (k (fun j => b.X (r.emb j))) Q) :
    St c q arg1 arg2 arg3 arg4 arg5 arg6 arg7 arg8 b ⊢ wp frame (wpE (defs₀ (F := F)) 𝒱₀ (c : Thread nD τ) none) E (.op (.load arg2 r.toLoadRect hl) k) Q := by
  unfold St at h ⊢
  iintro ⟨H1, H2, H3, H4, H5, H6, H7, H8⟩
  iapply (load_owns 𝒱₀ (c : Thread nD τ) none E) $$ H2
  iintro H2
  iapply h
  iframe

theorem ld3 {b : Bufs F} {r : Rect S8x1024x512} {hl : arg3.view.LoadsAt r.toLoadRect}
    {k : (r.shape.Idx → Elt F .i8) → Prog (TpuEff nD τ sig (Elt F) Λ₀ .tc) α} {Q : α → sProp 𝕄}
    (h : St c q arg1 arg2 arg3 arg4 arg5 arg6 arg7 arg8 b ⊢ wp frame (wpE (defs₀ (F := F)) 𝒱₀ (c : Thread nD τ) none) E (k (fun j => b.W (r.emb j))) Q) :
    St c q arg1 arg2 arg3 arg4 arg5 arg6 arg7 arg8 b ⊢ wp frame (wpE (defs₀ (F := F)) 𝒱₀ (c : Thread nD τ) none) E (.op (.load arg3 r.toLoadRect hl) k) Q := by
  unfold St at h ⊢
  iintro ⟨H1, H2, H3, H4, H5, H6, H7, H8⟩
  iapply (load_owns 𝒱₀ (c : Thread nD τ) none E) $$ H3
  iintro H3
  iapply h
  iframe

theorem ld4 {b : Bufs F} {r : Rect S8x16x512} {hl : arg4.view.LoadsAt r.toLoadRect}
    {k : (r.shape.Idx → Elt F .f32) → Prog (TpuEff nD τ sig (Elt F) Λ₀ .tc) α} {Q : α → sProp 𝕄}
    (h : St c q arg1 arg2 arg3 arg4 arg5 arg6 arg7 arg8 b ⊢ wp frame (wpE (defs₀ (F := F)) 𝒱₀ (c : Thread nD τ) none) E (k (fun j => b.S (r.emb j))) Q) :
    St c q arg1 arg2 arg3 arg4 arg5 arg6 arg7 arg8 b ⊢ wp frame (wpE (defs₀ (F := F)) 𝒱₀ (c : Thread nD τ) none) E (.op (.load arg4 r.toLoadRect hl) k) Q := by
  unfold St at h ⊢
  iintro ⟨H1, H2, H3, H4, H5, H6, H7, H8⟩
  iapply (load_owns 𝒱₀ (c : Thread nD τ) none E) $$ H4
  iintro H4
  iapply h
  iframe

theorem ld5 {b : Bufs F} {r : Rect S96x16x512} {hl : arg5.view.LoadsAt r.toLoadRect}
    {k : (r.shape.Idx → Elt F .bf16) → Prog (TpuEff nD τ sig (Elt F) Λ₀ .tc) α} {Q : α → sProp 𝕄}
    (h : St c q arg1 arg2 arg3 arg4 arg5 arg6 arg7 arg8 b ⊢ wp frame (wpE (defs₀ (F := F)) 𝒱₀ (c : Thread nD τ) none) E (k (fun j => b.Y (r.emb j))) Q) :
    St c q arg1 arg2 arg3 arg4 arg5 arg6 arg7 arg8 b ⊢ wp frame (wpE (defs₀ (F := F)) 𝒱₀ (c : Thread nD τ) none) E (.op (.load arg5 r.toLoadRect hl) k) Q := by
  unfold St at h ⊢
  iintro ⟨H1, H2, H3, H4, H5, H6, H7, H8⟩
  iapply (load_owns 𝒱₀ (c : Thread nD τ) none E) $$ H5
  iintro H5
  iapply h
  iframe

theorem ld6 {b : Bufs F} {r : Rect S96x16x2048} {hl : arg6.view.LoadsAt r.toLoadRect}
    {k : (r.shape.Idx → Elt F .bf16) → Prog (TpuEff nD τ sig (Elt F) Λ₀ .tc) α} {Q : α → sProp 𝕄}
    (h : St c q arg1 arg2 arg3 arg4 arg5 arg6 arg7 arg8 b ⊢ wp frame (wpE (defs₀ (F := F)) 𝒱₀ (c : Thread nD τ) none) E (k (fun j => b.A (r.emb j))) Q) :
    St c q arg1 arg2 arg3 arg4 arg5 arg6 arg7 arg8 b ⊢ wp frame (wpE (defs₀ (F := F)) 𝒱₀ (c : Thread nD τ) none) E (.op (.load arg6 r.toLoadRect hl) k) Q := by
  unfold St at h ⊢
  iintro ⟨H1, H2, H3, H4, H5, H6, H7, H8⟩
  iapply (load_owns 𝒱₀ (c : Thread nD τ) none E) $$ H6
  iintro H6
  iapply h
  iframe

theorem ld7 {b : Bufs F} {r : Rect S96x16x128} {hl : arg7.view.LoadsAt r.toLoadRect}
    {k : (r.shape.Idx → Elt F .f32) → Prog (TpuEff nD τ sig (Elt F) Λ₀ .tc) α} {Q : α → sProp 𝕄}
    (h : St c q arg1 arg2 arg3 arg4 arg5 arg6 arg7 arg8 b ⊢ wp frame (wpE (defs₀ (F := F)) 𝒱₀ (c : Thread nD τ) none) E (k (fun j => b.C (r.emb j))) Q) :
    St c q arg1 arg2 arg3 arg4 arg5 arg6 arg7 arg8 b ⊢ wp frame (wpE (defs₀ (F := F)) 𝒱₀ (c : Thread nD τ) none) E (.op (.load arg7 r.toLoadRect hl) k) Q := by
  unfold St at h ⊢
  iintro ⟨H1, H2, H3, H4, H5, H6, H7, H8⟩
  iapply (load_owns 𝒱₀ (c : Thread nD τ) none E) $$ H7
  iintro H7
  iapply h
  iframe

theorem ld8 {b : Bufs F} {r : Rect S2048x512} {hl : arg8.view.LoadsAt r.toLoadRect}
    {k : (r.shape.Idx → Elt F .bf16) → Prog (TpuEff nD τ sig (Elt F) Λ₀ .tc) α} {Q : α → sProp 𝕄}
    (h : St c q arg1 arg2 arg3 arg4 arg5 arg6 arg7 arg8 b ⊢ wp frame (wpE (defs₀ (F := F)) 𝒱₀ (c : Thread nD τ) none) E (k (fun j => b.B (r.emb j))) Q) :
    St c q arg1 arg2 arg3 arg4 arg5 arg6 arg7 arg8 b ⊢ wp frame (wpE (defs₀ (F := F)) 𝒱₀ (c : Thread nD τ) none) E (.op (.load arg8 r.toLoadRect hl) k) Q := by
  unfold St at h ⊢
  iintro ⟨H1, H2, H3, H4, H5, H6, H7, H8⟩
  iapply (load_owns 𝒱₀ (c : Thread nD τ) none E) $$ H8
  iintro H8
  iapply h
  iframe

theorem st5 {b : Bufs F} {off size : Fin S96x16x512.rank → ℕ} {inb : ∀ a, off a + size a ≤ S96x16x512.size a}
    {w : (Rect.unit off size inb).shape.Idx → Elt F .bf16} {hx : (arg5.access (Rect.unit off size inb)).Stores Finset.univ}
    {hm : Finset.univ = Finset.univ ∨ ∀ a, (Rect.unit off size inb).stride a = 1}
    {k : PUnit → Prog (TpuEff nD τ sig (Elt F) Λ₀ .tc) α} {Q : α → sProp 𝕄}
    (h : St c q arg1 arg2 arg3 arg4 arg5 arg6 arg7 arg8 { b with Y := patch off size w b.Y } ⊢ wp frame (wpE (defs₀ (F := F)) 𝒱₀ (c : Thread nD τ) none) E (k ⟨⟩) Q) :
    St c q arg1 arg2 arg3 arg4 arg5 arg6 arg7 arg8 b ⊢ wp frame (wpE (defs₀ (F := F)) 𝒱₀ (c : Thread nD τ) none) E (.op (.store arg5 (Rect.unit off size inb) w Finset.univ hx hm) k) Q := by
  unfold St at h ⊢
  iintro ⟨H1, H2, H3, H4, H5, H6, H7, H8⟩
  iapply (store_owns 𝒱₀ (c : Thread nD τ) none E) $$ H5
  iintro H5
  iapply h
  iframe

theorem st6 {b : Bufs F} {off size : Fin S96x16x2048.rank → ℕ} {inb : ∀ a, off a + size a ≤ S96x16x2048.size a}
    {w : (Rect.unit off size inb).shape.Idx → Elt F .bf16} {hx : (arg6.access (Rect.unit off size inb)).Stores Finset.univ}
    {hm : Finset.univ = Finset.univ ∨ ∀ a, (Rect.unit off size inb).stride a = 1}
    {k : PUnit → Prog (TpuEff nD τ sig (Elt F) Λ₀ .tc) α} {Q : α → sProp 𝕄}
    (h : St c q arg1 arg2 arg3 arg4 arg5 arg6 arg7 arg8 { b with A := patch off size w b.A } ⊢ wp frame (wpE (defs₀ (F := F)) 𝒱₀ (c : Thread nD τ) none) E (k ⟨⟩) Q) :
    St c q arg1 arg2 arg3 arg4 arg5 arg6 arg7 arg8 b ⊢ wp frame (wpE (defs₀ (F := F)) 𝒱₀ (c : Thread nD τ) none) E (.op (.store arg6 (Rect.unit off size inb) w Finset.univ hx hm) k) Q := by
  unfold St at h ⊢
  iintro ⟨H1, H2, H3, H4, H5, H6, H7, H8⟩
  iapply (store_owns 𝒱₀ (c : Thread nD τ) none E) $$ H6
  iintro H6
  iapply h
  iframe

theorem st7 {b : Bufs F} {off size : Fin S96x16x128.rank → ℕ} {inb : ∀ a, off a + size a ≤ S96x16x128.size a}
    {w : (Rect.unit off size inb).shape.Idx → Elt F .f32} {hx : (arg7.access (Rect.unit off size inb)).Stores Finset.univ}
    {hm : Finset.univ = Finset.univ ∨ ∀ a, (Rect.unit off size inb).stride a = 1}
    {k : PUnit → Prog (TpuEff nD τ sig (Elt F) Λ₀ .tc) α} {Q : α → sProp 𝕄}
    (h : St c q arg1 arg2 arg3 arg4 arg5 arg6 arg7 arg8 { b with C := patch off size w b.C } ⊢ wp frame (wpE (defs₀ (F := F)) 𝒱₀ (c : Thread nD τ) none) E (k ⟨⟩) Q) :
    St c q arg1 arg2 arg3 arg4 arg5 arg6 arg7 arg8 b ⊢ wp frame (wpE (defs₀ (F := F)) 𝒱₀ (c : Thread nD τ) none) E (.op (.store arg7 (Rect.unit off size inb) w Finset.univ hx hm) k) Q := by
  unfold St at h ⊢
  iintro ⟨H1, H2, H3, H4, H5, H6, H7, H8⟩
  iapply (store_owns 𝒱₀ (c : Thread nD τ) none E) $$ H7
  iintro H7
  iapply h
  iframe

theorem st8 {b : Bufs F} {off size : Fin S2048x512.rank → ℕ} {inb : ∀ a, off a + size a ≤ S2048x512.size a}
    {w : (Rect.unit off size inb).shape.Idx → Elt F .bf16} {hx : (arg8.access (Rect.unit off size inb)).Stores Finset.univ}
    {hm : Finset.univ = Finset.univ ∨ ∀ a, (Rect.unit off size inb).stride a = 1}
    {k : PUnit → Prog (TpuEff nD τ sig (Elt F) Λ₀ .tc) α} {Q : α → sProp 𝕄}
    (h : St c q arg1 arg2 arg3 arg4 arg5 arg6 arg7 arg8 { b with B := patch off size w b.B } ⊢ wp frame (wpE (defs₀ (F := F)) 𝒱₀ (c : Thread nD τ) none) E (k ⟨⟩) Q) :
    St c q arg1 arg2 arg3 arg4 arg5 arg6 arg7 arg8 b ⊢ wp frame (wpE (defs₀ (F := F)) 𝒱₀ (c : Thread nD τ) none) E (.op (.store arg8 (Rect.unit off size inb) w Finset.univ hx hm) k) Q := by
  unfold St at h ⊢
  iintro ⟨H1, H2, H3, H4, H5, H6, H7, H8⟩
  iapply (store_owns 𝒱₀ (c : Thread nD τ) none E) $$ H8
  iintro H8
  iapply h
  iframe

theorem ldT {b : Bufs F} {r : Rect S8} {h1 : r.shape.numel = 1} {hp : EltTy.packing .i32 = 1}
    {k : Elt F .i32 → Prog (TpuEff nD τ sig (Elt F) Λ₀ .tc) α} {Q : α → sProp 𝕄}
    (h : St c q arg1 arg2 arg3 arg4 arg5 arg6 arg7 arg8 b ⊢ wp frame (wpE (defs₀ (F := F)) 𝒱₀ (c : Thread nD τ) none) E (k (b.T (r.emb (Shape.Idx.first (h1.symm ▸ Nat.one_pos))))) Q) :
    St c q arg1 arg2 arg3 arg4 arg5 arg6 arg7 arg8 b ⊢ wp frame (wpE (defs₀ (F := F)) 𝒱₀ (c : Thread nD τ) none) E (smemLoad arg1 r h1 hp >>= k) Q := by
  rw [smemLoad, smemLoadElt_bind]
  unfold St at h ⊢
  iintro ⟨H1, H2, H3, H4, H5, H6, H7, H8⟩
  iapply (smem_owns 𝒱₀ (c : Thread nD τ) none E) $$ H1
  iintro H1
  iapply h
  iframe

theorem asm {P : sProp 𝕄} {p : Prop} {d : Decidable p} {k : PLift p → Prog (TpuEff nD τ sig (Elt F) Λ₀ .tc) α} {Q : α → sProp 𝕄} (hp : p)
    (h : P ⊢ wp frame (wpE (defs₀ (F := F)) 𝒱₀ (c : Thread nD τ) none) E (k ⟨hp⟩) Q) :
    P ⊢ wp frame (wpE (defs₀ (F := F)) 𝒱₀ (c : Thread nD τ) none) E (.op (.assume p d) k) Q := by
  rw [wp_assume_of 𝒱₀ (c : Thread nD τ) none E hp]; exact h

/-- A program with a named rest. -/
theorem rest {β : Type} {P R : sProp 𝕄} {k : Unit → Prog (TpuEff nD τ sig (Elt F) Λ₀ .tc) α} {f : (Unit → Prog (TpuEff nD τ sig (Elt F) Λ₀ .tc) α) → Prog (TpuEff nD τ sig (Elt F) Λ₀ .tc) α}
    {Q : α → sProp 𝕄} (hf : ∀ jp : Unit → Prog (TpuEff nD τ sig (Elt F) Λ₀ .tc) α, (R ⊢ wp frame (wpE (defs₀ (F := F)) 𝒱₀ (c : Thread nD τ) none) E (jp ⟨⟩) Q) →
      P ⊢ wp frame (wpE (defs₀ (F := F)) 𝒱₀ (c : Thread nD τ) none) E (f jp) Q)
    (hk : R ⊢ wp frame (wpE (defs₀ (F := F)) 𝒱₀ (c : Thread nD τ) none) E (k ⟨⟩) Q) :
    P ⊢ wp frame (wpE (defs₀ (F := F)) 𝒱₀ (c : Thread nD τ) none) E (f k) Q := hf k hk

/-- A counted loop by its invariant. -/
theorem loop_ {P : sProp 𝕄} {L : Scf.Loop 32} {hok : L.OK} {body : Fin L.trips → Unit → Prog (TpuEff nD τ sig (Elt F) Λ₀ .tc) Unit} (I : ℕ → sProp 𝕄)
    {kk : Unit → Prog (TpuEff nD τ sig (Elt F) Λ₀ .tc) α} {Q : α → sProp 𝕄} (h0 : P ⊢ I 0)
    (hb : ∀ k : Fin L.trips, I k ⊢ wp frame (wpE (defs₀ (F := F)) 𝒱₀ (c : Thread nD τ) none) E (body k ⟨⟩) (fun _ => I (k.val + 1)))
    (hK : I L.trips ⊢ wp frame (wpE (defs₀ (F := F)) 𝒱₀ (c : Thread nD τ) none) E (kk ⟨⟩) Q) :
    P ⊢ wp frame (wpE (defs₀ (F := F)) 𝒱₀ (c : Thread nD τ) none) E (L.for hok ⟨⟩ body >>= kk) Q := by
  iintro H
  ihave H := h0 $$ H
  iapply (Scf.wp_for_bind frame (wpE (defs₀ (F := F)) 𝒱₀ (c : Thread nD τ) none) E L.lb L.ub L.st hok ⟨⟩ body (fun k _ => I k)
    (fun k _ => hb k) (kk := kk) (Q := Q)) $$ H
  iintro %acc H
  iapply hK $$ H

theorem ret_ {P : sProp 𝕄} {a : α} {Q : α → sProp 𝕄} (h : P ⊢ Q a) : P ⊢ wp frame (wpE (defs₀ (F := F)) 𝒱₀ (c : Thread nD τ) none) E (.ret a) Q :=
  h.trans fupd_intro

theorem bind_ {β : Type} {P : sProp 𝕄} {p : Prog (TpuEff nD τ sig (Elt F) Λ₀ .tc) β} {k : β → Prog (TpuEff nD τ sig (Elt F) Λ₀ .tc) α} {Q : α → sProp 𝕄}
    (h : P ⊢ wp frame (wpE (defs₀ (F := F)) 𝒱₀ (c : Thread nD τ) none) E p (fun a => wp frame (wpE (defs₀ (F := F)) 𝒱₀ (c : Thread nD τ) none) E (k a) Q)) : P ⊢ wp frame (wpE (defs₀ (F := F)) 𝒱₀ (c : Thread nD τ) none) E (p >>= k) Q := by
  rw [wp_bind]; exact h

end Steps

end Cert.KernelIdeal.Hand
-- ==== Proof.Expert.lean ====
/- One chunk, one expert's weights, one expert: what each leaves in the buffers. -/
module

public import proofs.«01_k».proof.Proof.Steps

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig Unit (Elt F) ℕ (UR sig nD τ) ℕ

variable (c : Dev nD) (E : Set ℕ) (q : PosShare TreeShare)
variable (arg1 : Memref sig .tc .smem S8 .i32) (harg1 : arg1.IsWhole) (arg2 : Memref sig .tc .vmem S96x16x2048 .bf16) (harg2 : arg2.IsWhole) (arg3 : Memref sig .tc .vmem S8x1024x512 .i8) (harg3 : arg3.IsWhole) (arg4 : Memref sig .tc .vmem S8x16x512 .f32) (harg4 : arg4.IsWhole) (arg5 : Memref sig .tc .vmem S96x16x512 .bf16) (harg5 : arg5.IsWhole) (arg6 : Memref sig .tc .vmem S96x16x2048 .bf16) (harg6 : arg6.IsWhole) (arg7 : Memref sig .tc .vmem S96x16x128 .f32) (harg7 : arg7.IsWhole) (arg8 : Memref sig .tc .vmem S2048x512 .bf16) (harg8 : arg8.IsWhole)

theorem word_eq {w : BitVec 32} {n : ℕ} (h : IsInt w n) (hn : n < 2 ^ 31) : w = BitVec.ofNat 32 n := by
  have h1 := Affine.toNat_of h (by omega)
  apply BitVec.eq_of_toNat_eq
  rw [BitVec.toNat_ofNat, Nat.mod_eq_of_lt (by omega)]
  omega

theorem whole_emb (j : S2048x512.Idx) (h) : (Rect.unit (s := S2048x512) ![0, 0] S2048x512.size h).emb j = j := by
  funext a
  apply Fin.ext
  match a with
  | 0 => simp [Rect.emb, Rect.unit]
  | 1 => simp [Rect.emb, Rect.unit]

theorem chunk_eq {st en tt : BitVec 32} {s n t : ℕ} (ht : t ≤ 88) (hst : st = BitVec.ofNat 32 s) (hen : en = BitVec.ofNat 32 n)
    (htt : tt = BitVec.ofNat 32 t) {off : Fin 3 → ℕ} (ho : off = ![t, 0, 0]) (A : S96x16x2048.Idx → Elt F .bf16)
    (C : S96x16x128.Idx → Elt F .f32) (B : S2048x512.Idx → Elt F .bf16) (Y : S96x16x512.Idx → Elt F .bf16) (h6) (h7) (h5) (h8) :
    patch (s := S96x16x512) off S8x16x512.size
      (chunkPay st en tt (fun j => A ((Rect.unit (s := S96x16x2048) off S8x16x2048.size h6).emb j))
        (fun j => B ((Rect.unit (s := S2048x512) ![0, 0] S2048x512.size h8).emb j))
        (fun j => C ((Rect.unit (s := S96x16x128) off S8x16x128.size h7).emb j))
        (fun j => Y ((Rect.unit (s := S96x16x512) off S8x16x512.size h5).emb j))) Y = chunkF s n t ht A C B Y := by
  subst ho hst hen htt
  have hB : (fun j => B ((Rect.unit (s := S2048x512) ![0, 0] S2048x512.size h8).emb j)) = B := by
    funext j; exact congrArg B (whole_emb j h8)
  exact congrArg (fun B' => chunkF s n t ht A C B' Y) hB

theorem wp_chunk {st en sz : BitVec 32} {s n : ℕ} (hs : IsInt st s) (hn : IsInt en n) (hsn : s ≤ n) (hT : n ≤ 1536)
    (hc : Chk st en sz) (h : k0_cond2 sz = 1#1) (k : Fin (mainLoop st en).trips) (b : Bufs F) :
    St c q arg1 arg2 arg3 arg4 arg5 arg6 arg7 arg8 b ⊢ wp frame (wpE (defs₀ (F := F)) 𝒱₀ (c : Thread nD τ) none) E (chunkBody arg3 arg4 arg5 harg5 arg6 arg7 arg8 harg8 st en sz hc h k ⟨⟩)
      (fun _ => St c q arg1 arg2 arg3 arg4 arg5 arg6 arg7 arg8 { b with Y := chunkF s n (ttN s k) (ttN_le s k) b.A b.C b.B b.Y }) := by
  refine ld6 c E q ?_
  refine ld8 c E q ?_
  refine ld7 c E q ?_
  refine ld5 c E q ?_
  refine ld5 c E q ?_
  refine st5 c E q ?_
  rw [← chunk_eq (ttN_le s k) (word_eq hs (by omega)) (word_eq hn (by omega)) (word_eq (tt_int hs hn hsn hT k) (by have := ttN_le s k; omega))
    (offW_eq hs hn hsn hT k) b.A b.C b.B b.Y (hc.2.1 k h) (hc.2.2.1 k h) (hc.2.2.2.1 k h) inb_S2048x512_S2048x512_0_0]
  exact ret_ c E (Entails.refl _)

theorem wp_dqStep (e g : Fin 8) (hlo) (hhi) (O : S2048x512.Idx → Elt F .bf16) (b : Bufs F) {α : Type} {k : PUnit → Prog (TpuEff nD τ sig (Elt F) Λ₀ .tc) α} {Q : α → sProp 𝕄}
    (h : St c q arg1 arg2 arg3 arg4 arg5 arg6 arg7 arg8 { b with B := mixW (g.val + 1) (wbOf b.W b.S e) O } ⊢ wp frame (wpE (defs₀ (F := F)) 𝒱₀ (c : Thread nD τ) none) E (k ⟨⟩) Q) :
    St c q arg1 arg2 arg3 arg4 arg5 arg6 arg7 arg8 { b with B := mixW g.val (wbOf b.W b.S e) O } ⊢ wp frame (wpE (defs₀ (F := F)) 𝒱₀ (c : Thread nD τ) none) E (dqStep arg3 arg4 arg5 harg5 arg6 arg7 arg8 harg8 e g hlo hhi >>= k) Q := by
  rw [← mixW_step b.W b.S e g O] at h
  refine ld3 c E q ?_
  refine ld4 c E q ?_
  refine ld4 c E q ?_
  refine ld8 c E q ?_
  refine st8 c E q ?_
  refine ld8 c E q ?_
  refine st8 c E q ?_
  exact h

theorem wp_head (e : Fin 8) (st en : BitVec 32) (b : Bufs F) {α : Type} {k : (Σ' (v355 : BitVec 32) (c0_i32_168 : BitVec 32) (v377 : BitVec 32), BitVec 32) → Prog (TpuEff nD τ sig (Elt F) Λ₀ .tc) α} {Q : α → sProp 𝕄}
    (h : St c q arg1 arg2 arg3 arg4 arg5 arg6 arg7 arg8 { b with B := wbOf b.W b.S e } ⊢ wp frame (wpE (defs₀ (F := F)) 𝒱₀ (c : Thread nD τ) none) E (k ⟨tile0 st, 0#32, nChunk st en, 1#32⟩) Q) :
    St c q arg1 arg2 arg3 arg4 arg5 arg6 arg7 arg8 b ⊢ wp frame (wpE (defs₀ (F := F)) 𝒱₀ (c : Thread nD τ) none) E (headProg arg3 arg4 arg5 harg5 arg6 arg7 arg8 harg8 e st en >>= k) Q := by
  rw [← mixW_full (wbOf b.W b.S e) b.B] at h
  have hb : b = { b with B := mixW 0 (wbOf b.W b.S e) b.B } := by rw [mixW_zero]
  rw [hb]
  simp only [headProg, dqProg, bind_assoc, pure_bind]
  refine wp_dqStep c E q _ _ _ _ _ harg5 _ _ _ harg8 e 0 _ _ b.B b ?_
  refine wp_dqStep c E q _ _ _ _ _ harg5 _ _ _ harg8 e 1 _ _ b.B b ?_
  refine wp_dqStep c E q _ _ _ _ _ harg5 _ _ _ harg8 e 2 _ _ b.B b ?_
  refine wp_dqStep c E q _ _ _ _ _ harg5 _ _ _ harg8 e 3 _ _ b.B b ?_
  refine wp_dqStep c E q _ _ _ _ _ harg5 _ _ _ harg8 e 4 _ _ b.B b ?_
  refine wp_dqStep c E q _ _ _ _ _ harg5 _ _ _ harg8 e 5 _ _ b.B b ?_
  refine wp_dqStep c E q _ _ _ _ _ harg5 _ _ _ harg8 e 6 _ _ b.B b ?_
  refine wp_dqStep c E q _ _ _ _ _ harg5 _ _ _ harg8 e 7 _ _ b.B b ?_
  exact h

/-- One expert: its rows from `s` to `n`. -/
theorem wp_expert (e : Fin 8) {st en sz : BitVec 32} {s n : ℕ} (hs : IsInt st s) (hn : IsInt en n) (hsn : s ≤ n) (hT : n ≤ 1536)
    (hz : IsInt sz ((n - s : ℕ) : Int)) (hc : Chk st en sz) (b : Bufs F) {α : Type} {Q : α → sProp 𝕄} {cnd : BitVec 1} (hcnd : cnd = k0_cond2 sz)
    {part : Prog (TpuEff nD τ sig (Elt F) Λ₀ .tc) (Σ' (v355 : BitVec 32) (c0_i32_168 : BitVec 32) (v377 : BitVec 32), BitVec 32)} (hpart : part = headProg arg3 arg4 arg5 harg5 arg6 arg7 arg8 harg8 e st en)
    {kk : cnd = 1#1 → (Σ' (v355 : BitVec 32) (c0_i32_168 : BitVec 32) (v377 : BitVec 32), BitVec 32) → Prog (TpuEff nD τ sig (Elt F) Λ₀ .tc) α} {jp : Prog (TpuEff nD τ sig (Elt F) Λ₀ .tc) α}
    (hkk : ∀ h : cnd = 1#1, kk h ⟨tile0 st, 0#32, nChunk st en, 1#32⟩ =
      (do (mainLoop st en).for (hc.1 (hcnd ▸ h)) ⟨⟩ (chunkBody arg3 arg4 arg5 harg5 arg6 arg7 arg8 harg8 st en sz hc (hcnd ▸ h))
          (remLoop st en).for (hc.2.2.2.2.2.1 (hcnd ▸ h)) ⟨⟩ (restBody arg3 arg4 arg5 harg5 arg6 arg7 arg8 harg8 st en sz hc (hcnd ▸ h))
          jp))
    (hj : ∀ B, St c q arg1 arg2 arg3 arg4 arg5 arg6 arg7 arg8 { b with Y := expF s n b.A b.C (wbOf b.W b.S e) b.Y, B := B } ⊢ wp frame (wpE (defs₀ (F := F)) 𝒱₀ (c : Thread nD τ) none) E (jp) Q) :
    St c q arg1 arg2 arg3 arg4 arg5 arg6 arg7 arg8 b ⊢ wp frame (wpE (defs₀ (F := F)) 𝒱₀ (c : Thread nD τ) none) E (if h : cnd = 1#1 then part >>= kk h else jp) Q := by
  subst hcnd
  by_cases h : k0_cond2 sz = 1#1
  · rw [dif_pos h, hpart]
    refine wp_head c E q _ _ _ _ _ harg5 _ _ _ harg8 e st en b ?_
    rw [hkk h]
    have hpos : 0 < n - s := (cond_iff hz).mp h
    have hj' := hj (wbOf b.W b.S e)
    simp only [expF, if_pos hpos] at hj'
    refine loop_ c E (fun k => St c q arg1 arg2 arg3 arg4 arg5 arg6 arg7 arg8 { b with Y := chunksF s n b.A b.C (wbOf b.W b.S e) b.Y k, B := wbOf b.W b.S e }) (Entails.refl _)
      (fun k => wp_chunk c E q _ _ _ _ _ harg5 _ _ _ harg8 hs hn hsn hT hc h k _) ?_
    refine loop_ c E (fun _ => St c q arg1 arg2 arg3 arg4 arg5 arg6 arg7 arg8 { b with Y := chunksF s n b.A b.C (wbOf b.W b.S e) b.Y (mainLoop st en).trips, B := wbOf b.W b.S e }) (Entails.refl _)
      (fun k => (Scf.rem_no_trip _ _ k).elim) ?_
    rw [mainTrips hs hn hsn hT]
    exact hj'
  · rw [dif_neg h]
    have hpos : ¬ 0 < n - s := fun hp => h ((cond_iff hz).mpr hp)
    have hj' := hj b.B
    simp only [expF, if_neg hpos] at hj'
    exact hj'

end Cert.KernelIdeal.Hand
-- ==== Proof.Root.lean ====
/- The whole body at one grid point: the quantisation of the rows at the first, then the eight experts. -/
module

public import proofs.«01_k».proof.Proof.Expert

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig Unit (Elt F) ℕ (UR sig nD τ) ℕ

variable (c : Dev nD) (E : Set ℕ) (q : PosShare TreeShare)
variable (arg1 : Memref sig .tc .smem S8 .i32) (harg1 : arg1.IsWhole) (arg2 : Memref sig .tc .vmem S96x16x2048 .bf16) (harg2 : arg2.IsWhole) (arg3 : Memref sig .tc .vmem S8x1024x512 .i8) (harg3 : arg3.IsWhole) (arg4 : Memref sig .tc .vmem S8x16x512 .f32) (harg4 : arg4.IsWhole) (arg5 : Memref sig .tc .vmem S96x16x512 .bf16) (harg5 : arg5.IsWhole) (arg6 : Memref sig .tc .vmem S96x16x2048 .bf16) (harg6 : arg6.IsWhole) (arg7 : Memref sig .tc .vmem S96x16x128 .f32) (harg7 : arg7.IsWhole) (arg8 : Memref sig .tc .vmem S2048x512 .bf16) (harg8 : arg8.IsWhole)

theorem off1_eq (t : Fin k0_t1_loop.trips) : k0_off1 t = ![2 * t.val, 0, 0] := by
  have ht : t.val < 48 := lt_of_lt_of_eq t.isLt (by decide)
  have h : IsInt (Scalar.muli (Scf.iv 0#32 1#32 t.val) 2#32) ((2 * t.val : ℕ) : Int) :=
    Affine.muli (Affine.iv (e := (t.val : Int)) (Affine.ofNat (e := 0) 0 ⟨rfl, by decide⟩) (Affine.ofNat (e := 1) 1 ⟨rfl, by decide⟩) t.val
      ⟨by omega, by omega, by omega⟩) (Affine.ofNat (e := 2) 2 ⟨rfl, by decide⟩) ⟨by omega, by omega, by omega⟩
  have h1 := Affine.toNat_of h (by omega)
  have h2 : (Scalar.indexCast (Scalar.muli (Scf.iv 0#32 1#32 t.val) 2#32) : Index).toNat = 2 * t.val := by
    show (Scalar.muli (Scf.iv 0#32 1#32 t.val) 2#32).toNat = _
    omega
  show ![(Scalar.indexCast (Scalar.muli (Scf.iv 0#32 1#32 t.val) 2#32) : Index).toNat, 0, 0] = _
  rw [h2]

theorem off2_eq (t : Fin k0_t1_loop.trips) : k0_off2 t = ![2 * t.val, 0, 0] := off1_eq t

theorem quantA_eq {off : Fin 3 → ℕ} {t : ℕ} (ht : t < 48) (ho : off = ![2 * t, 0, 0]) (X : S96x16x2048.Idx → Elt F .bf16) (O) (h) :
    patch (s := S96x16x2048) off S2x16x2048.size (qVec (fun j => X ((Rect.unit (s := S96x16x2048) off S2x16x2048.size h).emb j))) (mixT (L := 2048) t (aOf X) O)
      = mixT (L := 2048) (t + 1) (aOf X) O := by
  subst ho; exact aOf_step X t ht O

theorem quantC_eq {off off' : Fin 3 → ℕ} {t : ℕ} (ht : t < 48) (ho : off = ![2 * t, 0, 0]) (ho' : off' = ![2 * t, 0, 0]) (X : S96x16x2048.Idx → Elt F .bf16) (O) (h) :
    patch (s := S96x16x128) off' S2x16x128.size (scVec (fun j => X ((Rect.unit (s := S96x16x2048) off S2x16x2048.size h).emb j))) (mixT (L := 128) t (scOf X) O)
      = mixT (L := 128) (t + 1) (scOf X) O := by
  subst ho ho'; exact scOf_step X t ht O

theorem wp_pair (i : grid0.Coords) (h1 : k0_cond1 i = 1#1) (t : Fin k0_t1_loop.trips) (b : Bufs F) (OA OC) :
    St c q arg1 arg2 arg3 arg4 arg5 arg6 arg7 arg8 { b with A := mixT (L := 2048) t.val (aOf b.X) OA, C := mixT (L := 128) t.val (scOf b.X) OC }
      ⊢ wp frame (wpE (defs₀ (F := F)) 𝒱₀ (c : Thread nD τ) none) E (k0_t1_body i arg1 harg1 arg2 harg2 arg3 harg3 arg4 harg4 arg5 harg5 arg6 harg6 arg7 harg7 arg8 harg8 h1 t ⟨⟩)
        (fun _ => St c q arg1 arg2 arg3 arg4 arg5 arg6 arg7 arg8 { b with A := mixT (L := 2048) (t.val + 1) (aOf b.X) OA, C := mixT (L := 128) (t.val + 1) (scOf b.X) OC }) := by
  have ht : t.val < 48 := lt_of_lt_of_eq t.isLt (by decide)
  rw [← quantA_eq ht (off1_eq t) b.X OA (k0_off1_inb i t h1), ← quantC_eq ht (off1_eq t) (off2_eq t) b.X OC (k0_off1_inb i t h1)]
  unfold k0_t1_body
  rw [k0_part1_eq_skeleton, k0_part2_eq_skeleton, k0_part3_eq_skeleton]
  refine ld2 c E q ?_
  refine ld6 c E q ?_
  refine st6 c E q ?_
  refine ld7 c E q ?_
  refine st7 c E q ?_
  exact ret_ c E (Entails.refl _)

theorem wp_quant (i : grid0.Coords) (h1 : k0_cond1 i = 1#1) (b : Bufs F) {α : Type} {k : Unit → Prog (TpuEff nD τ sig (Elt F) Λ₀ .tc) α} {Q : α → sProp 𝕄} {hok}
    (h : St c q arg1 arg2 arg3 arg4 arg5 arg6 arg7 arg8 { b with A := aOf b.X, C := scOf b.X } ⊢ wp frame (wpE (defs₀ (F := F)) 𝒱₀ (c : Thread nD τ) none) E (k ⟨⟩) Q) :
    St c q arg1 arg2 arg3 arg4 arg5 arg6 arg7 arg8 b ⊢ wp frame (wpE (defs₀ (F := F)) 𝒱₀ (c : Thread nD τ) none) E (k0_t1_loop.for hok ⟨⟩ (k0_t1_body i arg1 harg1 arg2 harg2 arg3 harg3 arg4 harg4 arg5 harg5 arg6 harg6 arg7 harg7 arg8 harg8 h1) >>= k) Q := by
  refine loop_ c E (fun k => St c q arg1 arg2 arg3 arg4 arg5 arg6 arg7 arg8 { b with A := mixT (L := 2048) k (aOf b.X) b.A, C := mixT (L := 128) k (scOf b.X) b.C }) ?_
    (fun t => wp_pair c E q arg1 harg1 arg2 harg2 arg3 harg3 arg4 harg4 arg5 harg5 arg6 harg6 arg7 harg7 arg8 harg8 i h1 t b b.A b.C) ?_
  · rw [mixT_zero, mixT_zero]
  · have ht : k0_t1_loop.trips = 48 := by decide
    rw [ht, mixT_full, mixT_full]
    exact h

/-- The buffers after the quantisation and `e` experts. -/
def bst (g : ℕ → ℕ) (b : Bufs F) (e : ℕ) (B : S2048x512.Idx → Elt F .bf16) : Bufs F :=
  { b with A := aOf b.X, C := scOf b.X, Y := blockF g b.X b.W b.S b.Y e, B := B }

theorem rowsTo_mono (g : ℕ → ℕ) {a b : ℕ} (h : a ≤ b) : rowsTo g a ≤ rowsTo g b := by
  induction b, h using Nat.le_induction with
  | base => exact le_refl _
  | succ b _ ih => exact ih.trans (Nat.le_add_right _ _)

/-- One expert from the state before it to the state after it. -/
theorem wp_nth (g : ℕ → ℕ) (hsum : rowsTo g 8 ≤ 1536) (e : Fin 8) {st en sz : BitVec 32} (hs : IsInt st (rowsTo g e.val)) (hn : IsInt en (rowsTo g (e.val + 1)))
    (hz : IsInt sz (g e.val : ℕ)) (hc : Chk st en sz) (b : Bufs F) (B) {α : Type} {Q : α → sProp 𝕄} {cnd : BitVec 1} (hcnd : cnd = k0_cond2 sz)
    {part : Prog (TpuEff nD τ sig (Elt F) Λ₀ .tc) (Σ' (v355 : BitVec 32) (c0_i32_168 : BitVec 32) (v377 : BitVec 32), BitVec 32)} (hpart : part = headProg arg3 arg4 arg5 harg5 arg6 arg7 arg8 harg8 e st en)
    {kk : cnd = 1#1 → (Σ' (v355 : BitVec 32) (c0_i32_168 : BitVec 32) (v377 : BitVec 32), BitVec 32) → Prog (TpuEff nD τ sig (Elt F) Λ₀ .tc) α} {jp : Prog (TpuEff nD τ sig (Elt F) Λ₀ .tc) α}
    (hkk : ∀ h : cnd = 1#1, kk h ⟨tile0 st, 0#32, nChunk st en, 1#32⟩ =
      (do (mainLoop st en).for (hc.1 (hcnd ▸ h)) ⟨⟩ (chunkBody arg3 arg4 arg5 harg5 arg6 arg7 arg8 harg8 st en sz hc (hcnd ▸ h))
          (remLoop st en).for (hc.2.2.2.2.2.1 (hcnd ▸ h)) ⟨⟩ (restBody arg3 arg4 arg5 harg5 arg6 arg7 arg8 harg8 st en sz hc (hcnd ▸ h))
          jp))
    (hj : ∀ B, St c q arg1 arg2 arg3 arg4 arg5 arg6 arg7 arg8 (bst g b (e.val + 1) B) ⊢ wp frame (wpE (defs₀ (F := F)) 𝒱₀ (c : Thread nD τ) none) E (jp) Q) :
    St c q arg1 arg2 arg3 arg4 arg5 arg6 arg7 arg8 (bst g b e.val B) ⊢ wp frame (wpE (defs₀ (F := F)) 𝒱₀ (c : Thread nD τ) none) E (if h : cnd = 1#1 then part >>= kk h else jp) Q := by
  have he : Fin.ofNat 8 e.val = e := by apply Fin.ext; exact Nat.mod_eq_of_lt e.isLt
  refine wp_expert c E q _ _ _ _ _ harg5 _ _ _ harg8 e hs hn (Nat.le_add_right _ _) ((rowsTo_mono g e.isLt).trans hsum) ?_ hc _ hcnd hpart hkk fun B' => ?_
  · rw [rowsTo, Nat.add_sub_cancel_left]; exact hz
  · have h := hj B'
    simp only [bst, blockF, he] at h
    exact h

theorem word_int (g : ℕ → ℕ) (hsum : rowsTo g 8 ≤ 1536) (e : ℕ) (he : e < 8) {T : S8.Idx → BitVec 32} (hT : ∀ y : S8.Idx, T y = BitVec.ofNat 32 (g (y 0).val)) (y : S8.Idx)
    (hy : (y 0).val = e) : IsInt (T y) (g e : ℕ) := by
  subst hy
  rw [hT y]
  have h1 : rowsTo g ((y 0).val + 1) ≤ 1536 := (rowsTo_mono g he).trans hsum
  have h2 : g (y 0).val ≤ 1536 := (Nat.le_add_left _ _).trans h1
  exact Affine.ofNat _ ⟨rfl, by omega⟩

theorem wp_first (i : grid0.Coords) (b : Bufs F) {α : Type} {Q : α → sProp 𝕄} (hA : ¬ k0_cond1 i = 1#1 → b.A = aOf b.X ∧ b.C = scOf b.X)
    {jp : Prog (TpuEff nD τ sig (Elt F) Λ₀ .tc) α} {hok : k0_cond1 i = 1#1 → k0_t1_loop.OK} (g : ℕ → ℕ) (h : St c q arg1 arg2 arg3 arg4 arg5 arg6 arg7 arg8 (bst g b 0 b.B) ⊢ wp frame (wpE (defs₀ (F := F)) 𝒱₀ (c : Thread nD τ) none) E (jp) Q) :
    St c q arg1 arg2 arg3 arg4 arg5 arg6 arg7 arg8 b ⊢ wp frame (wpE (defs₀ (F := F)) 𝒱₀ (c : Thread nD τ) none) E (if h1 : k0_cond1 i = 1#1 then (k0_t1_loop.for (hok h1) ⟨⟩ (k0_t1_body i arg1 harg1 arg2 harg2 arg3 harg3 arg4 harg4 arg5 harg5 arg6 harg6 arg7 harg7 arg8 harg8 h1) >>= fun _ => jp) else jp) Q := by
  by_cases h1 : k0_cond1 i = 1#1
  · rw [dif_pos h1]
    exact wp_quant c E q arg1 harg1 arg2 harg2 arg3 harg3 arg4 harg4 arg5 harg5 arg6 harg6 arg7 harg7 arg8 harg8 i h1 b h
  · rw [dif_neg h1]
    obtain ⟨e1, e2⟩ := hA h1
    have hb : bst g b 0 b.B = b := by
      unfold bst blockF; rw [← e1, ← e2]
    rw [hb] at h
    exact h

/-- The size of expert `e`, and what follows from it. -/
theorem wp_size (g : ℕ → ℕ) (hsum : rowsTo g 8 ≤ 1536) (b : Bufs F) (hT : ∀ y : S8.Idx, b.T y = BitVec.ofNat 32 (g (y 0).val)) (e : ℕ) (he : e < 8)
    {st : BitVec 32} (hs : IsInt st (rowsTo g e : ℕ)) (B) {inb : ∀ a, (![e] : Fin 1 → ℕ) a + S1.size a ≤ S8.size a}
    {h1 : (Rect.unit (s := S8) ![e] S1.size inb).shape.numel = 1} {hp : EltTy.packing .i32 = 1}
    {α : Type} {k : Elt F .i32 → Prog (TpuEff nD τ sig (Elt F) Λ₀ .tc) α} {Q : α → sProp 𝕄}
    (h : ∀ v : BitVec 32, IsInt v (g e : ℕ) → IsInt (Scalar.addi st v) (rowsTo g (e + 1) : ℕ) → Chk st (Scalar.addi st v) v →
      St c q arg1 arg2 arg3 arg4 arg5 arg6 arg7 arg8 (bst g b e B) ⊢ wp frame (wpE (defs₀ (F := F)) 𝒱₀ (c : Thread nD τ) none) E (k v) Q) :
    St c q arg1 arg2 arg3 arg4 arg5 arg6 arg7 arg8 (bst g b e B) ⊢ wp frame (wpE (defs₀ (F := F)) 𝒱₀ (c : Thread nD τ) none) E (smemLoad arg1 (Rect.unit (s := S8) ![e] S1.size inb) h1 hp >>= k) Q := by
  refine ldT c E q ?_
  have hr : rowsTo g (e + 1) ≤ 1536 := (rowsTo_mono g he).trans hsum
  have hz : IsInt _ (g e : ℕ) := word_int g hsum e he hT ((Rect.unit (s := S8) ![e] S1.size inb).emb (Shape.Idx.first (h1.symm ▸ Nat.one_pos)))
    (by
      generalize Shape.Idx.first (s := (Rect.unit (s := S8) ![e] S1.size inb).shape) _ = j
      have hj : (j 0).val < 1 := (j 0).isLt
      show e + 1 * (j 0).val = e
      omega)
  have hn := add_int hs hz hr
  exact h _ hz hn (chk_of _ hs hn (Nat.le_add_right _ _) hr)

theorem wp_part76 (i : grid0.Coords) (b : Bufs F) (g : ℕ → ℕ) (hsum : rowsTo g 8 ≤ 1536) (hT : ∀ y : S8.Idx, b.T y = BitVec.ofNat 32 (g (y 0).val))
    (hA : ¬ k0_cond1 i = 1#1 → b.A = aOf b.X ∧ b.C = scOf b.X) {Q : _ → sProp 𝕄}
    (h : ∀ v0 v1 v2 v3 v4 w4 B, IsInt v0 (g 0 : ℕ) → IsInt v1 (g 1 : ℕ) → IsInt v2 (g 2 : ℕ) → IsInt v3 (g 3 : ℕ) → IsInt v4 (g 4 : ℕ) →
      IsInt (Scalar.addi 0#32 v0) (rowsTo g 1 : ℕ) → IsInt (Scalar.addi (Scalar.addi 0#32 v0) v1) (rowsTo g 2 : ℕ) →
      IsInt (Scalar.addi (Scalar.addi (Scalar.addi 0#32 v0) v1) v2) (rowsTo g 3 : ℕ) →
      IsInt (Scalar.addi (Scalar.addi (Scalar.addi (Scalar.addi 0#32 v0) v1) v2) v3) (rowsTo g 4 : ℕ) →
      IsInt (Scalar.addi (Scalar.addi (Scalar.addi (Scalar.addi (Scalar.addi 0#32 v0) v1) v2) v3) v4) (rowsTo g 5 : ℕ) →
      w4 = Scalar.addi (Scalar.addi (Scalar.addi (Scalar.addi (Scalar.addi 0#32 v0) v1) v2) v3) v4 →
      St c q arg1 arg2 arg3 arg4 arg5 arg6 arg7 arg8 (bst g b 5 B) ⊢ Q ⟨v0, v1, v2, v3, v4, w4⟩) :
    St c q arg1 arg2 arg3 arg4 arg5 arg6 arg7 arg8 b ⊢ wp frame (wpE (defs₀ (F := F)) 𝒱₀ (c : Thread nD τ) none) E (k0_part76 i arg1 harg1 arg2 harg2 arg3 harg3 arg4 harg4 arg5 harg5 arg6 harg6 arg7 harg7 arg8 harg8) Q := by
  rw [k0_part76_eq_skeleton]
  unfold k0_part76_skel
  refine wp_first c E q arg1 harg1 arg2 harg2 arg3 harg3 arg4 harg4 arg5 harg5 arg6 harg6 arg7 harg7 arg8 harg8 i b hA g ?_
  have s0 : IsInt (0#32) (rowsTo g 0 : ℕ) := Affine.ofNat 0 ⟨rfl, by decide⟩
  refine wp_size c E q _ _ _ _ _ _ _ _ g hsum b hT 0 (by decide) s0 _ fun v0 z0 n0 c0 => ?_
  refine asm c E c0 ?_
  refine wp_nth c E q _ _ _ _ _ harg5 _ _ _ harg8 g hsum 0 s0 n0 z0 c0 b _ rfl (part12_eq ..) (fun _ => rfl) fun B0 => ?_
  refine wp_size c E q _ _ _ _ _ _ _ _ g hsum b hT 1 (by decide) n0 _ fun v1 z1 n1 c1 => ?_
  refine asm c E c1 ?_
  refine wp_nth c E q _ _ _ _ _ harg5 _ _ _ harg8 g hsum 1 n0 n1 z1 c1 b _ rfl (part21_eq ..) (fun _ => rfl) fun B1 => ?_
  refine wp_size c E q _ _ _ _ _ _ _ _ g hsum b hT 2 (by decide) n1 _ fun v2 z2 n2 c2 => ?_
  refine asm c E c2 ?_
  refine wp_nth c E q _ _ _ _ _ harg5 _ _ _ harg8 g hsum 2 n1 n2 z2 c2 b _ rfl (part30_eq ..) (fun _ => rfl) fun B2 => ?_
  refine wp_size c E q _ _ _ _ _ _ _ _ g hsum b hT 3 (by decide) n2 _ fun v3 z3 n3 c3 => ?_
  refine asm c E c3 ?_
  refine wp_nth c E q _ _ _ _ _ harg5 _ _ _ harg8 g hsum 3 n2 n3 z3 c3 b _ rfl (part39_eq ..) (fun _ => rfl) fun B3 => ?_
  refine wp_size c E q _ _ _ _ _ _ _ _ g hsum b hT 4 (by decide) n3 _ fun v4 z4 n4 c4 => ?_
  refine asm c E c4 ?_
  refine wp_nth c E q _ _ _ _ _ harg5 _ _ _ harg8 g hsum 4 n3 n4 z4 c4 b _ rfl (part48_eq ..) (fun _ => rfl) fun B4 => ?_
  exact ret_ c E (h v0 v1 v2 v3 v4 _ B4 z0 z1 z2 z3 z4 n0 n1 n2 n3 n4 rfl)

/-- The body at a grid point: the buffers after all eight experts. -/
theorem wp_body (i : grid0.Coords) (b : Bufs F) (g : ℕ → ℕ) (hsum : rowsTo g 8 ≤ 1536) (hT : ∀ y : S8.Idx, b.T y = BitVec.ofNat 32 (g (y 0).val))
    (hA : ¬ k0_cond1 i = 1#1 → b.A = aOf b.X ∧ b.C = scOf b.X) {Q : PUnit → sProp 𝕄} (h : ∀ B, St c q arg1 arg2 arg3 arg4 arg5 arg6 arg7 arg8 (bst g b 8 B) ⊢ Q ⟨⟩) :
    St c q arg1 arg2 arg3 arg4 arg5 arg6 arg7 arg8 b ⊢ wp frame (wpE (defs₀ (F := F)) 𝒱₀ (c : Thread nD τ) none) E (cc0_moe_gmm i arg1 harg1 arg2 harg2 arg3 harg3 arg4 harg4 arg5 harg5 arg6 harg6 arg7 harg7 arg8 harg8) Q := by
  rw [cc0_moe_gmm_eq_skeleton]
  unfold cc0_moe_gmm_skel
  refine bind_ c E (wp_part76 c E q arg1 harg1 arg2 harg2 arg3 harg3 arg4 harg4 arg5 harg5 arg6 harg6 arg7 harg7 arg8 harg8 i b g hsum hT hA fun v0 v1 v2 v3 v4 w4 B z0 z1 z2 z3 z4 n0 n1 n2 n3 n4 hw => ?_)
  subst hw
  refine wp_size c E q _ _ _ _ _ _ _ _ g hsum b hT 5 (by decide) n4 _ fun v5 z5 n5 c5 => ?_
  refine asm c E c5 ?_
  refine wp_nth c E q _ _ _ _ _ harg5 _ _ _ harg8 g hsum 5 n4 n5 z5 c5 b _ rfl (part57_eq ..) (fun _ => rfl) fun B5 => ?_
  refine wp_size c E q _ _ _ _ _ _ _ _ g hsum b hT 6 (by decide) n5 _ fun v6 z6 n6 c6 => ?_
  refine asm c E c6 ?_
  refine wp_nth c E q _ _ _ _ _ harg5 _ _ _ harg8 g hsum 6 n5 n6 z6 c6 b _ rfl (part66_eq ..) (fun _ => rfl) fun B6 => ?_
  refine wp_size c E q _ _ _ _ _ _ _ _ g hsum b hT 7 (by decide) n6 _ fun v7 z7 n7 c7 => ?_
  refine asm c E c7 ?_
  refine wp_nth c E q _ _ _ _ _ harg5 _ _ _ harg8 g hsum 7 n6 n7 z7 c7 b _ rfl (part75_eq ..) (fun _ => rfl) fun B7 => ?_
  exact ret_ c E (h B7)

end Cert.KernelIdeal.Hand
-- ==== Proof.Agree.lean ====
/- The output block after the eight experts does not depend on what the block held before: every row belongs to an expert,
   and an expert's chunks write each of its rows anew. -/
module

public import proofs.«01_k».proof.Proof.Content
public import Idealize.ShloMosaic.Lib.Pipeline.Value

@[expose] public section

noncomputable section

namespace Cert.KernelIdeal.Hand

open Cert.KernelIdeal Cert.KernelIdeal.Gen Cert.Hand
open Idealize.ShloMosaic Idealize.SL.Sem Idealize.ShloMosaic.Affine

variable {F : FTy → Type} [FloatOps F]

/-- The row an element of a chunk is in, as the kernel computes it. -/
def rowW (tt : BitVec 32) (j : S8x16x512.Idx) : BitVec 32 :=
  Scalar.addi (Scalar.addi (Scalar.muli tt 16#32) (Scalar.muli (BitVec.ofNat 32 (j 0).val) 16#32)) (BitVec.ofNat 32 (j 1).val)

/-- Whether the chunk keeps the product there. -/
def keepW (st en tt : BitVec 32) (j : S8x16x512.Idx) : BitVec 1 :=
  Scalar.andi (Scalar.cmpi .sge (rowW tt j) st) (Scalar.cmpi .slt (rowW tt j) en)

/-- The product times the rows' scales. -/
def chunkAcc (v386 : Vec F S8x16x2048 .bf16) (v388 : Vec F S2048x512 .bf16) (v392 : Vec F S8x16x128 .f32) : FVec F S8x16x512 .f32 :=
  mulf (shapeCast S8x16x512 (matmul dot_S128x2048_S2048x512_S128x512_1_0_0_1_n_n none
      (shapeCast S128x2048 v386 shapeCasts_S8x16x2048_S128x2048) v388 (constant S128x512 .f32 0x00000000#32)) shapeCasts_S128x512_S8x16x512)
    (concatenate S8x16x512 2 [⟨S8x16x128, v392⟩, ⟨S8x16x128, v392⟩, ⟨S8x16x128, v392⟩, ⟨S8x16x128, v392⟩] concatenates_S8x16x128_S8x16x128_S8x16x128_S8x16x128_S8x16x512_d2)

theorem iota0_at (j : S8x16x512.Idx) : iota .tc S8x16x512 32 [0] iota_S8x16x512_d0_w32 j = BitVec.ofNat 32 (j 0).val :=
  iota_single_apply ..
theorem iota1_at (j : S8x16x512.Idx) : iota .tc S8x16x512 32 [1] iota_S8x16x512_d1_w32 j = BitVec.ofNat 32 (j 1).val :=
  iota_single_apply ..

theorem chunkPay_at (st en tt : BitVec 32) (a b c old) (j : S8x16x512.Idx) :
    chunkPay (F := F) st en tt a b c old j
      = FloatOps.truncf .bf16 bitsLt_bf16_f32 (if keepW st en tt j = 1#1 then chunkAcc a b c j else FloatOps.extf .f32 bitsLt_bf16_f32 (old j)) := by
  have hsc : shapeCast S8x16x512 old shapeCasts_S8x16x512_S8x16x512 = old := shapeCast_self ..
  show FloatOps.truncf .bf16 bitsLt_bf16_f32 (if IntOp.andi (IntOp.cmpi .sge (IntOp.addi (IntOp.addi (Scalar.muli tt 16#32)
      (IntOp.muli (iota .tc S8x16x512 32 [0] iota_S8x16x512_d0_w32 j) 16#32)) (iota .tc S8x16x512 32 [1] iota_S8x16x512_d1_w32 j)) st)
      (IntOp.cmpi .slt (IntOp.addi (IntOp.addi (Scalar.muli tt 16#32)
      (IntOp.muli (iota .tc S8x16x512 32 [0] iota_S8x16x512_d0_w32 j) 16#32)) (iota .tc S8x16x512 32 [1] iota_S8x16x512_d1_w32 j)) en) = 1#1
      then chunkAcc a b c j else FloatOps.extf .f32 bitsLt_bf16_f32 (shapeCast S8x16x512 old shapeCasts_S8x16x512_S8x16x512 j)) = _
  rw [iota0_at, iota1_at, hsc]
  rfl

theorem rowW_int {t : ℕ} (ht : t ≤ 88) (j : S8x16x512.Idx) : IsInt (rowW (BitVec.ofNat 32 t) j) ((16 * (t + (j 0).val) + (j 1).val : ℕ) : Int) := by
  have h0 : (j 0).val < 8 := (j 0).isLt
  have h1 : (j 1).val < 16 := (j 1).isLt
  have c16 : IsInt (16#32) 16 := Affine.ofNat 16 ⟨rfl, by decide⟩
  have a1 : IsInt (Scalar.muli (BitVec.ofNat 32 t) 16#32) ((16 * t : ℕ) : Int) :=
    Affine.muli (Affine.ofNat (e := (t : Int)) t ⟨rfl, by omega⟩) c16 ⟨by omega, by omega, by omega⟩
  have a2 : IsInt (Scalar.muli (BitVec.ofNat 32 (j 0).val) 16#32) ((16 * (j 0).val : ℕ) : Int) :=
    Affine.muli (Affine.ofNat (e := ((j 0).val : Int)) (j 0).val ⟨rfl, by omega⟩) c16 ⟨by omega, by omega, by omega⟩
  have a3 : IsInt (Scalar.addi (Scalar.muli (BitVec.ofNat 32 t) 16#32) (Scalar.muli (BitVec.ofNat 32 (j 0).val) 16#32)) ((16 * (t + (j 0).val) : ℕ) : Int) :=
    Affine.addi a1 a2 ⟨by omega, by omega, by omega⟩
  exact Affine.addi a3 (Affine.ofNat (e := ((j 1).val : Int)) (j 1).val ⟨rfl, by omega⟩) ⟨by omega, by omega, by omega⟩

theorem keepW_iff {s n t : ℕ} (ht : t ≤ 88) (hs : s ≤ 1536) (hn : n ≤ 1536) (j : S8x16x512.Idx) :
    keepW (BitVec.ofNat 32 s) (BitVec.ofNat 32 n) (BitVec.ofNat 32 t) j = 1#1
      ↔ s ≤ 16 * (t + (j 0).val) + (j 1).val ∧ 16 * (t + (j 0).val) + (j 1).val < n := by
  have hr := rowW_int ht j
  have is : IsInt (BitVec.ofNat 32 s) (s : Int) := Affine.ofNat s ⟨rfl, by omega⟩
  have iN : IsInt (BitVec.ofNat 32 n) (n : Int) := Affine.ofNat n ⟨rfl, by omega⟩
  by_cases h1 : s ≤ 16 * (t + (j 0).val) + (j 1).val
  · by_cases h2 : 16 * (t + (j 0).val) + (j 1).val < n
    · exact iff_of_true (Affine.andi_holds (Affine.sge_holds hr is (by omega)) (Affine.slt_holds hr iN (by omega))) ⟨h1, h2⟩
    · exact iff_of_false (Affine.andi_fails_right trivial (Affine.slt_fails hr iN (by omega))) (fun h => h2 h.2)
  · exact iff_of_false (Affine.andi_fails_left (Affine.sge_fails hr is (by omega)) trivial) (fun h => h1 h.1)

/-- The row of an element of the block. -/
def rowOf (y : S96x16x512.Idx) : ℕ := 16 * (y 0).val + (y 1).val

theorem slabLocal (t : ℕ) (y : S96x16x512.Idx) (h : t ≤ (y 0).val ∧ (y 0).val < t + 8) :
    ∀ a, (![t, 0, 0] : Fin 3 → ℕ) a ≤ (y a).val ∧ (y a).val < (![t, 0, 0] : Fin 3 → ℕ) a + S8x16x512.size a
  | 0 => h
  | 1 => ⟨Nat.zero_le _, (by have : (y 1).val < 16 := (y 1).isLt; show (y 1).val < 0 + 16; omega)⟩
  | 2 => ⟨Nat.zero_le _, (by have : (y 2).val < 512 := (y 2).isLt; show (y 2).val < 0 + 512; omega)⟩

/-- Where an element of the chunk's eight tiles is among them. -/
def locOf (t : ℕ) (y : S96x16x512.Idx) (h : t ≤ (y 0).val ∧ (y 0).val < t + 8) : S8x16x512.Idx :=
  Rect.unitLocal (s := S96x16x512) (off := ![t, 0, 0]) (size := S8x16x512.size) y (slabLocal t y h)

theorem locOf_0 (t : ℕ) (y : S96x16x512.Idx) (h : t ≤ (y 0).val ∧ (y 0).val < t + 8) : ((locOf t y h) 0).val = (y 0).val - t := rfl
theorem locOf_1 (t : ℕ) (y : S96x16x512.Idx) (h : t ≤ (y 0).val ∧ (y 0).val < t + 8) : ((locOf t y h) 1).val = (y 1).val := rfl
theorem locOf_2 (t : ℕ) (y : S96x16x512.Idx) (h : t ≤ (y 0).val ∧ (y 0).val < t + 8) : ((locOf t y h) 2).val = (y 2).val := rfl

theorem slab_loc (t : ℕ) (ht : t ≤ 88) (Y : S96x16x512.Idx → Elt F .bf16) (y : S96x16x512.Idx) (h : t ≤ (y 0).val ∧ (y 0).val < t + 8) :
    slab (L := 512) Y t ht (locOf t y h) = Y y := by
  unfold slab
  congr 1
  funext a
  apply Fin.ext
  have hy := slabLocal t y h a
  show (![t, 0, 0] : Fin 3 → ℕ) a + 1 * ((y a).val - (![t, 0, 0] : Fin 3 → ℕ) a) = (y a).val
  omega

/-- An element of the block after a chunk: in the chunk's tiles the product in the expert's rows and the old value elsewhere;
    outside its tiles the old value. -/
theorem chunkF_at {s n t : ℕ} (ht : t ≤ 88) (hs : s ≤ 1536) (hn : n ≤ 1536) (A : S96x16x2048.Idx → Elt F .bf16) (C : S96x16x128.Idx → Elt F .f32) (B : S2048x512.Idx → Elt F .bf16)
    (Y : S96x16x512.Idx → Elt F .bf16) (y : S96x16x512.Idx) :
    chunkF s n t ht A C B Y y = if h : t ≤ (y 0).val ∧ (y 0).val < t + 8 then
        FloatOps.truncf .bf16 bitsLt_bf16_f32 (if s ≤ rowOf y ∧ rowOf y < n then chunkAcc (slab (L := 2048) A t ht) B (slab (L := 128) C t ht) (locOf t y h)
          else FloatOps.extf .f32 bitsLt_bf16_f32 (Y y))
      else Y y := by
  unfold chunkF patch
  by_cases h : t ≤ (y 0).val ∧ (y 0).val < t + 8
  · rw [dif_pos (slabLocal t y h), dif_pos h]
    refine (chunkPay_at ..).trans ?_
    have hk := keepW_iff (s := s) (n := n) ht hs hn (locOf t y h)
    have hr : 16 * (t + ((locOf t y h) 0).val) + ((locOf t y h) 1).val = rowOf y := by
      rw [locOf_0, locOf_1]; unfold rowOf; omega
    rw [hr] at hk
    have hsl := slab_loc t ht Y y h
    show FloatOps.truncf .bf16 bitsLt_bf16_f32 (if keepW (BitVec.ofNat 32 s) (BitVec.ofNat 32 n) (BitVec.ofNat 32 t) (locOf t y h) = 1#1
      then _ else FloatOps.extf .f32 bitsLt_bf16_f32 (slab (L := 512) Y t ht (locOf t y h))) = _
    rw [hsl]
    by_cases hc : s ≤ rowOf y ∧ rowOf y < n
    · rw [if_pos hc, if_pos (hk.2 hc)]
      rfl
    · rw [if_neg hc, if_neg (fun h' => hc (hk.1 h'))]
  · rw [dif_neg (fun h' => h (h' 0)), dif_neg h]

/-- The number of the chunk that holds a row of the expert. -/
theorem covered {s n r0 r1 : ℕ} (hn : n ≤ 1536) (h1 : r1 < 16) (hs : s ≤ 16 * r0 + r1) (hl : 16 * r0 + r1 < n) :
    ∃ k < (n + 127 - 16 * (s / 16)) / 128, ttN s k ≤ r0 ∧ r0 < ttN s k + 8 := by
  refine ⟨(r0 - s / 16) / 8, ?_, ?_, ?_⟩
  · rw [Nat.lt_div_iff_mul_lt (by decide)]; omega
  · unfold ttN; omega
  · unfold ttN; omega

theorem chunksF_agree {s n : ℕ} (hs : s ≤ 1536) (hn : n ≤ 1536) (A : S96x16x2048.Idx → Elt F .bf16) (C : S96x16x128.Idx → Elt F .f32) (B : S2048x512.Idx → Elt F .bf16)
    (Y Y' : S96x16x512.Idx → Elt F .bf16) (y : S96x16x512.Idx) (k : ℕ)
    (h : Y y = Y' y ∨ (s ≤ rowOf y ∧ rowOf y < n) ∧ ∃ i < k, ttN s i ≤ (y 0).val ∧ (y 0).val < ttN s i + 8) :
    chunksF s n A C B Y k y = chunksF s n A C B Y' k y := by
  induction k with
  | zero =>
    rcases h with h | ⟨_, i, hi, _⟩
    · exact h
    · exact absurd hi (Nat.not_lt_zero _)
  | succ k ih =>
    show chunkF s n (ttN s k) (ttN_le s k) A C B (chunksF s n A C B Y k) y = chunkF s n (ttN s k) (ttN_le s k) A C B (chunksF s n A C B Y' k) y
    rw [chunkF_at _ hs hn, chunkF_at _ hs hn]
    by_cases ht : ttN s k ≤ (y 0).val ∧ (y 0).val < ttN s k + 8
    · rw [dif_pos ht, dif_pos ht]
      by_cases hr : s ≤ rowOf y ∧ rowOf y < n
      · rw [if_pos hr, if_pos hr]
      · rw [if_neg hr, if_neg hr, ih (.inl (h.resolve_right fun h' => hr h'.1))]
    · rw [dif_neg ht, dif_neg ht]
      refine ih (h.imp_right fun ⟨hr, i, hi, hti⟩ => ⟨hr, i, ?_, hti⟩)
      rcases Nat.lt_succ_iff_lt_or_eq.1 hi with hi | hi
      · exact hi
      · exact absurd (hi ▸ hti) ht

/-- After an expert two blocks agree in the rows before its end if they agreed in those before its start. -/
theorem blockF_agree (g : ℕ → ℕ) (X : S96x16x2048.Idx → Elt F .bf16) (W : S8x1024x512.Idx → Elt F .i8) (S : S8x16x512.Idx → Elt F .f32)
    (Y Y' : S96x16x512.Idx → Elt F .bf16) (y : S96x16x512.Idx) (e : ℕ) (he : rowsTo g e ≤ 1536) (hy : rowOf y < rowsTo g e) :
    blockF g X W S Y e y = blockF g X W S Y' e y := by
  induction e with
  | zero => exact absurd hy (Nat.not_lt_zero _)
  | succ e ih =>
    have hle : rowsTo g e ≤ rowsTo g (e + 1) := Nat.le_add_right _ _
    show expF (rowsTo g e) (rowsTo g (e + 1)) _ _ _ (blockF g X W S Y e) y = expF (rowsTo g e) (rowsTo g (e + 1)) _ _ _ (blockF g X W S Y' e) y
    unfold expF
    by_cases h0 : 0 < rowsTo g (e + 1) - rowsTo g e
    · rw [if_pos h0, if_pos h0]
      refine chunksF_agree (by omega) he _ _ _ _ _ y _ ?_
      by_cases hlt : rowOf y < rowsTo g e
      · exact .inl (ih (by omega) hlt)
      · exact .inr ⟨⟨by omega, hy⟩, covered he (y 1).isLt (by unfold rowOf at hlt; omega) (by unfold rowOf at hy; omega)⟩
    · rw [if_neg h0, if_neg h0]
      exact ih (by omega) (by omega)

/-- What the block holds after the kernel's body. -/
def outF (g : ℕ → ℕ) (X : S96x16x2048.Idx → Elt F .bf16) (W : S8x1024x512.Idx → Elt F .i8) (S : S8x16x512.Idx → Elt F .f32) : S96x16x512.Idx → Elt F .bf16 :=
  blockF g X W S (constant S96x16x512 .bf16 0x0000#16) 8

theorem blockF_eq (g : ℕ → ℕ) (hg : rowsTo g 8 = 1536) (X : S96x16x2048.Idx → Elt F .bf16) (W : S8x1024x512.Idx → Elt F .i8) (S : S8x16x512.Idx → Elt F .f32)
    (Y : S96x16x512.Idx → Elt F .bf16) : blockF g X W S Y 8 = outF g X W S := by
  funext y
  refine blockF_agree g X W S _ _ y 8 (le_of_eq hg) ?_
  have h0 : (y 0).val < 96 := (y 0).isLt
  have h1 : (y 1).val < 16 := (y 1).isLt
  unfold rowOf
  omega

end Cert.KernelIdeal.Hand
-- ==== Proof.Launch.lean ====
/- The launch: the kernel's region run under the pipeline, its invariant (the quantised rows and their scales, carried from the
   first point on), and what every buffer holds at the end. -/
module

public import proofs.«01_k».proof.Proof.Root
public import proofs.«01_k».proof.Proof.Agree
public import proofs.«01_k».proof.Proof.Gen.KernelIdeal.Launch
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers when the region is entered: after the first reshape. -/
abbrev V0 (c : Dev nD) : Valuation τ sig (Elt F) := StableHlo.after (List.flatten [hostOps0]) (fun b => m (c, b))
/-- The same, by reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := rfl
theorem hostOps1_fresh : (hostOps1 : List (HloOp τ sig (Elt F))).Forall fun op => op.fresh = ∅ := rfl

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
    (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  all_goals intro j; fin_cases j <;> simp only [StableHlo.reshape_bufs, Finset.mem_insert, Finset.mem_singleton, not_or] <;> and_intros <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

theorem V_of_ne (c : Dev nD) (b : Ref sig .tc) (hb : b ≠ main_v0) : V m c b = m ((c : Thread nD τ).loc b) := by
  refine StableHlo.after_of_forall_not_mem (b := Proc.devRef .tc b) _ _ fun op hop => ?_
  simp only [hostOps0, List.flatten_cons, List.flatten_nil, List.append_nil, List.mem_cons, List.mem_nil_iff, or_false] at hop
  rcases hop with rfl
  simp only [StableHlo.reshape_writes, Finset.mem_singleton]
  exact StableHlo.devRef_ne_of_ne hb

/-! ## The table -/

/-- The table as the region finds it. -/
def tbl : pre0.Contents (Elt F) := fun j => V m (0 : Dev nD) (pre0.ref j)
theorem V_pre (c : Dev nD) (j : Fin 1) : V m c (pre0.ref j) = tbl m j := by
  obtain rfl : c = 0 := Subsingleton.elim _ _
  rfl
/-- No index map reads it, so the pipeline may be launched over it whatever it holds. -/
abbrev adm : (pcfg0 (F := F)).Adm := ⟨tbl m, trivial⟩
abbrev cfgM := cfg0 (adm m)

/-- The group sizes as numbers: the table's words. -/
def gOf (T : S8.Idx → BitVec 32) (e : ℕ) : ℕ := if h : e < 8 then (T (fun | ⟨0, _⟩ => ⟨e, h⟩)).toNat else 0

theorem gOf_word (T : S8.Idx → BitVec 32) (y : S8.Idx) : T y = BitVec.ofNat 32 (gOf T (y 0).val) := by
  have hy : (y 0).val < 8 := (y 0).isLt
  unfold gOf
  rw [dif_pos hy, BitVec.ofNat_toNat, BitVec.setWidth_eq]
  congr 1
  funext a
  obtain rfl : a = 0 := Subsingleton.elim _ _
  rfl

/-- The table's words. -/
abbrev T0 : S8.Idx → BitVec 32 := tbl m 0
/-- The group sizes. -/
abbrev gM : ℕ → ℕ := gOf (T0 m)

/-! ## The windows' blocks and the invariant -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The reshaped tokens. -/
abbrev X0 (c : Dev nD) : S96x16x2048.Idx → Elt F .bf16 := V m c main_v0

/-- What the body leaves in the output's block at point `t`. -/
def outAt (c : Dev nD) (t : Fin (cfgM m).N) : S96x16x512.Idx → Elt F .bf16 := outF (gM m) (X0 m c) (iblk m c 1 t) (iblk m c 2 t)

/-- Before point `t`: the scratch buffers at some contents, from the second point on the quantised rows and their scales; the
    generator register; the table. -/
def Φ (c : Dev nD) (n : ℕ) : sProp 𝕄 :=
  iprop((∃ A C B, ⌜n ≠ 0 → A = aOf (X0 m c) ∧ C = scOf (X0 m c)⌝ ∗ owns (c : Thread nD τ) (Memref.whole cc0_scratch0) fullShare A
      ∗ owns (c : Thread nD τ) (Memref.whole cc0_scratch1) fullShare C ∗ owns (c : Thread nD τ) (Memref.whole cc0_scratch2) fullShare B)
    ∗ (∃ r, prngReg c r) ∗ owns (c : Thread nD τ) (Memref.whole main_arg1) fullShare.right (T0 m))

/-- The proof data. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Φ m c t.val
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; rfl
theorem after1 (c : Dev nD) (t : Fin (cfgM m).N) : (dats m 0 c).after 1 t = iblk m c 1 t := by dsimp only [dats]; rfl
theorem after2 (c : Dev nD) (t : Fin (cfgM m).N) : (dats m 0 c).after 2 t = iblk m c 2 t := by dsimp only [dats]; rfl
theorem after3 (c : Dev nD) (t : Fin (cfgM m).N) : (dats m 0 c).after 3 t = outAt m c t := by dsimp only [dats]; rfl

theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- Window 0's block is the whole of the tokens, at every point. -/
theorem iblk0 (c : Dev nD) (t : Fin (cfgM m).N) : iblk m c 0 t = X0 m c := by
  funext j
  unfold iblk
  rw [View.read_apply]
  refine congrArg (V m c main_v0) ?_
  funext a
  apply Fin.ext
  fin_cases a <;> (show 0 * _ + 1 * _ = _; omega)

/-! ## The body obligation -/

theorem cond_first (t : Fin grid0.N) : k0_cond1 (grid0.coords t) = 1#1 ↔ t.val = 0 := by
  revert t; decide

theorem word_at (hs : rowsTo (gM m) 8 = 1536) (e : ℕ) (he : e < 8) : Affine.IsInt ((tbl m).atD 0 ![e]) (gM m e : ℕ) := by
  have hin : ∀ a, (![e] : Fin 1 → ℕ) a + 1 ≤ S8.size a := fun a => by
    obtain rfl : a = 0 := Subsingleton.elim _ _
    exact he
  rw [show (tbl m).atD 0 ![e] = tbl m 0 (fun a => ⟨![e] a, hin a⟩) from dif_pos hin]
  exact word_int (gM m) hs.le e he (T := T0 m) (gOf_word (T0 m)) _ rfl

/-- Some group is not empty, so the output's block is stored at every point. -/
theorem not_idle (hs : rowsTo (gM m) 8 = 1536) (i : grid0.Coords) : idle0 (tbl m) 3 i = false := by
  have w := word_at m hs
  have c0 : k0_cond2 ((tbl m).atD 0 ![0]) = 1#1 ↔ _ := cond_iff (w 0 (by decide))
  have c1 : k0_cond3 ((tbl m).atD 0 ![1]) = 1#1 ↔ _ := cond_iff (w 1 (by decide))
  have c2 : k0_cond4 ((tbl m).atD 0 ![2]) = 1#1 ↔ _ := cond_iff (w 2 (by decide))
  have c3 : k0_cond5 ((tbl m).atD 0 ![3]) = 1#1 ↔ _ := cond_iff (w 3 (by decide))
  have c4 : k0_cond6 ((tbl m).atD 0 ![4]) = 1#1 ↔ _ := cond_iff (w 4 (by decide))
  have c5 : k0_cond7 ((tbl m).atD 0 ![5]) = 1#1 ↔ _ := cond_iff (w 5 (by decide))
  have c6 : k0_cond8 ((tbl m).atD 0 ![6]) = 1#1 ↔ _ := cond_iff (w 6 (by decide))
  have c7 : k0_cond9 ((tbl m).atD 0 ![7]) = 1#1 ↔ _ := cond_iff (w 7 (by decide))
  have hsum : gM m 0 + gM m 1 + gM m 2 + gM m 3 + gM m 4 + gM m 5 + gM m 6 + gM m 7 = 1536 := by
    simpa only [rowsTo, Nat.zero_add] using hs
  by_contra hne
  have hi := Bool.eq_true_of_not_eq_false hne
  simp only [idle0, Bool.and_eq_true, Bool.not_eq_true', beq_eq_false_iff_ne, ne_eq, c0, c1, c2, c3, c4, c5, c6, c7] at hi
  omega

theorem defs₀_row (t : Fin (cfgM m).N) :
    defs₀ (F := F) .tc (cfgM m).body ((cfgM m).bodyArgs t ((cfgM m).slots t))
      = cc0_moe_gmm (grid0.coords t) (Memref.whole main_arg1) (Memref.isWhole_whole _) (spec0_0.stage ((cfgM m).slots t 0)) (hstage0_0 (((cfgM m).slots t 0).cast nbuf0_0))
        (spec0_1.stage ((cfgM m).slots t 1)) (hstage0_1 (((cfgM m).slots t 1).cast nbuf0_1)) (spec0_2.stage ((cfgM m).slots t 2)) (hstage0_2 (((cfgM m).slots t 2).cast nbuf0_2))
        (spec0_3.stage ((cfgM m).slots t 3)) (hstage0_3 (((cfgM m).slots t 3).cast nbuf0_3)) (Memref.whole cc0_scratch0) (Memref.isWhole_whole _) (Memref.whole cc0_scratch1) (Memref.isWhole_whole _) (Memref.whole cc0_scratch2) (Memref.isWhole_whole _) := by
  unfold defs₀; rw [Defs.onTc_tc]

theorem sound_body (hs : rowsTo (gM m) 8 = 1536) (c : Dev nD) (t : Fin (cfgM m).N) :
    iprop((dats m 0 c).Φ t.castSucc ∗ (dats m 0 c).owesAt () t.castSucc
        ∗ (∃ d, owns (c : Thread nD τ) (spec0_0.stage ((cfgM m).slots t 0)) fullShare ((dats m 0 c).before 0 t d))
        ∗ (∃ d, owns (c : Thread nD τ) (spec0_1.stage ((cfgM m).slots t 1)) fullShare ((dats m 0 c).before 1 t d))
        ∗ (∃ d, owns (c : Thread nD τ) (spec0_2.stage ((cfgM m).slots t 2)) fullShare ((dats m 0 c).before 2 t d))
        ∗ (∃ d, owns (c : Thread nD τ) (spec0_3.stage ((cfgM m).slots t 3)) fullShare ((dats m 0 c).before 3 t d)))
      ⊢ wp frame (wpE (defs₀ (F := F)) 𝒱₀ c none) Set.univ
        (cc0_moe_gmm (grid0.coords t) (Memref.whole main_arg1) (Memref.isWhole_whole _) (spec0_0.stage ((cfgM m).slots t 0)) (hstage0_0 (((cfgM m).slots t 0).cast nbuf0_0))
        (spec0_1.stage ((cfgM m).slots t 1)) (hstage0_1 (((cfgM m).slots t 1).cast nbuf0_1)) (spec0_2.stage ((cfgM m).slots t 2)) (hstage0_2 (((cfgM m).slots t 2).cast nbuf0_2))
        (spec0_3.stage ((cfgM m).slots t 3)) (hstage0_3 (((cfgM m).slots t 3).cast nbuf0_3)) (Memref.whole cc0_scratch0) (Memref.isWhole_whole _) (Memref.whole cc0_scratch1) (Memref.isWhole_whole _) (Memref.whole cc0_scratch2) (Memref.isWhole_whole _))
        fun _ => iprop((dats m 0 c).Φ t.succ ∗ (dats m 0 c).owesAt () t.succ
          ∗ owns (c : Thread nD τ) (spec0_0.stage ((cfgM m).slots t 0)) fullShare ((dats m 0 c).after 0 t)
          ∗ owns (c : Thread nD τ) (spec0_1.stage ((cfgM m).slots t 1)) fullShare ((dats m 0 c).after 1 t)
          ∗ owns (c : Thread nD τ) (spec0_2.stage ((cfgM m).slots t 2)) fullShare ((dats m 0 c).after 2 t)
          ∗ owns (c : Thread nD τ) (spec0_3.stage ((cfgM m).slots t 3)) fullShare ((dats m 0 c).after 3 t)) := by
  simp only [before0, before1, before2]
  rw [show (dats m 0 c).owesAt () t.succ = (dats m 0 c).owesAt () t.castSucc from rfl, after0, after1, after2, after3,
    show (dats m 0 c).Φ t.castSucc = Φ m c t.val from rfl, show (dats m 0 c).Φ t.succ = Φ m c (t.val + 1) from rfl, iblk0]
  unfold Φ
  iintro ⟨⟨⟨%A, %C, %B, %hAC, HA, HC, HB⟩, Hr, HT⟩, Ho, ⟨%d0, H0⟩, ⟨%d1, H1⟩, ⟨%d2, H2⟩, ⟨%d3, H3⟩⟩
  have key := wp_body c Set.univ fullShare.right (Memref.whole main_arg1) (Memref.isWhole_whole _) (spec0_0.stage ((cfgM m).slots t 0)) (hstage0_0 (((cfgM m).slots t 0).cast nbuf0_0))
        (spec0_1.stage ((cfgM m).slots t 1)) (hstage0_1 (((cfgM m).slots t 1).cast nbuf0_1)) (spec0_2.stage ((cfgM m).slots t 2)) (hstage0_2 (((cfgM m).slots t 2).cast nbuf0_2))
        (spec0_3.stage ((cfgM m).slots t 3)) (hstage0_3 (((cfgM m).slots t 3).cast nbuf0_3)) (Memref.whole cc0_scratch0) (Memref.isWhole_whole _) (Memref.whole cc0_scratch1) (Memref.isWhole_whole _) (Memref.whole cc0_scratch2) (Memref.isWhole_whole _)
        (grid0.coords t) ⟨T0 m, X0 m c, iblk m c 1 t, iblk m c 2 t, (dats m 0 c).before 3 t d3, A, C, B⟩ (gM m) hs.le (gOf_word (T0 m)) (fun h => hAC fun ht => h ((cond_first t).2 ht))
        (Q := fun _ => iprop(∃ B', owns (c : Thread nD τ) (Memref.whole main_arg1) fullShare.right (T0 m) ∗ owns (c : Thread nD τ) (spec0_0.stage ((cfgM m).slots t 0)) fullShare (X0 m c)
          ∗ owns (c : Thread nD τ) (spec0_1.stage ((cfgM m).slots t 1)) fullShare (iblk m c 1 t) ∗ owns (c : Thread nD τ) (spec0_2.stage ((cfgM m).slots t 2)) fullShare (iblk m c 2 t)
          ∗ owns (c : Thread nD τ) (spec0_3.stage ((cfgM m).slots t 3)) fullShare (outAt m c t) ∗ owns (c : Thread nD τ) (Memref.whole cc0_scratch0) fullShare (aOf (X0 m c))
          ∗ owns (c : Thread nD τ) (Memref.whole cc0_scratch1) fullShare (scOf (X0 m c)) ∗ owns (c : Thread nD τ) (Memref.whole cc0_scratch2) fullShare B'))
        (fun B' => by
          unfold St bst
          rw [blockF_eq _ hs]
          iintro H
          iexists B'
          iexact H)
  ihave Hw := key $$ [HT H0 H1 H2 H3 HA HC HB]
  · unfold St
    iframe
  iapply (wp_wand frame (wpE (defs₀ (F := F)) 𝒱₀ c none) Set.univ) $$ Hw
  iintro %_ ⟨%B', HT, H0, H1, H2, H3, HA, HC, HB⟩
  isplitl [HA HC HB Hr HT]
  · isplitl [HA HC HB]
    · iexists (aOf (X0 m c)), (scOf (X0 m c)), B'
      isplitr; · ipureintro; exact fun _ => ⟨rfl, rfl⟩
      iframe
    · iframe
  · iframe

theorem leaves3 (hs : rowsTo (gM m) 8 = 1536) (c : Dev nD) (t : Fin (cfgM m).N) :
    (dats m 0 c).leavesExact 3 t = owns (c : Thread nD τ) (spec0_3.stage ((cfgM m).slots t 3)) fullShare ((dats m 0 c).after 3 t) := by
  have hi : (cfgM m).idle 3 ((cfgM m).grid.coords t) = false := not_idle m hs (grid0.coords t)
  unfold Dat.leavesExact
  rw [hi]
  rfl

theorem leavesAll (hs : rowsTo (gM m) 8 = 1536) (c : Dev nD) (t : Fin (cfgM m).N) :
    (bigSep Finset.univ fun w : Fin 4 => (dats m 0 c).leavesExact w t)
      = iprop(owns (c : Thread nD τ) (spec0_0.stage ((cfgM m).slots t 0)) fullShare ((dats m 0 c).after 0 t)
          ∗ owns (c : Thread nD τ) (spec0_1.stage ((cfgM m).slots t 1)) fullShare ((dats m 0 c).after 1 t)
          ∗ owns (c : Thread nD τ) (spec0_2.stage ((cfgM m).slots t 2)) fullShare ((dats m 0 c).after 2 t)
          ∗ owns (c : Thread nD τ) (spec0_3.stage ((cfgM m).slots t 3)) fullShare ((dats m 0 c).after 3 t)) := by
  rw [bigSep_W0, leaves3 m hs]

theorem body_obligation (hs : rowsTo (gM m) 8 = 1536) (c : Dev nD) : BodyObligation (dats m 0 c) (defs₀ (F := F)) 𝒱₀ () Set.univ := fun t => by
  have h := sound_body m hs c t
  rw [← defs₀_row, ← leavesAll m hs c t] at h
  rw [bigSep_W0]
  exact h

/-! ## The run -/

theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

theorem PhiT_eq (c : Dev nD) : (Pipeline.ΦT pre0 (tbl m) c : sProp 𝕄) = owns (c : Thread nD τ) (Memref.whole main_arg1) fullShare.right (T0 m) := by
  unfold Pipeline.ΦT Pipeline.prefHeld
  rw [show (Finset.univ : Finset (Fin 1)) = {0} from by decide, bigSep_singleton, owns_whole]; rfl

theorem hin (c : Dev nD) : iprop(Pipeline.ΦA spec0 c ∗ Pipeline.ΦT pre0 (tbl m) c) ⊢ (dats m 0 c).Φ 0 := by
  rw [show (dats m 0 c).Φ 0 = Φ m c 0 from rfl, PhiA_eq, PhiT_eq]
  unfold Φ
  iintro ⟨⟨⟨⟨%A, HA⟩, ⟨%C, HC⟩, ⟨%B, HB⟩⟩, Hr⟩, HT⟩
  isplitl [HA HC HB]
  · iexists A, C, B
    isplitr; · ipureintro; exact fun h => absurd rfl h
    iframe
  · iframe

theorem hout (c : Dev nD) : (dats m 0 c).Φ (Fin.last (cfgM m).N) ⊢ Pipeline.ΦA spec0 c := by
  rw [show (dats m 0 c).Φ (Fin.last (cfgM m).N) = Φ m c (cfgM m).N from rfl, PhiA_eq]
  unfold Φ
  iintro ⟨⟨%A, %C, %B, -, HA, HC, HB⟩, Hr, -⟩
  isplitr [Hr]
  · isplitl [HA]; · iexists A; iexact HA
    isplitl [HC]; · iexists C; iexact HC
    iexists B; iexact HB
  · iexact Hr

/-- The buffers after the last reshape. -/
abbrev W (c : Dev nD) : (b : Ref sig .tc) → Buf (Elt F) ((c : Thread nD τ).loc b) := Pipeline.afterTail pcfgs (fun _ => adm m) (dats m) 0 (V0 m) [hostOps1] c

set_option backward.isDefEq.respectTransparency.types false in
set_option maxHeartbeats 800000 in
theorem run_main (hs : rowsTo (gM m) 8 = 1536) : θ_run defs (onTc (τ := τ) (main (F := F))) (s₀ m ρ)
    (fun r => Pipeline.FramePost (Pipeline.pin pcfgs fun _ => adm m) (dats m) 0 (W m) r ∧ r.2.sem = fun _ => 0) :=
  Pipeline.θ_run_frameP_around_track (Q' := _) pcfgs (fun _ => adm m) (dats m) (0 : Fin 1) launch0 defs₀ 𝒱₀ m ρ main
    (hbody := fun c => (body_obligation m hs c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hpf := V_pre m) (hin := hin m) (hout := hout m)

theorem W_arg (c : Dev nD) (b : Ref sig .tc) (hb : b ≠ main_v2) (hb' : b ≠ main_v0) (hne : ∀ w, Pipeline.arrRef spec0 w ≠ b) : W m c b = m ((c : Thread nD τ).loc b) := by
  unfold W Pipeline.afterTail
  rw [StableHlo.after_of_forall_not_mem (b := Proc.devRef .tc b) _ _ (fun op hop => ?_), Pipeline.withArrays_of_ne _ c (V0 m c) _ b hne]
  · exact V_of_ne m c b hb'
  · simp only [hostOps1, List.flatten_cons, List.flatten_nil, List.append_nil, List.mem_cons, List.mem_nil_iff, or_false] at hop
    rcases hop with rfl
    simp only [StableHlo.reshape_writes, Finset.mem_singleton]
    exact StableHlo.devRef_ne_of_ne hb

/-- The frame: the arguments end unchanged, the result array at what the lines after the region make of the region's, every counter at zero. -/
theorem run (hs : rowsTo (gM m) 8 = 1536) : θ_run defs (onTc (τ := τ) (main (F := F))) ⟨m, fun _ => 0, ρ⟩ (fun r => (∀ c : Dev nD,
      r.2.mem ((c.tc : Thread nD τ).loc main_v2) = W m c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).2 main_v2 (show main_v2 ∈ Pipeline.restRefs sig spec0 by decide),
      ((h.1 c).2 main_arg0 (show main_arg0 ∈ Pipeline.restRefs sig spec0 by decide)).trans (W_arg m c main_arg0 (by decide) (by decide) (by decide)),
      ((h.1 c).2 main_arg1 (show main_arg1 ∈ Pipeline.restRefs sig spec0 by decide)).trans (W_arg m c main_arg1 (by decide) (by decide) (by decide)),
      ((h.1 c).1 1).trans (((dats m 0 c).arrAt_in 1 rfl _).trans ((A_eq m c 1).trans (V_of_ne m c main_arg2 (by decide)))),
      ((h.1 c).1 2).trans (((dats m 0 c).arrAt_in 2 rfl _).trans ((A_eq m c 2).trans (V_of_ne m c main_arg3 (by decide))))⟩, h.2⟩) (run_main m ρ hs)

end Cert.KernelIdeal.Hand
-- ==== Proof.Pre.lean ====
/- The preconditions read off: the group sizes add up to the number of tokens; every token row is zero or of ordinary size. -/
module

public import proofs.«01_k».proof.Proof.Gen.Pre_sizes_sum_to_tokens
public import proofs.«01_k».proof.Proof.Gen.Pre_sizes_and_rows
public import proofs.«01_k».proof.Proof.Launch
public import Idealize.ShloMosaic.Lib.ReduceAll
public import Idealize.ShloMosaic.Lib.StableHlo.Predicate

@[expose] public section

noncomputable section

namespace Cert.KernelIdeal.Hand

open Idealize.ShloMosaic Idealize.ShloMosaic.TcCoe
open Cert.KernelIdeal (S8)

theorem andi_one (a b : BitVec 1) : IntOp.andi a b = 1#1 ↔ a = 1#1 ∧ b = 1#1 := by revert a b; decide

theorem rowsTo_sum (T : S8.Idx → BitVec 32) : rowsTo (gOf T) 8 = ∑ i : S8.Idx, (T i).toNat := by
  let e : Fin 8 ≃ S8.Idx :=
    { toFun := fun k => fun | ⟨0, _⟩ => k
      invFun := fun i => i 0
      left_inv := fun k => rfl
      right_inv := fun i => by funext a; obtain rfl : a = 0 := Subsingleton.elim _ _; rfl }
  rw [← Equiv.sum_comp e]
  simp only [Fin.sum_univ_eight]
  simp only [rowsTo, Nat.zero_add]
  rfl

/-- The group sizes, each between 0 and 1536 and 1536 together as words, are 1536 together as numbers. -/
theorem rowsTo_of (T : S8.Idx → BitVec 32) (hr : ∀ i, IntOp.cmpi .sge (T i) 0#32 = 1#1 ∧ IntOp.cmpi .sle (T i) 1536#32 = 1#1)
    (hs : Finset.univ.fold IntOp.addi 0#32 T = 1536#32) : rowsTo (gOf T) 8 = 1536 := by
  have hb : ∀ i, (T i).toNat ≤ 1536 := fun i => by
    obtain ⟨h1, h2⟩ := hr i
    simp only [IntOp.cmpi, StableHlo.Predicate.ofBool_eq_one_iff, BitVec.sle, decide_eq_true_eq] at h1 h2
    rw [show (0#32 : BitVec 32).toInt = 0 from rfl] at h1
    rw [show (1536#32 : BitVec 32).toInt = 1536 from rfl] at h2
    rw [BitVec.toInt_eq_toNat_cond] at h1 h2
    split at h1 <;> omega
  have hlt : ∑ i : S8.Idx, (T i).toNat < 2 ^ 32 := by
    rw [← rowsTo_sum]
    have hg : ∀ k, gOf T k ≤ 1536 := fun k => by unfold gOf; split; exact hb _; omega
    have := hg 0; have := hg 1; have := hg 2; have := hg 3; have := hg 4; have := hg 5; have := hg 6; have := hg 7
    simp only [rowsTo]
    omega
  rw [rowsTo_sum, ← StableHlo.Predicate.toNat_fold_addi _ _ hlt, hs]
  rfl

theorem fold_of_reduce {t u : Shape} [Subsingleton t.Idx] {axes : List (Fin S8.rank)} (T : S8.Idx → BitVec 32) (init : u.Idx → BitVec 32)
    (h : S8.ReducesTo axes t) (hu : 0 < u.numel) (j : t.Idx) (hi : init (Shape.Idx.first hu) = 0#32) :
    Host.reduce IntOp.addi T init h hu j = Finset.univ.fold IntOp.addi 0#32 T := by
  rw [Host.reduce_eq_fold, hi]
  congr 1
  exact Finset.filter_true_of_mem fun i _ => Subsingleton.elim _ _

theorem sizes_of_sum {F : FTy → Type} [FloatOps F] (x) (T : S8.Idx → BitVec 32) (w) (s)
    (h : Cert.Pre_sizes_sum_to_tokens.fn (F := F) x T w s = fun _ => 1#1) : rowsTo (gOf T) 8 = 1536 := by
  have hj := congrFun h (fun a => a.elim0)
  simp only [Cert.Pre_sizes_sum_to_tokens.fn, andi, andi_one, cmpi, StableHlo.Predicate.cmpi_eq_iff] at hj
  obtain ⟨h1, h2⟩ := hj
  haveI : Subsingleton Cert.Pre_sizes_sum_to_tokens.S_.Idx := ⟨fun a b => funext fun k => k.elim0⟩
  refine rowsTo_of T (fun i => ?_) ?_
  · exact (andi_one _ _).1 (Host.reduce_andi_all _ _ _ _ _ h1 i)
  · rw [fold_of_reduce _ _ _ _ _ rfl] at h2
    exact h2

theorem sizes_of_rows {F : FTy → Type} [FloatOps F] (x) (T : S8.Idx → BitVec 32) (w) (s)
    (h : Cert.Pre_sizes_and_rows.fn (F := F) x T w s = fun _ => 1#1) : rowsTo (gOf T) 8 = 1536 := by
  have hj := congrFun h (fun a => a.elim0)
  simp only [Cert.Pre_sizes_and_rows.fn, Cert.Pre_sizes_and_rows.fn_part1, andi, andi_one, cmpi, StableHlo.Predicate.cmpi_eq_iff] at hj
  obtain ⟨⟨h1, h2⟩, -⟩ := hj
  haveI : Subsingleton Cert.Pre_sizes_and_rows.S_.Idx := ⟨fun a b => funext fun k => k.elim0⟩
  refine rowsTo_of T (fun i => ?_) ?_
  · exact (andi_one _ _).1 (Host.reduce_andi_all _ _ _ _ _ h1 i)
  · rw [fold_of_reduce _ _ _ _ _ rfl] at h2
    exact h2

end Cert.KernelIdeal.Hand
-- ==== Proof.Num.lean ====
/- The numbers of one row: a power of two written as a float's bits, the exponent found bit by bit, the same exponent by
   the logarithm's floor, and a packed nibble's sign. -/
module

public import Idealize.ShloMosaic.Lib.Pointwise

@[expose] public section

noncomputable section

namespace Cert.Hand

open Idealize Idealize.ShloMosaic

/-! ## A power of two from an exponent field -/

/-- The float whose exponent field is a word and whose other bits are clear. -/
def fieldF (w : BitVec 32) : EReal := Ideal.ofBits .f32 (w <<< 23)

theorem field_ex : ∀ j : BitVec 8, (((j.setWidth 32) <<< 23).extractLsb' 23 8) = j := by decide +kernel
theorem field_fr : ∀ j : BitVec 8, (((j.setWidth 32) <<< 23).extractLsb' 0 23) = 0#23 := by decide +kernel
theorem field_sg : ∀ j : BitVec 8, (((j.setWidth 32) <<< 23).extractLsb' 31 1 == 1#1) = false := by decide +kernel

theorem ofNat_setWidth (j : ℕ) (h : j < 256) : BitVec.ofNat 32 j = (BitVec.ofNat 8 j).setWidth 32 := by
  apply BitVec.eq_of_toNat_eq
  simp only [BitVec.toNat_setWidth, BitVec.toNat_ofNat]
  omega

theorem fieldF_top : fieldF (BitVec.ofNat 32 255) = ⊤ := by
  simp [fieldF, Ideal.ofBits, Ideal.ieee]

theorem fieldF_of (j : ℕ) (h1 : 1 ≤ j) (h2 : j ≤ 254) : fieldF (BitVec.ofNat 32 j) = (((2 : ℝ) ^ ((j : ℤ) - 127) : ℝ) : EReal) := by
  have ht : (BitVec.ofNat 8 j).toNat = j := by rw [BitVec.toNat_ofNat]; omega
  unfold fieldF Ideal.ofBits Ideal.ieee
  rw [ofNat_setWidth j (by omega)]
  simp only [Nat.reduceAdd]
  rw [field_ex, field_fr, field_sg, ht]
  simp only [BitVec.toNat_ofNat]
  rw [if_neg (by norm_num; omega), if_neg (by omega)]
  congr 1
  have h23 : (8388608 : ℝ) = (2 : ℝ) ^ (23 : ℤ) := by norm_num
  push_cast
  simp only [Bool.false_eq_true, if_false, one_mul, Nat.zero_mod, Nat.cast_zero, add_zero]
  rw [h23, ← zpow_add₀ (by norm_num)]
  congr 1
  ring

/-! ## The exponent, bit by bit -/

/-- One bit of the search: kept when the value reaches the power it stands for. -/
def bitStep (v : EReal) (b k : BitVec 32) : BitVec 32 := if fieldF (k + b) ≤ v then k + b else k

theorem bitStep_of {v : ℝ} {n : ℤ} (hlo : (2 : ℝ) ^ n ≤ v) (hhi : v < (2 : ℝ) ^ (n + 1)) {K : ℕ} (hK : (K : ℤ) = n + 127) (hK1 : K < 255)
    (k b : ℕ) (hb : 1 ≤ b) (h2 : k + 2 * b ≤ 256) (hk : k ≤ K ∧ K < k + 2 * b) :
    ∃ k', bitStep (v : EReal) (BitVec.ofNat 32 b) (BitVec.ofNat 32 k) = BitVec.ofNat 32 k' ∧ k' ≤ K ∧ K < k' + b ∧ k' + b ≤ 256 := by
  unfold bitStep
  rw [← BitVec.ofNat_add]
  by_cases h : k + b ≤ K
  · refine ⟨k + b, if_pos ?_, h, by omega, by omega⟩
    rw [fieldF_of _ (by omega) (by omega), EReal.coe_le_coe_iff]
    exact le_trans (zpow_le_zpow_right₀ (by norm_num) (by push_cast; omega)) hlo
  · refine ⟨k, if_neg ?_, hk.1, by omega, by omega⟩
    rcases Nat.lt_or_ge (k + b) 255 with h5 | h5
    · rw [fieldF_of _ (by omega) (by omega), EReal.coe_le_coe_iff, not_le]
      exact lt_of_lt_of_le hhi (zpow_le_zpow_right₀ (by norm_num) (by push_cast; omega))
    · have : k + b = 255 := by omega
      rw [this, fieldF_top]
      exact not_le.2 (EReal.coe_lt_top _)

/-- The eight bits, the highest first. -/
def bitSearch (v : EReal) : BitVec 32 :=
  bitStep v 1#32 (bitStep v 2#32 (bitStep v 4#32 (bitStep v 8#32 (bitStep v 16#32 (bitStep v 32#32 (bitStep v 64#32 (bitStep v 128#32 0#32)))))))

theorem bitSearch_of {v : ℝ} {n : ℤ} (hlo : (2 : ℝ) ^ n ≤ v) (hhi : v < (2 : ℝ) ^ (n + 1)) {K : ℕ} (hK : (K : ℤ) = n + 127) (hK1 : K < 255) :
    bitSearch (v : EReal) = BitVec.ofNat 32 K := by
  have st := @bitStep_of v n hlo hhi K hK hK1
  obtain ⟨k1, e1, a1, b1, c1⟩ := st 0 128 (by omega) (by omega) (by omega)
  obtain ⟨k2, e2, a2, b2, c2⟩ := st k1 64 (by omega) (by omega) (by omega)
  obtain ⟨k3, e3, a3, b3, c3⟩ := st k2 32 (by omega) (by omega) (by omega)
  obtain ⟨k4, e4, a4, b4, c4⟩ := st k3 16 (by omega) (by omega) (by omega)
  obtain ⟨k5, e5, a5, b5, c5⟩ := st k4 8 (by omega) (by omega) (by omega)
  obtain ⟨k6, e6, a6, b6, c6⟩ := st k5 4 (by omega) (by omega) (by omega)
  obtain ⟨k7, e7, a7, b7, c7⟩ := st k6 2 (by omega) (by omega) (by omega)
  obtain ⟨k8, e8, a8, b8, c8⟩ := st k7 1 (by omega) (by omega) (by omega)
  unfold bitSearch
  rw [show bitStep (v : EReal) 128#32 0#32 = _ from e1, show bitStep (v : EReal) 64#32 _ = _ from e2, show bitStep (v : EReal) 32#32 _ = _ from e3,
    show bitStep (v : EReal) 16#32 _ = _ from e4, show bitStep (v : EReal) 8#32 _ = _ from e5, show bitStep (v : EReal) 4#32 _ = _ from e6,
    show bitStep (v : EReal) 2#32 _ = _ from e7, show bitStep (v : EReal) 1#32 _ = _ from e8]
  congr 1
  omega

/-! ## One row's exponent and its two powers -/

/-- The constant the largest magnitude is multiplied by, -/
def inv448 : EReal := Ideal.ofBits .f32 0x3B124925#32
/-- as a real number. -/
def inv448R : ℝ := 9586981 * (2 : ℝ) ^ (-32 : ℤ)

theorem inv448_eq : inv448 = (inv448R : EReal) := by
  simp [inv448, inv448R, Ideal.ofBits, Ideal.ieee, -EReal.coe_mul]

/-- The exponent the kernel finds. -/
def expW (v : EReal) : BitVec 32 := if v = 0 then 0#32 else bitSearch v - 126#32
/-- Its scale, -/
def sclW (v : EReal) : EReal := fieldF (expW v + 127#32)
/-- and the reciprocal. -/
def invW (v : EReal) : EReal := fieldF (0#32 - expW v + 127#32)

/-- The exponent by the logarithm. -/
def expR (a : EReal) : EReal :=
  if a = 0 then 0 else Ideal.liftRound Int.floor (Ideal.div (Ideal.log (a * inv448)) ((Real.log 2 : ℝ) : EReal)) + 1

theorem hi_eq : Ideal.ofBits .f32 0x7F7F0000#32 = ((255 * (2 : ℝ) ^ (120 : ℤ) : ℝ) : EReal) := by
  simp [Ideal.ofBits, Ideal.ieee, -EReal.coe_mul]
  norm_num

/-- The two powers the kernel makes, for a real value between two powers of two. -/
theorem row_of {v : ℝ} {n : ℤ} (hlo : (2 : ℝ) ^ n ≤ v) (hhi : v < (2 : ℝ) ^ (n + 1)) (h1 : -126 ≤ n) (h2 : n < 125) :
    sclW (v : EReal) = (((2 : ℝ) ^ (n + 1) : ℝ) : EReal) ∧ invW (v : EReal) = (((2 : ℝ) ^ (-(n + 1)) : ℝ) : EReal) := by
  have hv : 0 < v := lt_of_lt_of_le (by positivity) hlo
  obtain ⟨K, hK⟩ : ∃ K : ℕ, (K : ℤ) = n + 127 := ⟨(n + 127).toNat, by omega⟩
  have hne : (v : EReal) ≠ 0 := by exact_mod_cast hv.ne'
  have hs := bitSearch_of hlo hhi hK (by omega)
  refine ⟨?_, ?_⟩
  · unfold sclW expW
    rw [if_neg hne, hs, show BitVec.ofNat 32 K - 126#32 + 127#32 = BitVec.ofNat 32 (K + 1) by
      rw [BitVec.ofNat_add]; generalize BitVec.ofNat 32 K = x; bv_omega]
    rw [fieldF_of _ (by omega) (by omega)]
    congr 2
    push_cast; omega
  · unfold invW expW
    obtain ⟨L, hL⟩ : ∃ L : ℕ, L + K = 253 := ⟨253 - K, by omega⟩
    rw [if_neg hne, hs, show 0#32 - (BitVec.ofNat 32 K - 126#32) + 127#32 = BitVec.ofNat 32 L by
      have : BitVec.ofNat 32 L + BitVec.ofNat 32 K = 253#32 := by rw [← BitVec.ofNat_add, hL]
      generalize BitVec.ofNat 32 K = x at *
      generalize BitVec.ofNat 32 L = y at *
      bv_omega]
    rw [fieldF_of _ (by omega) (by omega)]
    congr 2
    omega

/-- A value below the least normal one has the exponent field zero, -/
theorem bitSearch_small {v : ℝ} (hv : v < (2 : ℝ) ^ (-126 : ℤ)) : bitSearch (v : EReal) = 0#32 := by
  have st : ∀ b : ℕ, 1 ≤ b → b ≤ 128 → bitStep (v : EReal) (BitVec.ofNat 32 b) 0#32 = 0#32 := fun b h1 h2 => by
    unfold bitStep
    rw [BitVec.zero_add]
    refine if_neg ?_
    rw [fieldF_of b h1 (by omega), EReal.coe_le_coe_iff, not_le]
    exact lt_of_lt_of_le hv (zpow_le_zpow_right₀ (by norm_num) (by omega))
  unfold bitSearch
  rw [show bitStep (v : EReal) 128#32 0#32 = 0#32 from st 128 (by omega) (by omega), show bitStep (v : EReal) 64#32 0#32 = 0#32 from st 64 (by omega) (by omega),
    show bitStep (v : EReal) 32#32 0#32 = 0#32 from st 32 (by omega) (by omega), show bitStep (v : EReal) 16#32 0#32 = 0#32 from st 16 (by omega) (by omega),
    show bitStep (v : EReal) 8#32 0#32 = 0#32 from st 8 (by omega) (by omega), show bitStep (v : EReal) 4#32 0#32 = 0#32 from st 4 (by omega) (by omega),
    show bitStep (v : EReal) 2#32 0#32 = 0#32 from st 2 (by omega) (by omega), show bitStep (v : EReal) 1#32 0#32 = 0#32 from st 1 (by omega) (by omega)]

/-- so its scale is the least normal power. -/
theorem row_small {v : ℝ} (h0 : 0 < v) (hv : v < (2 : ℝ) ^ (-126 : ℤ)) :
    sclW (v : EReal) = (((2 : ℝ) ^ (-126 : ℤ) : ℝ) : EReal) ∧ invW (v : EReal) = (((2 : ℝ) ^ (-(-126 : ℤ)) : ℝ) : EReal) := by
  have hne : (v : EReal) ≠ 0 := by exact_mod_cast h0.ne'
  constructor
  · unfold sclW expW
    rw [if_neg hne, bitSearch_small hv, show (0#32 - 126#32 + 127#32) = BitVec.ofNat 32 1 from rfl, fieldF_of _ (by omega) (by omega)]
    norm_num
  · unfold invW expW
    rw [if_neg hne, bitSearch_small hv, show (0#32 - (0#32 - 126#32) + 127#32) = BitVec.ofNat 32 253 from rfl, fieldF_of _ (by omega) (by omega)]
    norm_num

/-- The exponent by the logarithm, for a real value between two powers of two. -/
theorem log_of {v : ℝ} {n : ℤ} (hlo : (2 : ℝ) ^ n ≤ v) (hhi : v < (2 : ℝ) ^ (n + 1)) :
    Ideal.liftRound Int.floor (Ideal.div (Ideal.log (v : EReal)) ((Real.log 2 : ℝ) : EReal)) + 1 = (((n + 1 : ℤ) : ℝ) : EReal) := by
  have hv : 0 < v := lt_of_lt_of_le (by positivity) hlo
  have hl2 : 0 < Real.log 2 := Real.log_pos (by norm_num)
  rw [Ideal.log_coe, if_neg (not_le.2 hv), Ideal.div_coe hl2.ne', ← EReal.coe_mul, Ideal.liftRound_coe]
  have hf : ⌊Real.log v * (1 / Real.log 2)⌋ = n := by
    rw [Int.floor_eq_iff, mul_one_div]
    constructor
    · rw [le_div_iff₀ hl2, ← Real.log_zpow]
      exact Real.log_le_log (by positivity) hlo
    · rw [div_lt_iff₀ hl2, show ((n : ℝ) + 1) = ((n + 1 : ℤ) : ℝ) by push_cast; ring, ← Real.log_zpow]
      exact Real.log_lt_log hv hhi
  rw [hf]
  push_cast
  rfl

theorem sclW_zero : sclW 0 = 1 := by
  unfold sclW expW
  rw [if_pos rfl, show (0#32 + 127#32) = BitVec.ofNat 32 127 from rfl, fieldF_of _ (by omega) (by omega)]
  norm_num

theorem invW_zero : invW 0 = 1 := by
  unfold invW expW
  rw [if_pos rfl, show (0#32 - 0#32 + 127#32) = BitVec.ofNat 32 127 from rfl, fieldF_of _ (by omega) (by omega)]
  norm_num

/-! ## Elements -/

theorem zero_f32 : Ideal.ofBits .f32 0x00000000#32 = 0 := by simp [Ideal.ofBits, Ideal.ieee]

/-- The largest magnitude of a row, -/
def mag (f : Fin 2048 → EReal) : EReal :=
  Finset.fold max (Ideal.ofBits .f32 0xFF800000#32) (fun k => FloatOps.absf (F := Ideal) (φ := .f32) (f k)) Finset.univ
/-- a value held between the two largest ones of the format, -/
def clip (x : EReal) : EReal := min (Ideal.ofBits .f32 0x43E00000#32) (max (Ideal.ofBits .f32 0xC3E00000#32) x)
/-- and the two numbers of a byte. -/
def loN (b : BitVec 8) : EReal := FloatOps.sitofp (F := Ideal) (w := 32) .f32 (((b.setWidth 32 &&& 15#32) ^^^ 8#32) - 8#32)
def hiN (b : BitVec 8) : EReal := FloatOps.sitofp (F := Ideal) (w := 32) .f32 ((((b.setWidth 32).sshiftRight 4 &&& 15#32) ^^^ 8#32) - 8#32)

/-! ## A row's two scales -/

/-- Multiplying by `p` and later by `q` takes a row's elements out of the format's range and back: the two are inverse
    positive numbers and no element leaves the range. -/
def Scales (f : Fin 2048 → EReal) (p q : EReal) : Prop :=
  ∃ P Q : ℝ, p = (P : EReal) ∧ q = (Q : EReal) ∧ 0 < Q ∧ P * Q = 1 ∧ ∀ k, clip (f k * p) = f k * p

theorem clip_eq (x : ℝ) (h : |x| ≤ 448) : clip (x : EReal) = (x : EReal) := by
  have e1 : Ideal.ofBits .f32 0x43E00000#32 = ((448 : ℝ) : EReal) := by
    simp [Ideal.ofBits, Ideal.ieee, -EReal.coe_mul]
    norm_num
  have e2 : Ideal.ofBits .f32 0xC3E00000#32 = ((-448 : ℝ) : EReal) := by
    simp [Ideal.ofBits, Ideal.ieee, -EReal.coe_mul]
    norm_num
  obtain ⟨h1, h2⟩ := abs_le.1 h
  unfold clip
  rw [e1, e2, max_eq_right (by exact_mod_cast h1), min_eq_right (by exact_mod_cast h2)]

/-- No magnitude is below zero or above the row's largest. -/
theorem le_mag (f : Fin 2048 → EReal) (k : Fin 2048) : max (f k) (-(f k)) ≤ mag f :=
  (Finset.le_fold_max _).2 (Or.inr ⟨k, Finset.mem_univ k, le_refl _⟩)

theorem abs_nonneg' (x : EReal) : 0 ≤ max x (-x) := by
  rcases le_total 0 x with h | h
  · exact le_max_of_le_left h
  · exact le_max_of_le_right (EReal.neg_nonneg.2 h)

/-- A row whose largest magnitude is at most a real number has real elements, at most as large. -/
theorem real_of {f : Fin 2048 → EReal} {a : ℝ} (h : mag f ≤ (a : EReal)) (k : Fin 2048) : ∃ x : ℝ, f k = (x : EReal) ∧ |x| ≤ a := by
  have hk := (le_mag f k).trans h
  have hp := (le_max_left _ _).trans hk
  have hn := (le_max_right _ _).trans hk
  generalize f k = y at *
  induction y using EReal.rec with
  | bot => exact absurd hn (by simp)
  | top => exact absurd hp (by simp)
  | coe x =>
    refine ⟨x, rfl, abs_le.2 ⟨?_, by exact_mod_cast hp⟩⟩
    have : -x ≤ a := by exact_mod_cast hn
    linarith

theorem inv448_le : (1 : ℝ) ≤ 448 * inv448R := by unfold inv448R; norm_num

/-- A power of two above the largest magnitude over 448 is a scale. -/
theorem scales_of {f : Fin 2048 → EReal} {a : ℝ} (ha : 0 ≤ a) (h : mag f ≤ (a : EReal)) (N : ℤ) (hN : a * inv448R ≤ (2 : ℝ) ^ N) :
    Scales f (((2 : ℝ) ^ (-N) : ℝ) : EReal) (((2 : ℝ) ^ N : ℝ) : EReal) := by
  refine ⟨_, _, rfl, rfl, by positivity, by rw [← zpow_add₀ (by norm_num)]; simp, fun k => ?_⟩
  obtain ⟨x, hx, hxa⟩ := real_of h k
  rw [hx, ← EReal.coe_mul]
  refine clip_eq _ ?_
  rw [abs_mul, abs_of_pos (by positivity : (0 : ℝ) < (2 : ℝ) ^ (-N))]
  have h1 : |x| ≤ 448 * (2 : ℝ) ^ N := by
    have := mul_le_mul_of_nonneg_left inv448_le ha
    nlinarith
  calc |x| * (2 : ℝ) ^ (-N) ≤ (448 * (2 : ℝ) ^ N) * (2 : ℝ) ^ (-N) := mul_le_mul_of_nonneg_right h1 (by positivity)
    _ = 448 := by rw [mul_assoc, ← zpow_add₀ (by norm_num)]; simp

/-- A finite row: both pairs of powers, the kernel's and the reference's, are scales of it. -/
theorem row_scales {f : Fin 2048 → EReal} (h : mag f ≤ Ideal.ofBits .f32 0x7F7F0000#32) :
    Scales f (invW (mag f * inv448)) (sclW (mag f * inv448)) ∧ Scales f (Ideal.exp2 (0 - expR (mag f))) (Ideal.exp2 (expR (mag f))) := by
  have hpos : 0 ≤ mag f := (abs_nonneg' (f 0)).trans (le_mag f 0)
  rw [hi_eq] at h
  obtain ⟨a, ha⟩ : ∃ a : ℝ, mag f = (a : EReal) := by
    generalize mag f = y at *
    induction y using EReal.rec with
    | bot => exact absurd hpos (by simp)
    | coe x => exact ⟨x, rfl⟩
    | top => exact absurd h (not_le.2 (EReal.coe_lt_top _))
  have hle : mag f ≤ (a : EReal) := ha.le
  rw [ha] at h hpos ⊢
  rw [EReal.coe_le_coe_iff] at h
  have h0 : 0 ≤ a := by exact_mod_cast hpos
  rcases h0.eq_or_lt with rfl | hx
  · have hs := scales_of (le_refl (0 : ℝ)) hle 0 (by norm_num)
    simp only [neg_zero, zpow_zero, EReal.coe_one] at hs
    have e : Ideal.exp2 (0 : EReal) = 1 := by rw [← EReal.coe_zero, Ideal.exp2_coe]; norm_num
    rw [EReal.coe_zero, zero_mul, sclW_zero, invW_zero]
    unfold expR
    rw [if_pos rfl, sub_zero, e]
    exact ⟨hs, hs⟩
  · have hne : (a : EReal) ≠ 0 := by exact_mod_cast hx.ne'
    have hi : 0 < inv448R := by unfold inv448R; positivity
    have hv : 0 < a * inv448R := mul_pos hx hi
    obtain ⟨n, hlo, hhi⟩ := exists_mem_Ico_zpow (x := a * inv448R) (y := 2) hv (by norm_num)
    have h2 : n < 125 := by
      by_contra hc
      have : (2 : ℝ) ^ (125 : ℤ) ≤ (2 : ℝ) ^ n := zpow_le_zpow_right₀ (by norm_num) (by omega)
      have h3 : a * inv448R ≤ 255 * (2 : ℝ) ^ (120 : ℤ) * inv448R := mul_le_mul_of_nonneg_right h hi.le
      have h4 : 255 * (2 : ℝ) ^ (120 : ℤ) * inv448R < (2 : ℝ) ^ (125 : ℤ) := by unfold inv448R; norm_num
      linarith
    have hs := scales_of h0 hle (n + 1) hhi.le
    rw [inv448_eq, ← EReal.coe_mul]
    constructor
    · by_cases h1 : -126 ≤ n
      · obtain ⟨r1, r2⟩ := row_of hlo hhi h1 h2
        rw [r1, r2]
        exact hs
      · have hb : a * inv448R < (2 : ℝ) ^ (-126 : ℤ) := lt_of_lt_of_le hhi (zpow_le_zpow_right₀ (by norm_num) (by omega))
        obtain ⟨r1, r2⟩ := row_small hv hb
        rw [r1, r2]
        exact scales_of h0 hle (-126) hb.le
    · unfold expR
      rw [if_neg hne, inv448_eq, ← EReal.coe_mul, log_of hlo hhi, zero_sub, ← EReal.coe_neg, Ideal.exp2_coe, Ideal.exp2_coe, ← Int.cast_neg]
      have hr : ∀ z : ℤ, Real.rpow 2 (z : ℝ) = (2 : ℝ) ^ z := fun z => Real.rpow_intCast 2 z
      rw [hr, hr]
      exact hs

theorem sum_mul_coe {ι : Type} (s : Finset ι) (g : ι → EReal) {Q : ℝ} (hQ : 0 < Q) : (∑ k ∈ s, g k) * (Q : EReal) = ∑ k ∈ s, g k * (Q : EReal) := by
  classical
  induction s using Finset.induction_on with
  | empty => simp
  | insert k s hk ih => rw [Finset.sum_insert hk, Finset.sum_insert hk, EReal.right_distrib_of_nonneg_of_ne_top (by exact_mod_cast hQ.le) (EReal.coe_ne_top _), ih]

/-- A product with a row's scaled elements, scaled back, is the product with the row. -/
theorem Scales.dot {f : Fin 2048 → EReal} {p q : EReal} (h : Scales f p q) (e1 e2 : Fin 1024 → Fin 2048) (w1 w2 : Fin 1024 → EReal) :
    ((∑ k, clip (f (e1 k) * p) * w1 k) + ∑ k, clip (f (e2 k) * p) * w2 k) * q = (∑ k, f (e1 k) * w1 k) + ∑ k, f (e2 k) * w2 k := by
  obtain ⟨P, Q, rfl, rfl, hQ, hPQ, hc⟩ := h
  have hone : (P : EReal) * (Q : EReal) = 1 := by rw [← EReal.coe_mul, hPQ]; rfl
  have ht : ∀ x w : EReal, x * (P : EReal) * w * (Q : EReal) = x * w := fun x w => by
    rw [mul_assoc x, mul_comm (P : EReal) w, mul_assoc x, mul_assoc w, hone, mul_one]
  simp only [hc]
  rw [EReal.right_distrib_of_nonneg_of_ne_top (by exact_mod_cast hQ.le) (EReal.coe_ne_top _), sum_mul_coe _ _ hQ, sum_mul_coe _ _ hQ]
  simp only [ht]

/-- What the precondition says of one row's largest magnitude: a finite number of the format, or infinite. -/
def Fits (a : EReal) : Prop := a ≤ Ideal.ofBits .f32 0x7F7F0000#32 ∨ a = Ideal.ofBits .f32 0x7F800000#32

theorem inf_f32 : Ideal.ofBits .f32 0x7F800000#32 = ⊤ := by
  simp [Ideal.ofBits, Ideal.ieee]

/-- An infinite value passes every comparison of the search, and its scale's exponent field overflows to that of zero. -/
theorem sclW_top : sclW ⊤ = 0 := by
  have st : ∀ b k : BitVec 32, bitStep ⊤ b k = k + b := fun b k => if_pos le_top
  have e : expW ⊤ = 129#32 := by
    unfold expW bitSearch
    rw [if_neg (by simp)]
    simp only [st]
    rfl
  unfold sclW
  rw [e, show (129#32 + 127#32 : BitVec 32) = 256#32 from rfl]
  simp [fieldF, Ideal.ofBits, Ideal.ieee]

theorem expR_top : expR ⊤ = ⊤ := by
  have hi : (0 : ℝ) < inv448R := by unfold inv448R; positivity
  have hl2 : (0 : ℝ) < Real.log 2 := Real.log_pos (by norm_num)
  unfold expR
  rw [if_neg (by simp), inv448_eq, EReal.top_mul_coe_of_pos hi, Ideal.log_top, Ideal.div_coe hl2.ne',
    EReal.top_mul_coe_of_pos (by positivity), Ideal.liftRound_top]
  rfl

/-- A row's product by the kernel's powers is its product by the reference's. -/
theorem row_dot {f : Fin 2048 → EReal} (h : Fits (mag f)) (e1 e2 : Fin 1024 → Fin 2048) (w1 w2 : Fin 1024 → EReal) :
    ((∑ k, clip (f (e1 k) * invW (mag f * inv448)) * w1 k) + ∑ k, clip (f (e2 k) * invW (mag f * inv448)) * w2 k) * sclW (mag f * inv448)
      = ((∑ k, clip (f (e1 k) * Ideal.exp2 (0 - expR (mag f))) * w1 k) + ∑ k, clip (f (e2 k) * Ideal.exp2 (0 - expR (mag f))) * w2 k)
        * Ideal.exp2 (expR (mag f)) := by
  rcases h with h | h
  · obtain ⟨h1, h2⟩ := row_scales h
    rw [h1.dot, h2.dot]
  · have hi : (0 : ℝ) < inv448R := by unfold inv448R; positivity
    have hz : clip (0 : EReal) = 0 := by simpa using clip_eq 0 (by norm_num)
    have he : Ideal.exp2 (0 - expR ⊤) = 0 := by rw [expR_top, zero_sub, EReal.neg_top, Ideal.exp2_bot]
    rw [h, inf_f32, inv448_eq, EReal.top_mul_coe_of_pos hi, sclW_top, mul_zero, he]
    simp [hz]

theorem ite_bit {α : Type} (p : Prop) (i1 : Decidable p) (i2 : Decidable (BitVec.ofBool (@decide p i1) = 1#1)) (i3 : Decidable p) (a b : α) :
    (@ite α (BitVec.ofBool (@decide p i1) = 1#1) i2 a b) = @ite α p i3 a b := by
  cases i1 with
  | isTrue h => rw [if_pos h]; exact if_pos rfl
  | isFalse h => rw [if_neg h]; exact if_neg (show ¬ (0#1 = 1#1) by decide)

theorem lo_nibble : ∀ b : BitVec 8, ((b.setWidth 32 &&& 15#32) ^^^ 8#32) - 8#32 = ((b.setWidth 32) <<< 28).sshiftRight 28 := by decide +kernel
theorem hi_nibble : ∀ b : BitVec 8, ((((b.setWidth 32).sshiftRight 4) &&& 15#32) ^^^ 8#32) - 8#32 = ((b.setWidth 32) <<< 24).sshiftRight 28 := by decide +kernel

end Cert.Hand
-- ==== Proof.KVal.lean ====
/- The kernel's buffers element by element, over the extended reals: a quantised element, a row's scale, a weight. -/
module

public import proofs.«01_k».proof.Proof.Agree
public import proofs.«01_k».proof.Proof.Num
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Hand
open Idealize Idealize.ShloMosaic Idealize.SL.Sem

/-! ## Rows -/

/-- One bit of the search, for a vector of values. -/
def stp (v : FVec Ideal S2x16x1 .f32) (b c : BitVec 32) (k : IVec S2x16x1 32) : IVec S2x16x1 32 :=
  select (cmpf .oge v (bitcastToFloat .f32 (shli (addi (addi k (broadcast S2x16x1 c)) (broadcast S2x16x1 127#32)) (broadcast S2x16x1 23#32))))
    (addi k (broadcast S2x16x1 b)) k

theorem stp_at (v : FVec Ideal S2x16x1 .f32) (b c : BitVec 32) (hb : c + 127#32 = b) (k : IVec S2x16x1 32) (j : S2x16x1.Idx) :
    stp v b c k j = bitStep (v j) b (k j) := by
  subst hb
  show (if BitVec.ofBool (decide (Ideal.ofBits .f32 ((k j + c + 127#32) <<< 23) ≤ v j)) = 1#1 then k j + (c + 127#32) else k j) = _
  unfold bitStep fieldF
  rw [BitVec.add_assoc]
  exact ite_bit _ _ _ _ _ _

theorem pay9_eq (v : Vec Ideal S2x16x2048 .bf16) :
    k0_pay9 v = stp (k0_pay8 v) 64#32 4294967233#32 (stp (k0_pay8 v) 128#32 1#32 (broadcast S2x16x1 0#32)) := rfl

theorem pay11_eq (v : FVec Ideal S2x16x1 .f32) (k : IVec S2x16x1 32) (c : IVec S2x16x1 1) :
    k0_pay11 v k c = stp v 4#32 4294967173#32 (stp v 8#32 4294967177#32 (stp v 16#32 4294967185#32 (select c (addi k (broadcast S2x16x1 32#32)) k))) := rfl

theorem pay10_eq (v : Vec Ideal S2x16x2048 .bf16) :
    select (k0_pay10 v) (addi (k0_pay9 v) (broadcast S2x16x1 32#32)) (k0_pay9 v) = stp (k0_pay8 v) 32#32 4294967201#32 (k0_pay9 v) := rfl

/-- The word the search ends at, less its offset, and zero for a row of zeros. -/
theorem pay13_eq (v : FVec Ideal S2x16x1 .f32) (k : IVec S2x16x1 32) (c : IVec S2x16x1 1) :
    k0_pay13 v (k0_pay11 v k c) (k0_pay12 v k c)
      = select (cmpf .oeq v (broadcast S2x16x1 (Scalar.ofBits .f32 0x00000000#32))) (broadcast S2x16x1 0#32)
          (subi (stp v 1#32 4294967170#32 (stp v 2#32 4294967171#32 (k0_pay11 v k c))) (broadcast S2x16x1 126#32)) := rfl

theorem last_at (v : FVec Ideal S2x16x1 .f32) (k : IVec S2x16x1 32) (j : S2x16x1.Idx) :
    select (cmpf .oeq v (broadcast S2x16x1 (Scalar.ofBits .f32 0x00000000#32))) (broadcast S2x16x1 0#32) (subi k (broadcast S2x16x1 126#32)) j
      = if v j = 0 then 0#32 else k j - 126#32 := by
  show (if BitVec.ofBool (decide (v j = Ideal.ofBits .f32 0x00000000#32)) = 1#1 then 0#32 else k j - 126#32) = _
  rw [zero_f32]
  exact ite_bit _ _ _ _ _ _

theorem pay13_at (v : Vec Ideal S2x16x2048 .bf16) (j : S2x16x1.Idx) :
    k0_pay13 (k0_pay8 v) (k0_pay11 (k0_pay8 v) (k0_pay9 v) (k0_pay10 v)) (k0_pay12 (k0_pay8 v) (k0_pay9 v) (k0_pay10 v)) j = expW (k0_pay8 v j) := by
  rw [pay13_eq, pay11_eq, pay10_eq, pay9_eq, last_at]
  rw [stp_at _ _ _ (by decide), stp_at _ _ _ (by decide), stp_at _ _ _ (by decide), stp_at _ _ _ (by decide),
    stp_at _ _ _ (by decide), stp_at _ _ _ (by decide), stp_at _ _ _ (by decide), stp_at _ _ _ (by decide)]
  rfl

theorem pay8_at (v : Vec Ideal S2x16x2048 .bf16) (i : Fin 2) (j : Fin 16) :
    k0_pay8 v (ix3 i j 0) = mag (fun k => v (ix3 i j k)) * inv448 := by
  pointwise [k0_pay8, k0_pay7]
  rfl

theorem qVec_at (v : Vec Ideal S2x16x2048 .bf16) (i : Fin 2) (j : Fin 16) (k : Fin 2048) :
    qVec v (ix3 i j k) = clip (v (ix3 i j k) * invW (mag (fun k => v (ix3 i j k)) * inv448)) := by
  pointwise [qVec, k0_pay216, k0_pay15, k0_pay7]
  rw [pay13_at, pay8_at]
  rfl

theorem scVec_at (v : Vec Ideal S2x16x2048 .bf16) (i : Fin 2) (j : Fin 16) (k : Fin 128) :
    scVec v (ix3 i j k) = sclW (mag (fun k => v (ix3 i j k)) * inv448) := by
  pointwise [scVec, k0_pay217, k0_pay14]
  rw [pay13_at, pay8_at]
  rfl

theorem pairOf_at (X : S96x16x2048.Idx → Elt Ideal .bf16) (i : Fin 96) (j : Fin 16) (k : Fin 2048) (h : i.val / 2 < 48) :
    pairOf X (i.val / 2) h (ix3 ⟨i.val - 2 * (i.val / 2), by omega⟩ j k) = X (ix3 i j k) := by
  unfold pairOf
  congr 1
  funext a
  apply Fin.ext
  match a with
  | 0 => show 2 * (i.val / 2) + 1 * (i.val - 2 * (i.val / 2)) = i.val; omega
  | 1 => show 0 + 1 * j.val = j.val; omega
  | 2 => show 0 + 1 * k.val = k.val; omega

theorem loc_ix3 {L : ℕ} (i : Fin 96) (j : Fin 16) (k : Fin L) (h) :
    Rect.unitLocal (s := ⟨3, ![96, 16, L]⟩) (off := ![2 * (i.val / 2), 0, 0]) (size := (⟨3, ![2, 16, L]⟩ : Shape).size) (ix3 i j k) h
      = ix3 (n0 := 2) (n1 := 16) (n2 := L) ⟨i.val - 2 * (i.val / 2), by omega⟩ j k := by
  funext a
  apply Fin.ext
  match a with
  | 0 => rfl
  | 1 => rfl
  | 2 => rfl

theorem aOf_at (X : S96x16x2048.Idx → Elt Ideal .bf16) (i : Fin 96) (j : Fin 16) (k : Fin 2048) :
    aOf X (ix3 i j k) = clip (X (ix3 i j k) * invW (mag (fun k => X (ix3 i j k)) * inv448)) := by
  have hi : i.val / 2 < 48 := by have := i.isLt; omega
  have e := qVec_at (pairOf X (i.val / 2) hi) ⟨i.val - 2 * (i.val / 2), by omega⟩ j k
  simp only [pairOf_at] at e
  rw [← e]
  exact congrArg (qVec (pairOf X (i.val / 2) hi)) (loc_ix3 (L := 2048) i j k _)

theorem scOf_at (X : S96x16x2048.Idx → Elt Ideal .bf16) (i : Fin 96) (j : Fin 16) (k : Fin 128) :
    scOf X (ix3 i j k) = sclW (mag (fun k => X (ix3 i j k)) * inv448) := by
  have hi : i.val / 2 < 48 := by have := i.isLt; omega
  have e := scVec_at (pairOf X (i.val / 2) hi) ⟨i.val - 2 * (i.val / 2), by omega⟩ j k
  simp only [pairOf_at] at e
  rw [← e]
  exact congrArg (scVec (pairOf X (i.val / 2) hi)) (loc_ix3 (L := 128) i j k _)

/-! ## Weights -/

theorem wLd_at (W : S8x1024x512.Idx → Elt Ideal .i8) (e g : Fin 8) (i : Fin 128) (c : Fin 512) :
    wLd W e g (ix3 0 i c) = W (ix3 e ⟨128 * g.val + i.val, by omega⟩ c) := by
  unfold wLd
  congr 1
  funext a
  apply Fin.ext
  match a with
  | 0 => show e.val + 1 * 0 = e.val; omega
  | 1 => show 128 * g.val + 1 * i.val = 128 * g.val + i.val; omega
  | 2 => show 0 + 1 * c.val = c.val; omega

theorem sLd_at (S : S8x16x512.Idx → Elt Ideal .f32) (e : Fin 8) (g : ℕ) (hg : g < 16) (c : Fin 512) :
    sLd S e g hg (ix3 0 0 c) = S (ix3 e ⟨g, hg⟩ c) := by
  unfold sLd
  congr 1
  funext a
  apply Fin.ext
  match a with
  | 0 => show e.val + 1 * 0 = e.val; omega
  | 1 => show g + 1 * 0 = g; omega
  | 2 => show 0 + 1 * c.val = c.val; omega

theorem wLo_at (W : S8x1024x512.Idx → Elt Ideal .i8) (S : S8x16x512.Idx → Elt Ideal .f32) (e g : Fin 8) (i : Fin 128) (c : Fin 512) :
    wLo W S e g (ix2 i c) = loN (W (ix3 e ⟨128 * g.val + i.val, by omega⟩ c)) * S (ix3 e ⟨g.val, by omega⟩ c) := by
  pointwise [wLo, k0_pay17, k0_pay16]
  rw [wLd_at, sLd_at]
  rfl

theorem wHi_at (W : S8x1024x512.Idx → Elt Ideal .i8) (S : S8x16x512.Idx → Elt Ideal .f32) (e g : Fin 8) (i : Fin 128) (c : Fin 512) :
    wHi W S e g (ix2 i c) = hiN (W (ix3 e ⟨128 * g.val + i.val, by omega⟩ c)) * S (ix3 e ⟨8 + g.val, by omega⟩ c) := by
  pointwise [wHi, k0_pay18, k0_pay16]
  rw [wLd_at, sLd_at]
  rfl

theorem wbOf_lo (W : S8x1024x512.Idx → Elt Ideal .i8) (S : S8x16x512.Idx → Elt Ideal .f32) (e : Fin 8) (k : Fin 1024) (c : Fin 512) :
    wbOf W S e (ix2 ⟨k.val, by omega⟩ c) = loN (W (ix3 e k c)) * S (ix3 e ⟨k.val / 128, by omega⟩ c) := by
  have hk := k.isLt
  unfold wbOf
  refine (dif_pos hk).trans ?_
  have h := wLo_at W S e ⟨k.val / 128, by omega⟩ ⟨k.val - 128 * (k.val / 128), by omega⟩ c
  have e1 : (⟨128 * (k.val / 128) + (k.val - 128 * (k.val / 128)), by omega⟩ : Fin 1024) = k := Fin.ext (by show 128 * (k.val / 128) + (k.val - 128 * (k.val / 128)) = k.val; omega)
  rw [e1] at h
  rw [← h]
  refine congrArg (wLo W S e ⟨k.val / 128, by omega⟩) ?_
  funext a
  apply Fin.ext
  match a with
  | 0 => rfl
  | 1 => rfl

theorem wbOf_hi (W : S8x1024x512.Idx → Elt Ideal .i8) (S : S8x16x512.Idx → Elt Ideal .f32) (e : Fin 8) (k : Fin 1024) (c : Fin 512) :
    wbOf W S e (ix2 ⟨1024 + k.val, by omega⟩ c) = hiN (W (ix3 e k c)) * S (ix3 e ⟨8 + k.val / 128, by omega⟩ c) := by
  have hk := k.isLt
  unfold wbOf
  refine (dif_neg (by show ¬ (1024 + k.val < 1024); omega)).trans ?_
  have h := wHi_at W S e ⟨(1024 + k.val - 1024) / 128, by omega⟩ ⟨k.val - 128 * (k.val / 128), by omega⟩ c
  have e1 : (⟨128 * ((1024 + k.val - 1024) / 128) + (k.val - 128 * (k.val / 128)), by omega⟩ : Fin 1024) = k := Fin.ext (by show 128 * ((1024 + k.val - 1024) / 128) + (k.val - 128 * (k.val / 128)) = k.val; omega)
  have e2 : (⟨8 + (1024 + k.val - 1024) / 128, by omega⟩ : Fin 16) = ⟨8 + k.val / 128, by omega⟩ := Fin.ext (by show 8 + (1024 + k.val - 1024) / 128 = 8 + k.val / 128; omega)
  rw [e1] at h
  rw [← e2, ← h]
  refine congrArg (wHi W S e ⟨(1024 + k.val - 1024) / 128, by omega⟩) ?_
  funext a
  apply Fin.ext
  match a with
  | 0 => show 1024 + k.val - (1024 + 128 * ((1024 + k.val - 1024) / 128)) = k.val - 128 * (k.val / 128); omega
  | 1 => rfl

end Cert.KernelIdeal.Hand
-- ==== Proof.KOut.lean ====
/- The kernel's output block element by element: the product of a row's quantised elements with its expert's weights, times
   the row's scale. -/
module

public import proofs.«01_k».proof.Proof.KVal

@[expose] public section

set_option maxRecDepth 16384

noncomputable section

namespace Cert.KernelIdeal.Hand

open Cert.KernelIdeal Cert.KernelIdeal.Gen Cert.Hand
open Idealize Idealize.ShloMosaic Idealize.SL.Sem

theorem chunkAcc_at (a : Vec Ideal S8x16x2048 .bf16) (b : Vec Ideal S2048x512 .bf16) (v : Vec Ideal S8x16x128 .f32) (p : Fin 8) (q : Fin 16) (c : Fin 512)
    (σ : EReal) (hv : ∀ l, v (ix3 p q l) = σ) :
    chunkAcc a b v (ix3 p q c) = (∑ k : Fin 2048, a (ix3 p q k) * b (ix2 k c)) * σ := by
  pointwise [chunkAcc]
  simp only [hv, ite_self, dite_eq_ite]

/-- What an element of the row's chunk is given: the product and the scale. -/
def valOf (X : S96x16x2048.Idx → Elt Ideal .bf16) (B : S2048x512.Idx → Elt Ideal .bf16) (i : Fin 96) (j : Fin 16) (c : Fin 512) : EReal :=
  (∑ k : Fin 2048, aOf X (ix3 i j k) * B (ix2 k c)) * sclW (mag (fun k => X (ix3 i j k)) * inv448)

theorem slab_at {L : ℕ} (X : (⟨3, ![96, 16, L]⟩ : Shape).Idx → EReal) (t : ℕ) (ht : t ≤ 88) (i : Fin 96) (h : t ≤ i.val ∧ i.val < t + 8) (j : Fin 16) (k : Fin L) :
    slab (L := L) X t ht (ix3 ⟨i.val - t, by omega⟩ j k) = X (ix3 i j k) := by
  unfold slab
  refine congrArg X ?_
  funext a
  apply Fin.ext
  match a with
  | 0 => show t + 1 * (i.val - t) = i.val; omega
  | 1 => show 0 + 1 * j.val = j.val; omega
  | 2 => show 0 + 1 * k.val = k.val; omega

theorem chunkAcc_loc (X : S96x16x2048.Idx → Elt Ideal .bf16) (B : S2048x512.Idx → Elt Ideal .bf16) (t : ℕ) (ht : t ≤ 88) (i : Fin 96) (j : Fin 16) (c : Fin 512)
    (h : t ≤ ((ix3 i j c : S96x16x512.Idx) 0).val ∧ ((ix3 i j c : S96x16x512.Idx) 0).val < t + 8) :
    chunkAcc (slab (L := 2048) (aOf X) t ht) B (slab (L := 128) (scOf X) t ht) (locOf t (ix3 i j c) h) = valOf X B i j c := by
  have h' : t ≤ i.val ∧ i.val < t + 8 := h
  have e : locOf t (ix3 i j c) h = ix3 (n0 := 8) (n1 := 16) (n2 := 512) ⟨i.val - t, by omega⟩ j c := by
    funext a
    apply Fin.ext
    match a with
    | 0 => rfl
    | 1 => rfl
    | 2 => rfl
  rw [e, chunkAcc_at _ _ _ _ _ _ _ (fun l => (slab_at (L := 128) (scOf X) t ht i h' j l).trans (scOf_at X i j l))]
  unfold valOf
  refine congrArg (· * _) (Finset.sum_congr rfl fun k _ => ?_)
  rw [slab_at (L := 2048) (aOf X) t ht i h' j k]

/-- After some chunks: the value, once a chunk has held the row. -/
theorem chunksF_val {s n : ℕ} (hs : s ≤ 1536) (hn : n ≤ 1536) (X : S96x16x2048.Idx → Elt Ideal .bf16) (B : S2048x512.Idx → Elt Ideal .bf16)
    (Y : S96x16x512.Idx → Elt Ideal .bf16) (i : Fin 96) (j : Fin 16) (c : Fin 512) (hr : s ≤ rowOf (ix3 i j c) ∧ rowOf (ix3 i j c) < n) (k : ℕ)
    (h : Y (ix3 i j c) = valOf X B i j c ∨ ∃ l < k, ttN s l ≤ i.val ∧ i.val < ttN s l + 8) :
    chunksF s n (aOf X) (scOf X) B Y k (ix3 i j c) = valOf X B i j c := by
  induction k with
  | zero =>
    rcases h with h | ⟨l, hl, _⟩
    · exact h
    · exact absurd hl (Nat.not_lt_zero _)
  | succ k ih =>
    show chunkF s n (ttN s k) (ttN_le s k) _ _ B (chunksF s n _ _ B Y k) _ = _
    rw [chunkF_at _ hs hn]
    by_cases ht : ttN s k ≤ ((ix3 i j c : S96x16x512.Idx) 0).val ∧ ((ix3 i j c : S96x16x512.Idx) 0).val < ttN s k + 8
    · rw [dif_pos ht, if_pos hr]
      exact chunkAcc_loc X B (ttN s k) (ttN_le s k) i j c ht
    · rw [dif_neg ht]
      refine ih (h.imp_right fun ⟨l, hl, hti⟩ => ⟨l, ?_, hti⟩)
      rcases Nat.lt_succ_iff_lt_or_eq.1 hl with hl | rfl
      · exact hl
      · exact absurd hti ht

/-- Rows that are not the expert's keep what they held. -/
theorem chunksF_old {s n : ℕ} (hs : s ≤ 1536) (hn : n ≤ 1536) (A : S96x16x2048.Idx → Elt Ideal .bf16) (C : S96x16x128.Idx → Elt Ideal .f32) (B : S2048x512.Idx → Elt Ideal .bf16)
    (Y : S96x16x512.Idx → Elt Ideal .bf16) (y : S96x16x512.Idx) (hr : ¬ (s ≤ rowOf y ∧ rowOf y < n)) (k : ℕ) :
    chunksF s n A C B Y k y = Y y := by
  induction k with
  | zero => rfl
  | succ k ih =>
    show chunkF s n (ttN s k) (ttN_le s k) _ _ B (chunksF s n _ _ B Y k) _ = _
    rw [chunkF_at _ hs hn]
    by_cases ht : ttN s k ≤ (y 0).val ∧ (y 0).val < ttN s k + 8
    · rw [dif_pos ht, if_neg hr]
      exact ih
    · rw [dif_neg ht]
      exact ih

theorem rowsTo_monotone (g : ℕ → ℕ) : Monotone (rowsTo g) := monotone_nat_of_le_succ fun e => Nat.le_add_right _ _

theorem blockF_val (g : ℕ → ℕ) (X : S96x16x2048.Idx → Elt Ideal .bf16) (W : S8x1024x512.Idx → Elt Ideal .i8) (S : S8x16x512.Idx → Elt Ideal .f32)
    (Y : S96x16x512.Idx → Elt Ideal .bf16) (i : Fin 96) (j : Fin 16) (c : Fin 512) (e : ℕ)
    (h1 : rowsTo g e ≤ rowOf (ix3 i j c)) (h2 : rowOf (ix3 i j c) < rowsTo g (e + 1)) (n : ℕ) (hn : rowsTo g n ≤ 1536) (hen : e < n) :
    blockF g X W S Y n (ix3 i j c) = valOf X (wbOf W S (Fin.ofNat 8 e)) i j c := by
  induction n with
  | zero => exact absurd hen (Nat.not_lt_zero _)
  | succ n ih =>
    have hle : rowsTo g n ≤ rowsTo g (n + 1) := Nat.le_add_right _ _
    show expF (rowsTo g n) (rowsTo g (n + 1)) _ _ _ (blockF g X W S Y n) _ = _
    unfold expF
    rcases Nat.lt_succ_iff_lt_or_eq.1 hen with he | rfl
    · have hb : rowsTo g (e + 1) ≤ rowsTo g n := rowsTo_monotone g he
      have hold := ih (by omega) he
      split
      · rw [chunksF_old (by omega) hn _ _ _ _ _ (by omega)]
        exact hold
      · exact hold
    · rw [if_pos (by omega)]
      refine chunksF_val (by omega) hn X _ _ i j c ⟨h1, h2⟩ _ (.inr ?_)
      exact covered hn j.isLt h1 h2

/-- An element of the output block. -/
theorem outF_val (g : ℕ → ℕ) (hg : rowsTo g 8 = 1536) (X : S96x16x2048.Idx → Elt Ideal .bf16) (W : S8x1024x512.Idx → Elt Ideal .i8) (S : S8x16x512.Idx → Elt Ideal .f32)
    (i : Fin 96) (j : Fin 16) (c : Fin 512) (e : ℕ) (he : e < 8)
    (h1 : rowsTo g e ≤ rowOf (ix3 i j c)) (h2 : rowOf (ix3 i j c) < rowsTo g (e + 1)) :
    outF g X W S (ix3 i j c) = valOf X (wbOf W S (Fin.ofNat 8 e)) i j c :=
  blockF_val g X W S _ i j c e h1 h2 8 (le_of_eq hg) he

/-- The expert that holds a row. -/
theorem expert_of (g : ℕ → ℕ) (n r : ℕ) (h : r < rowsTo g n) : ∃ e < n, rowsTo g e ≤ r ∧ r < rowsTo g (e + 1) := by
  induction n with
  | zero => exact absurd h (Nat.not_lt_zero _)
  | succ n ih =>
    by_cases hr : r < rowsTo g n
    · obtain ⟨e, he, h'⟩ := ih hr
      exact ⟨e, by omega, h'⟩
    · exact ⟨n, by omega, by omega, h⟩

theorem sum_halves (f : Fin 2048 → EReal) :
    ∑ k, f k = (∑ k : Fin 1024, f ⟨k.val, by omega⟩) + ∑ k : Fin 1024, f ⟨1024 + k.val, by omega⟩ :=
  Fin.sum_univ_add (a := 1024) (b := 1024) f

/-- The product split into the two halves of the weights. -/
theorem valOf_split (X : S96x16x2048.Idx → Elt Ideal .bf16) (W : S8x1024x512.Idx → Elt Ideal .i8) (S : S8x16x512.Idx → Elt Ideal .f32) (e : Fin 8) (i : Fin 96) (j : Fin 16) (c : Fin 512) :
    valOf X (wbOf W S e) i j c = ((∑ k : Fin 1024, aOf X (ix3 i j ⟨k.val, by omega⟩) * (loN (W (ix3 e k c)) * S (ix3 e ⟨k.val / 128, by omega⟩ c)))
      + ∑ k : Fin 1024, aOf X (ix3 i j ⟨1024 + k.val, by omega⟩) * (hiN (W (ix3 e k c)) * S (ix3 e ⟨8 + k.val / 128, by omega⟩ c)))
        * sclW (mag (fun k => X (ix3 i j k)) * inv448) := by
  unfold valOf
  rw [sum_halves]
  simp only [wbOf_lo, wbOf_hi]

end Cert.KernelIdeal.Hand
-- ==== Proof.RefVal.lean ====
/- The reference's result as a function of its arguments: the accumulator expert by expert, then its elements. -/
module

public import proofs.«01_k».proof.Proof.Gen.ReferenceIdeal.Value
public import Idealize.ShloMosaic.Lib.Pipeline.ValueKit
public import Idealize.ShloMosaic.Lib.Pipeline.ReadBack
public import Idealize.ShloMosaic.Lib.Pointwise

@[expose] public section

noncomputable section

namespace Cert.ReferenceIdeal.Hand

open Cert.ReferenceIdeal Cert.ReferenceIdeal.Gen
open Idealize Idealize.ShloMosaic Idealize.SL.Sem

variable {F : FTy → Type} [FloatOps F] [Named F]

/-- Half of an expert's weights: one nibble of every byte, sign-extended and scaled. -/
def refHalf (w : Vec F S1x1024x7168 .i8) (sh : BitVec 32) (s8 : FVec F S8x7168 .bf16) : FVec F S1024x7168 .bf16 :=
  shapeCast S1024x7168 (mulf
    (shapeCast S8x128x7168 (truncf .bf16 (sitofp .f32 (shrsi (shli (extui 32 (shapeCast S1024x7168 w shapeCasts_S1x1024x7168_S1024x7168) natLt_8_32)
      (broadcast S1024x7168 sh)) (broadcast S1024x7168 28#32))) bitsLt_bf16_f32) shapeCasts_S1024x7168_S8x128x7168)
    (broadcastTo S8x128x7168 (shapeCast S8x1x7168 s8 shapeCasts_S8x7168_S8x1x7168) broadcasts_S8x1x7168_S8x128x7168)) shapeCasts_S8x128x7168_S1024x7168

/-- An expert's scales. -/
def refS (s : Vec F S1x16x7168 .f32) : FVec F S16x7168 .bf16 :=
  truncf .bf16 (shapeCast S16x7168 s shapeCasts_S1x16x7168_S16x7168) bitsLt_bf16_f32

/-- The (iota .tc S1536x7168 32 [0] iota_S1536x7168_d0_w32) times an expert's weights. -/
def refDot (a : FVec F S1536x2048 .bf16) (w : Vec F S1x1024x7168 .i8) (s : Vec F S1x16x7168 .f32) : FVec F S1536x7168 .f32 :=
  addf (matmul dot_S1536x1024_S1024x7168_S1536x7168_1_0_0_1_n_n none (extractStridedSlice S1536x1024 ![0, 0] a slices_S1536x2048_o0_0_S1536x1024)
      (refHalf w 28#32 (extractStridedSlice S8x7168 ![0, 0] (refS s) slices_S16x7168_o0_0_S8x7168)) (constant S1536x7168 .f32 0x00000000#32))
    (matmul dot_S1536x1024_S1024x7168_S1536x7168_1_0_0_1_n_n none (extractStridedSlice S1536x1024 ![0, 1024] a slices_S1536x2048_o0_1024_S1536x1024)
      (refHalf w 24#32 (extractStridedSlice S8x7168 ![8, 0] (refS s) slices_S16x7168_o8_0_S8x7168)) (constant S1536x7168 .f32 0x00000000#32))

/-- The accumulator after an expert. -/
def refStep (a : FVec F S1536x2048 .bf16) (w : Vec F S1x1024x7168 .i8) (s : Vec F S1x16x7168 .f32) (st en : BitVec 32) (acc : FVec F S1536x7168 .f32) :
    FVec F S1536x7168 .f32 :=
  select (andi (cmpi .sge (iota .tc S1536x7168 32 [0] iota_S1536x7168_d0_w32) (broadcast S1536x7168 st))
    (cmpi .slt (iota .tc S1536x7168 32 [0] iota_S1536x7168_d0_w32) (broadcast S1536x7168 en))) (refDot a w s) acc

theorem inbW (e : Fin 8) : ∀ a, (![e.val, 0, 0] : Fin 3 → ℕ) a + S1x1024x7168.size a ≤ S8x1024x7168.size a
  | 0 => (by omega : e.val + 1 ≤ 8)
  | 1 => (by omega : 0 + 1024 ≤ 1024)
  | 2 => (by omega : 0 + 7168 ≤ 7168)
theorem inbS (e : Fin 8) : ∀ a, (![e.val, 0, 0] : Fin 3 → ℕ) a + S1x16x7168.size a ≤ S8x16x7168.size a
  | 0 => (by omega : e.val + 1 ≤ 8)
  | 1 => (by omega : 0 + 16 ≤ 16)
  | 2 => (by omega : 0 + 7168 ≤ 7168)

/-- One expert's bytes, -/
def refWs (W : S8x1024x7168.Idx → Elt F .i8) (e : Fin 8) : Vec F S1x1024x7168 .i8 :=
  View.ld W (Rect.unit (s := S8x1024x7168) ![e.val, 0, 0] S1x1024x7168.size (inbW e))
/-- and its scales. -/
def refSs (S : S8x16x7168.Idx → Elt F .f32) (e : Fin 8) : Vec F S1x16x7168 .f32 :=
  View.ld S (Rect.unit (s := S8x16x7168) ![e.val, 0, 0] S1x16x7168.size (inbS e))

/-- The word of an expert's first row. -/
def refStart (g : Fin 8 → BitVec 32) : ℕ → BitVec 32
  | 0 => 0#32
  | e + 1 => Scalar.addi (refStart g e) (g (Fin.ofNat 8 e))

/-- The accumulator after `e` experts. -/
def refAcc (g : Fin 8 → BitVec 32) (x : Vec F S1536x2048 .bf16) (W : S8x1024x7168.Idx → Elt F .i8) (S : S8x16x7168.Idx → Elt F .f32) : ℕ → FVec F S1536x7168 .f32
  | 0 => broadcast S1536x7168 (Scalar.ofBits .f32 0x00000000#32)
  | e + 1 => refStep (k0_pay4 x) (refWs W (Fin.ofNat 8 e)) (refSs S (Fin.ofNat 8 e)) (refStart g e) (refStart g (e + 1)) (refAcc g x W S e)

/-- The result. -/
def refOut (g : Fin 8 → BitVec 32) (x : Vec F S1536x2048 .bf16) (W : S8x1024x7168.Idx → Elt F .i8) (S : S8x16x7168.Idx → Elt F .f32) : FVec F S1536x7168 .bf16 :=
  truncf .bf16 (mulf (refAcc g x W S 8) (broadcastTo S1536x7168 (exp2 (k0_pay3 x)) broadcasts_S1536x1_S1536x7168)) bitsLt_bf16_f32

/-! The program's pieces of the eight steps are the step. -/

section Steps
variable (a : FVec F S1536x2048 .bf16) (w : Vec F S1x1024x7168 .i8) (s : Vec F S1x16x7168 .f32) (st en : BitVec 32) (acc : FVec F S1536x7168 .f32)

theorem step_0 : k0_pay9 a (iota .tc S1536x7168 32 [0] iota_S1536x7168_d0_w32) acc en (k0_pay6 w) (k0_pay7 w) k0_pay8 s = refStep a w s 0#32 en acc := rfl
theorem step_1 : k0_pay14 a (iota .tc S1536x7168 32 [0] iota_S1536x7168_d0_w32) st acc en (k0_pay11 w) (k0_pay12 w) k0_pay13 s = refStep a w s st en acc := rfl
theorem step_2 : k0_pay18 a (iota .tc S1536x7168 32 [0] iota_S1536x7168_d0_w32) st acc en (k0_pay16 w) (k0_pay17 w) s = refStep a w s st en acc := rfl
theorem step_3 : k0_pay24 a (iota .tc S1536x7168 32 [0] iota_S1536x7168_d0_w32) st acc en (k0_pay20 w) (k0_pay21 w) (k0_pay22 s) (k0_pay23 s) = refStep a w s st en acc := rfl
theorem step_4 : k0_pay30 a (iota .tc S1536x7168 32 [0] iota_S1536x7168_d0_w32) st acc en (k0_pay26 w) (k0_pay27 s) (k0_pay28 w) (k0_pay29 s) = refStep a w s st en acc := rfl
theorem step_5 : k0_pay36 a (iota .tc S1536x7168 32 [0] iota_S1536x7168_d0_w32) st acc en (k0_pay32 w) (k0_pay34 w s) (k0_pay35 s) = refStep a w s st en acc := rfl
theorem step_6 : k0_pay42 a (iota .tc S1536x7168 32 [0] iota_S1536x7168_d0_w32) st acc en (k0_pay39 w s) (k0_pay40 w) (k0_pay41 s) = refStep a w s st en acc := rfl
theorem step_7 (e : FVec F S1536x1 .f32) : k0_pay1 e a (iota .tc S1536x7168 32 [0] iota_S1536x7168_d0_w32) st acc en (k0_pay45 w s) (k0_pay46 w s) (k0_pay47 a)
    = truncf .bf16 (mulf (refStep a w s st en acc) (broadcastTo S1536x7168 (exp2 e) broadcasts_S1536x1_S1536x7168)) bitsLt_bf16_f32 := rfl

end Steps

theorem inbG (e : Fin 8) : ∀ a, (![e.val] : Fin 1 → ℕ) a + S1.size a ≤ S8.size a
  | 0 => (by omega : e.val + 1 ≤ 8)

/-- One expert's number of rows, as it is read. -/
def refWord (T : S8.Idx → Elt F .i32) (e : Fin 8) : BitVec 32 :=
  View.ld T (Rect.unit (s := S8) ![e.val] S1.size (inbG e)) (Shape.Idx.first (s := S1) (by decide))

variable (m : (ℓ : Loc nD τ sig) → Buf (Elt F) ℓ)

set_option maxRecDepth 65536 in
theorem outsAt_eq (c : Dev nD) (t : Fin cfg0.N) :
    outsAt0 m c t = refOut (refWord (iblk m c 0 t)) (iblk m c 1 t) (iblk m c 2 t) (iblk m c 3 t) := by
  unfold outsAt0
  frame_out
  simp only [read_unread_whole]
  rw [step_7, step_6, step_5, step_4, step_3, step_2, step_1, step_0]
  rfl

end Cert.ReferenceIdeal.Hand
-- ==== Proof.RVal.lean ====
/- The reference's result element by element, over the extended reals. -/
module

public import proofs.«01_k».proof.Proof.RefVal
public import proofs.«01_k».proof.Proof.Num

@[expose] public section

set_option maxRecDepth 16384

noncomputable section

namespace Cert.ReferenceIdeal.Hand

open Cert.ReferenceIdeal Cert.ReferenceIdeal.Gen Cert.Hand
open Idealize Idealize.ShloMosaic Idealize.SL.Sem Idealize.ShloMosaic.Affine

theorem one_f32 : Ideal.ofBits .f32 0x3F800000#32 = 1 := by simp [Ideal.ofBits, Ideal.ieee, -EReal.coe_mul]; norm_num

/-- The rows' largest magnitudes, -/
def refMag (x : Vec Ideal S1536x2048 .bf16) : FVec Ideal S1536x1 .f32 :=
  shapeCast S1536x1 (multiReduction .maximumf [1] S1536 (absf (k0_pay2 x)) 0xFF800000#32 reduces_S1536x2048_S1536 (.inl rfl) rfl) shapeCasts_S1536_S1536x1

theorem refMag_at (x : Vec Ideal S1536x2048 .bf16) (r : Fin 1536) : refMag x (ix2 r 0) = mag fun k => x (ix2 r k) := by
  pointwise [refMag, k0_pay2]
  rfl

/-- and their exponents. -/
def refExp (v : FVec Ideal S1536x1 .f32) : FVec Ideal S1536x1 .f32 :=
  select (cmpf .oeq v (broadcast S1536x1 (Scalar.ofBits .f32 0x00000000#32))) (broadcast S1536x1 (Scalar.ofBits .f32 0x00000000#32))
    (addf (floor (divf (log (mulf v (broadcast S1536x1 (Scalar.ofBits .f32 0x3B124925#32)))) (broadcast S1536x1 (Named.named κ "ln2" 0x3F317218#32))))
      (broadcast S1536x1 (Scalar.ofBits .f32 0x3F800000#32)))

theorem named_ln2 : (Named.named κ "ln2" 0x3F317218#32 : Ideal .f32) = ((Real.log 2 : ℝ) : EReal) := rfl

theorem refExp_at (v : FVec Ideal S1536x1 .f32) (j : S1536x1.Idx) : refExp v j = expR (v j) := by
  show (if BitVec.ofBool (decide (v j = Ideal.ofBits .f32 0x00000000#32)) = 1#1 then Ideal.ofBits .f32 0x00000000#32
    else Ideal.liftRound Int.floor (Ideal.div (Ideal.log (v j * Ideal.ofBits .f32 0x3B124925#32)) (Named.named κ "ln2" 0x3F317218#32 : Ideal .f32)) + Ideal.ofBits .f32 0x3F800000#32) = _
  rw [Cert.Hand.zero_f32, one_f32, named_ln2]
  exact ite_bit _ _ _ _ _ _

theorem pay3_eq (x : Vec Ideal S1536x2048 .bf16) : k0_pay3 x = refExp (refMag x) := rfl

theorem pay3_at (x : Vec Ideal S1536x2048 .bf16) (r : Fin 1536) :
    k0_pay3 x (ix2 r 0) = expR (mag fun k => x (ix2 r k)) := by
  rw [pay3_eq, refExp_at, refMag_at]

/-- The quantised rows, from their exponents. -/
def refQ (x : Vec Ideal S1536x2048 .bf16) (e : FVec Ideal S1536x1 .f32) : FVec Ideal S1536x2048 .bf16 :=
  extf .bf16 (truncf .fp8e4m3 (minimumf (broadcast S1536x2048 (Scalar.ofBits .f32 0x43E00000#32)) (maximumf (broadcast S1536x2048 (Scalar.ofBits .f32 0xC3E00000#32))
    (mulf (k0_pay2 x) (broadcastTo S1536x2048 (exp2 (subf (broadcast S1536x1 (Scalar.ofBits .f32 0x00000000#32)) e)) broadcasts_S1536x1_S1536x2048))))
      bitsLt_fp8e4m3_f32) bitsLt_fp8e4m3_bf16

theorem refQ_at (x : Vec Ideal S1536x2048 .bf16) (e : FVec Ideal S1536x1 .f32) (r : Fin 1536) (k : Fin 2048) :
    refQ x e (ix2 r k) = clip (x (ix2 r k) * Ideal.exp2 (0 - e (ix2 r 0))) := by
  rw [← Cert.Hand.zero_f32]
  pointwise [refQ, k0_pay2]
  rfl

theorem pay4_at (x : Vec Ideal S1536x2048 .bf16) (r : Fin 1536) (k : Fin 2048) :
    k0_pay4 x (ix2 r k) = clip (x (ix2 r k) * Ideal.exp2 (0 - expR (mag fun k => x (ix2 r k)))) := by
  rw [show k0_pay4 x = refQ x (k0_pay3 x) from rfl, refQ_at, pay3_at]

/-- The result from the accumulator and the exponents. -/
def refFin (acc : FVec Ideal S1536x7168 .f32) (e : FVec Ideal S1536x1 .f32) : FVec Ideal S1536x7168 .bf16 :=
  truncf .bf16 (mulf acc (broadcastTo S1536x7168 (exp2 e) broadcasts_S1536x1_S1536x7168)) bitsLt_bf16_f32

theorem refFin_at (acc : FVec Ideal S1536x7168 .f32) (e : FVec Ideal S1536x1 .f32) (r : Fin 1536) (c : Fin 7168) :
    refFin acc e (ix2 r c) = acc (ix2 r c) * Ideal.exp2 (e (ix2 r 0)) := by
  pointwise [refFin]
  rfl

theorem refOut_at (g : Fin 8 → BitVec 32) (x : Vec Ideal S1536x2048 .bf16) (W : S8x1024x7168.Idx → Elt Ideal .i8) (S : S8x16x7168.Idx → Elt Ideal .f32) (r : Fin 1536) (c : Fin 7168) :
    refOut g x W S (ix2 r c) = refAcc g x W S 8 (ix2 r c) * Ideal.exp2 (expR (mag fun k => x (ix2 r k))) := by
  rw [show refOut g x W S = refFin (refAcc g x W S 8) (k0_pay3 x) from rfl, refFin_at, pay3_at]

/-! ## The accumulator -/

theorem refHalf_at (w : Vec Ideal S1x1024x7168 .i8) (sh : BitVec 32) (s8 : FVec Ideal S8x7168 .bf16) (k : Fin 1024) (c : Fin 7168) :
    refHalf w sh s8 (ix2 k c) = FloatOps.sitofp (F := Ideal) .f32 (IntOp.shrsi ArithUnit.vector (IntOp.shli ArithUnit.vector (BitVec.setWidth 32 (w (ix3 0 k c))) sh) 28#32)
      * s8 (ix2 ⟨k.val / 128, by omega⟩ c) := by
  pointwise [refHalf]

theorem refHalf_lo (w : Vec Ideal S1x1024x7168 .i8) (s8 : FVec Ideal S8x7168 .bf16) (k : Fin 1024) (c : Fin 7168) :
    refHalf w 28#32 s8 (ix2 k c) = loN (w (ix3 0 k c)) * s8 (ix2 ⟨k.val / 128, by omega⟩ c) := by
  rw [refHalf_at, loN, lo_nibble]
  rfl

theorem refHalf_hi (w : Vec Ideal S1x1024x7168 .i8) (s8 : FVec Ideal S8x7168 .bf16) (k : Fin 1024) (c : Fin 7168) :
    refHalf w 24#32 s8 (ix2 k c) = hiN (w (ix3 0 k c)) * s8 (ix2 ⟨k.val / 128, by omega⟩ c) := by
  rw [refHalf_at, hiN, hi_nibble]
  rfl

theorem refS_lo (s : Vec Ideal S1x16x7168 .f32) (g : Fin 8) (c : Fin 7168) :
    extractStridedSlice S8x7168 ![0, 0] (refS s) slices_S16x7168_o0_0_S8x7168 (ix2 g c) = s (ix3 0 ⟨g.val, by omega⟩ c) := by
  pointwise [refS]

theorem refS_hi (s : Vec Ideal S1x16x7168 .f32) (g : Fin 8) (c : Fin 7168) :
    extractStridedSlice S8x7168 ![8, 0] (refS s) slices_S16x7168_o8_0_S8x7168 (ix2 g c) = s (ix3 0 ⟨8 + g.val, by omega⟩ c) := by
  pointwise [refS]

theorem refDot_at (a : FVec Ideal S1536x2048 .bf16) (w : Vec Ideal S1x1024x7168 .i8) (s : Vec Ideal S1x16x7168 .f32) (r : Fin 1536) (c : Fin 7168) :
    refDot a w s (ix2 r c) = (∑ k : Fin 1024, a (ix2 r ⟨k.val, by omega⟩) * (loN (w (ix3 0 k c)) * s (ix3 0 ⟨k.val / 128, by omega⟩ c)))
      + ∑ k : Fin 1024, a (ix2 r ⟨1024 + k.val, by omega⟩) * (hiN (w (ix3 0 k c)) * s (ix3 0 ⟨8 + k.val / 128, by omega⟩ c)) := by
  pointwise [refDot]
  simp only [refHalf_lo, refHalf_hi, refS_lo, refS_hi]

theorem refStep_at (a : FVec Ideal S1536x2048 .bf16) (w : Vec Ideal S1x1024x7168 .i8) (s : Vec Ideal S1x16x7168 .f32) (st en : BitVec 32) (acc : FVec Ideal S1536x7168 .f32) (r : Fin 1536) (c : Fin 7168) :
    refStep a w s st en acc (ix2 r c) = Scalar.select
      (IntOp.andi (IntOp.cmpi CmpIPredicate.sge (BitVec.ofNat 32 r.val) st) (IntOp.cmpi CmpIPredicate.slt (BitVec.ofNat 32 r.val) en))
      (refDot a w s (ix2 r c)) (acc (ix2 r c)) := by
  pointwise [refStep]

theorem keep_iff {s n r : ℕ} (hs : s ≤ 1536) (hn : n ≤ 1536) (hr : r < 1536) :
    IntOp.andi (IntOp.cmpi CmpIPredicate.sge (BitVec.ofNat 32 r) (BitVec.ofNat 32 s)) (IntOp.cmpi CmpIPredicate.slt (BitVec.ofNat 32 r) (BitVec.ofNat 32 n)) = 1#1
      ↔ s ≤ r ∧ r < n := by
  have ir : IsInt (BitVec.ofNat 32 r) (r : Int) := Affine.ofNat r ⟨rfl, by omega⟩
  have is : IsInt (BitVec.ofNat 32 s) (s : Int) := Affine.ofNat s ⟨rfl, by omega⟩
  have iN : IsInt (BitVec.ofNat 32 n) (n : Int) := Affine.ofNat n ⟨rfl, by omega⟩
  by_cases h1 : s ≤ r
  · by_cases h2 : r < n
    · exact iff_of_true (Affine.andi_holds (Affine.sge_holds ir is (by omega)) (Affine.slt_holds ir iN (by omega))) ⟨h1, h2⟩
    · exact iff_of_false (Affine.andi_fails_right trivial (Affine.slt_fails ir iN (by omega))) (fun h => h2 h.2)
  · exact iff_of_false (Affine.andi_fails_left (Affine.sge_fails ir is (by omega)) trivial) (fun h => h1 h.1)

/-- An element of a row of expert `e`, once the expert is done. -/
theorem refAcc_at (g : Fin 8 → BitVec 32) (b : ℕ → ℕ) (hb : ∀ e, e ≤ 8 → refStart g e = BitVec.ofNat 32 (b e)) (hle : ∀ e, e ≤ 8 → b e ≤ 1536) (hm : Monotone b)
    (x : Vec Ideal S1536x2048 .bf16) (W : S8x1024x7168.Idx → Elt Ideal .i8) (S : S8x16x7168.Idx → Elt Ideal .f32) (r : Fin 1536) (c : Fin 7168)
    (e : ℕ) (h1 : b e ≤ r.val) (h2 : r.val < b (e + 1)) (n : ℕ) (hn : n ≤ 8) (hen : e < n) :
    refAcc g x W S n (ix2 r c) = refDot (k0_pay4 x) (refWs W (Fin.ofNat 8 e)) (refSs S (Fin.ofNat 8 e)) (ix2 r c) := by
  induction n with
  | zero => exact absurd hen (Nat.not_lt_zero _)
  | succ n ih =>
    show refStep _ _ _ (refStart g n) (refStart g (n + 1)) (refAcc g x W S n) (ix2 r c) = _
    rw [refStep_at, hb n (by omega), hb (n + 1) hn]
    unfold Scalar.select
    have hk := keep_iff (r := r.val) (hle n (by omega)) (hle (n + 1) hn) r.isLt
    rcases Nat.lt_succ_iff_lt_or_eq.1 hen with he | rfl
    · have : b (e + 1) ≤ b n := hm he
      rw [if_neg (fun h => by have := hk.1 h; omega)]
      exact ih (by omega) he
    · exact if_pos (hk.2 ⟨h1, h2⟩)

theorem refWs_at (W : S8x1024x7168.Idx → Elt Ideal .i8) (e : Fin 8) (k : Fin 1024) (c : Fin 7168) : refWs W e (ix3 0 k c) = W (ix3 e k c) := by
  unfold refWs
  refine congrArg W ?_
  funext a
  apply Fin.ext
  match a with
  | 0 => show e.val + 1 * 0 = e.val; omega
  | 1 => show 0 + 1 * k.val = k.val; omega
  | 2 => show 0 + 1 * c.val = c.val; omega

theorem refSs_at (S : S8x16x7168.Idx → Elt Ideal .f32) (e : Fin 8) (k : Fin 16) (c : Fin 7168) : refSs S e (ix3 0 k c) = S (ix3 e k c) := by
  unfold refSs
  refine congrArg S ?_
  funext a
  apply Fin.ext
  match a with
  | 0 => show e.val + 1 * 0 = e.val; omega
  | 1 => show 0 + 1 * k.val = k.val; omega
  | 2 => show 0 + 1 * c.val = c.val; omega

end Cert.ReferenceIdeal.Hand
-- ==== Proof.Arr.lean ====
/- The kernel's arrays around its region, element by element: the blocks it reads and the result it leaves. -/
module

public import proofs.«01_k».proof.Proof.Launch
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Hand
open Idealize Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ)

theorem ix_pt1 : ∀ t : Fin grid0.N, cc0_transform_1 (grid0.coords t) = ![0, 0, t.val] := by decide +kernel
theorem ix_pt2 : ∀ t : Fin grid0.N, cc0_transform_2 (grid0.coords t) = ![0, 0, t.val] := by decide +kernel
theorem ix_pt3 : ∀ t : Fin grid0.N, cc0_transform_3 (grid0.coords t) = ![0, 0, t.val] := by decide +kernel

theorem col_lt (t : Fin grid0.N) (j : Fin 512) : 512 * t.val + j.val < 7168 := by
  have h : t.val < 14 := t.isLt
  omega

theorem rows_in {α : Type} (A : S1536x2048.Idx → α) (i : Fin 96) (j : Fin 16) (k : Fin 2048) :
    shapeCast S96x16x2048 A shapeCasts_S1536x2048_S96x16x2048 (ix3 i j k) = A (ix2 (⟨16 * i.val + j.val, by omega⟩ : Fin 1536) k) := by
  pointwise
  exact congrArg (fun z => A (ix2 z k)) (Fin.ext (by show i.val * 16 + j.val = 16 * i.val + j.val; omega))

theorem rows_out {α : Type} (A : S96x16x7168.Idx → α) (r : Fin 1536) (n : Fin 7168) :
    shapeCast S1536x7168 A shapeCasts_S96x16x7168_S1536x7168 (ix2 r n)
      = A (ix3 (n0 := 96) (n1 := 16) (n2 := 7168) ⟨r.val / 16, by omega⟩ ⟨r.val % 16, by omega⟩ n) := by
  pointwise

/-- The tokens reshaped to rows of sixteen. -/
theorem X0_at (c : Dev nD) (i : Fin 96) (j : Fin 16) (k : Fin 2048) :
    X0 m c (ix3 i j k) = m ((c : Thread nD τ).loc main_arg0) (ix2 (⟨16 * i.val + j.val, by omega⟩ : Fin 1536) k) := by
  have h : X0 m c = shapeCast S96x16x2048 (m ((c : Thread nD τ).loc main_arg0)) shapeCasts_S1536x2048_S96x16x2048 := by
    show StableHlo.after (List.flatten [hostOps0]) (fun b => m (c, b)) (Proc.devRef .tc main_v0) = _
    show (StableHlo.reshape main_arg0 main_v0 (rfl : (.bf16 : EltTy) = .bf16) shapeCasts_S1536x2048_S96x16x2048).result (fun b => m (c, b)) (Proc.devRef .tc main_v0) = _
    rw [StableHlo.reshape_result]
    rfl
  rw [h]
  generalize m ((c : Thread nD τ).loc main_arg0) = A
  exact rows_in A i j k

theorem iblk1_at (c : Dev nD) (t : Fin (cfgM m).N) (e : Fin 8) (k : Fin 1024) (j : Fin 512) :
    iblk m c 1 t (ix3 e k j) = m ((c : Thread nD τ).loc main_arg2) (ix3 e k ⟨512 * t.val + j.val, col_lt t j⟩) := by
  have hV : V m c (Pipeline.arrRef spec0 1) = m ((c : Thread nD τ).loc main_arg2) := V_of_ne m c main_arg2 (by decide)
  have h0 : ∀ y, iblk m c 1 t y = V m c (Pipeline.arrRef spec0 1) ((((cfgM m).win 1).blk t).view.emb y) := fun y => by
    unfold iblk
    rw [View.read_apply]
    rfl
  refine (h0 _).trans ?_
  rw [hV]
  show m ((c : Thread nD τ).loc main_arg2) _ = _
  refine congrArg (m ((c : Thread nD τ).loc main_arg2)) ?_
  funext a
  apply Fin.ext
  have h := ix_pt1 t
  fin_cases a
  · show cc0_transform_1 (grid0.coords t) 0 * 8 + 1 * e.val = e.val
    rw [h]; show 0 * 8 + 1 * e.val = e.val; omega
  · show cc0_transform_1 (grid0.coords t) 1 * 1024 + 1 * k.val = k.val
    rw [h]; show 0 * 1024 + 1 * k.val = k.val; omega
  · show cc0_transform_1 (grid0.coords t) 2 * 512 + 1 * j.val = 512 * t.val + j.val
    rw [h]; show t.val * 512 + 1 * j.val = 512 * t.val + j.val; omega

theorem iblk2_at (c : Dev nD) (t : Fin (cfgM m).N) (e : Fin 8) (k : Fin 16) (j : Fin 512) :
    iblk m c 2 t (ix3 e k j) = m ((c : Thread nD τ).loc main_arg3) (ix3 e k ⟨512 * t.val + j.val, col_lt t j⟩) := by
  have hV : V m c (Pipeline.arrRef spec0 2) = m ((c : Thread nD τ).loc main_arg3) := V_of_ne m c main_arg3 (by decide)
  have h0 : ∀ y, iblk m c 2 t y = V m c (Pipeline.arrRef spec0 2) ((((cfgM m).win 2).blk t).view.emb y) := fun y => by
    unfold iblk
    rw [View.read_apply]
    rfl
  refine (h0 _).trans ?_
  rw [hV]
  show m ((c : Thread nD τ).loc main_arg3) _ = _
  refine congrArg (m ((c : Thread nD τ).loc main_arg3)) ?_
  funext a
  apply Fin.ext
  have h := ix_pt2 t
  fin_cases a
  · show cc0_transform_2 (grid0.coords t) 0 * 8 + 1 * e.val = e.val
    rw [h]; show 0 * 8 + 1 * e.val = e.val; omega
  · show cc0_transform_2 (grid0.coords t) 1 * 16 + 1 * k.val = k.val
    rw [h]; show 0 * 16 + 1 * k.val = k.val; omega
  · show cc0_transform_2 (grid0.coords t) 2 * 512 + 1 * j.val = 512 * t.val + j.val
    rw [h]; show t.val * 512 + 1 * j.val = 512 * t.val + j.val; omega

/-- The region's result array, column block by column block. -/
def outAll (c : Dev nD) : S96x16x7168.Idx → Elt F .bf16 := fun y =>
  outAt m c ⟨(y 2).val / 512, by have h : (y 2).val < 7168 := (y 2).isLt; show (y 2).val / 512 < 14; omega⟩
    (ix3 (n0 := 96) (n1 := 16) (n2 := 512) (y 0) (y 1) ⟨(y 2).val % 512, by omega⟩)

theorem flush_pt : ∀ t : Fin grid0.N, Pipeline.Window.flushOf grid0 true cc0_transform_3 t = true := by decide +kernel

/-- Where an index of the output's block at a point lies in the array. -/
theorem emb_at (t : Fin (cfgM m).N) (i : Fin 96) (j : Fin 16) (k : Fin 512) :
    (((cfgM m).win 3).blk t).view.emb (ix3 (n0 := 96) (n1 := 16) (n2 := 512) i j k)
      = (ix3 (n0 := 96) (n1 := 16) (n2 := 7168) i j ⟨512 * t.val + k.val, col_lt t k⟩ : S96x16x7168.Idx) := by
  funext a
  apply Fin.ext
  have h := ix_pt3 t
  fin_cases a
  · show cc0_transform_3 (grid0.coords t) 0 * 96 + 1 * i.val = i.val
    rw [h]; show 0 * 96 + 1 * i.val = i.val; omega
  · show cc0_transform_3 (grid0.coords t) 1 * 16 + 1 * j.val = j.val
    rw [h]; show 0 * 16 + 1 * j.val = j.val; omega
  · show cc0_transform_3 (grid0.coords t) 2 * 512 + 1 * k.val = 512 * t.val + k.val
    rw [h]; show t.val * 512 + 1 * k.val = 512 * t.val + k.val; omega

theorem outAll_emb (c : Dev nD) (t : Fin (cfgM m).N) (i : Fin 96) (j : Fin 16) (k : Fin 512) :
    outAll m c (ix3 (n0 := 96) (n1 := 16) (n2 := 7168) i j ⟨512 * t.val + k.val, col_lt t k⟩) = outAt m c t (ix3 (n0 := 96) (n1 := 16) (n2 := 512) i j k) := by
  unfold outAll
  have hk : k.val < 512 := k.isLt
  have e1 : (512 * t.val + k.val) / 512 = t.val := by omega
  have e2 : (512 * t.val + k.val) % 512 = k.val := by omega
  have a1 : (⟨(512 * t.val + k.val) / 512, by show _ < 14; have h : t.val < 14 := t.isLt; omega⟩ : Fin (cfgM m).N) = t := Fin.ext e1
  have a2 : (⟨(512 * t.val + k.val) % 512, by omega⟩ : Fin 512) = k := Fin.ext e2
  show outAt m c ⟨(512 * t.val + k.val) / 512, _⟩ (ix3 (n0 := 96) (n1 := 16) (n2 := 512) i j ⟨(512 * t.val + k.val) % 512, _⟩) = _
  rw [a1, a2]

theorem arr_eq (c : Dev nD) : (dats m 0 c).arrAt 3 (cfgM m).N = outAll m c := by
  refine (dats m 0 c).arrAt_eq_of_emb 3 (outAll m c) (fun t hf y => ?_) (fun i => ?_)
  · obtain ⟨y0, y1, y2, rfl⟩ : ∃ (y0 : Fin 96) (y1 : Fin 16) (y2 : Fin 512), y = (ix3 y0 y1 y2 : S96x16x512.Idx) :=
      ⟨(show S96x16x512.Idx from y) 0, (show S96x16x512.Idx from y) 1, (show S96x16x512.Idx from y) 2, eq_ix3 (show S96x16x512.Idx from y)⟩
    refine Eq.trans ?_ ((outAll_emb m c t y0 y1 y2).symm.trans (congrArg (outAll m c) (emb_at m t y0 y1 y2).symm))
    rw [after3]
    rfl
  · obtain ⟨y0, y1, y2, rfl⟩ : ∃ (y0 : Fin 96) (y1 : Fin 16) (y2 : Fin 7168), i = (ix3 y0 y1 y2 : S96x16x7168.Idx) :=
      ⟨(show S96x16x7168.Idx from i) 0, (show S96x16x7168.Idx from i) 1, (show S96x16x7168.Idx from i) 2, eq_ix3 (show S96x16x7168.Idx from i)⟩
    have h2 : y2.val < 7168 := y2.isLt
    refine ⟨⟨y2.val / 512, by show y2.val / 512 < 14; omega⟩, flush_pt _, ?_⟩
    have h := emb_at m ⟨y2.val / 512, by show y2.val / 512 < 14; omega⟩ y0 y1 ⟨y2.val % 512, by omega⟩
    have e : (ix3 (n0 := 96) (n1 := 16) (n2 := 7168) y0 y1 ⟨512 * (y2.val / 512) + y2.val % 512, by omega⟩ : S96x16x7168.Idx) = ix3 (n0 := 96) (n1 := 16) (n2 := 7168) y0 y1 y2 :=
      congrArg (ix3 (n0 := 96) (n1 := 16) (n2 := 7168) y0 y1) (Fin.ext (by show 512 * (y2.val / 512) + y2.val % 512 = y2.val; omega))
    rw [← e]
    exact h ▸ View.emb_mem_set _ _

theorem W_res (c : Dev nD) (r : Fin 1536) (n : Fin 7168) :
    W m c main_v2 (ix2 r n) = outAll m c (ix3 (n0 := 96) (n1 := 16) (n2 := 7168) ⟨r.val / 16, by omega⟩ ⟨r.val % 16, by omega⟩ n) := by
  have hw := Pipeline.withArrays_arr_shared spec0 c (V0 m c) (fun w => (dats m 0 c).arrAt w (cfgM m).N)
    ((dats m 0 c).arrAt_sharedIn (by decide : Pipeline.SharedIn spec0) (V0 m c) (A_eq m c) (cfgM m).N) 3
  have h : W m c main_v2 = shapeCast S1536x7168 (outAll m c) shapeCasts_S96x16x7168_S1536x7168 := by
    rw [← arr_eq m c]
    unfold W Pipeline.afterTail
    show (StableHlo.reshape main_v1 main_v2 (rfl : (.bf16 : EltTy) = .bf16) shapeCasts_S96x16x7168_S1536x7168).result (Pipeline.withArrays spec0 c (V0 m c) fun w => (dats m 0 c).arrAt w (cfgM m).N) (Proc.devRef .tc main_v2) = _
    rw [StableHlo.reshape_result]
    exact congrArg (fun A => shapeCast S1536x7168 A shapeCasts_S96x16x7168_S1536x7168) hw
  rw [h]
  exact rows_out _ r n

end Cert.KernelIdeal.Hand
-- ==== Proof.RArr.lean ====
/- The reference's arrays: its one point reads the arguments whole and writes the result whole. -/
module

public import proofs.«01_k».proof.Proof.RefVal
public import Idealize.ShloMosaic.Lib.Pipeline.ValueKit
public import Idealize.ShloMosaic.Lib.Pointwise

@[expose] public section

set_option maxRecDepth 16384

noncomputable section

namespace Cert.ReferenceIdeal.Hand

open Cert.ReferenceIdeal Cert.ReferenceIdeal.Gen
open Idealize Idealize.ShloMosaic Idealize.ShloMosaic.TcCoe Idealize.SL.Sem

variable {F : FTy → Type} [FloatOps F] [Named F]

variable (m : (ℓ : Loc nD τ sig) → Buf (Elt F) ℓ)

/-- The one point. -/
abbrev pt : Fin cfg0.N := ⟨0, by decide⟩

theorem blk0 (c : Dev nD) : iblk m c 0 pt = m ((c : Thread nD τ).loc main_arg1) := by
  funext j
  unfold iblk
  rw [View.read_apply]
  have hV : V m c (Pipeline.arrRef spec0 0) = m ((c : Thread nD τ).loc main_arg1) := V_main_arg1 m c
  rw [hV]
  show m ((c : Thread nD τ).loc main_arg1) _ = _
  refine congrArg (m ((c : Thread nD τ).loc main_arg1)) ?_
  funext a
  apply Fin.ext
  fin_cases a <;> (show 0 * _ + 1 * _ = _; omega)

theorem blk1 (c : Dev nD) : iblk m c 1 pt = m ((c : Thread nD τ).loc main_arg0) := by
  funext j
  unfold iblk
  rw [View.read_apply]
  have hV : V m c (Pipeline.arrRef spec0 1) = m ((c : Thread nD τ).loc main_arg0) := V_main_arg0 m c
  rw [hV]
  show m ((c : Thread nD τ).loc main_arg0) _ = _
  refine congrArg (m ((c : Thread nD τ).loc main_arg0)) ?_
  funext a
  apply Fin.ext
  fin_cases a <;> (show 0 * _ + 1 * _ = _; omega)

theorem blk2 (c : Dev nD) : iblk m c 2 pt = m ((c : Thread nD τ).loc main_arg2) := by
  funext j
  unfold iblk
  rw [View.read_apply]
  have hV : V m c (Pipeline.arrRef spec0 2) = m ((c : Thread nD τ).loc main_arg2) := V_main_arg2 m c
  rw [hV]
  show m ((c : Thread nD τ).loc main_arg2) _ = _
  refine congrArg (m ((c : Thread nD τ).loc main_arg2)) ?_
  funext a
  apply Fin.ext
  fin_cases a <;> (show 0 * _ + 1 * _ = _; omega)

theorem blk3 (c : Dev nD) : iblk m c 3 pt = m ((c : Thread nD τ).loc main_arg3) := by
  funext j
  unfold iblk
  rw [View.read_apply]
  have hV : V m c (Pipeline.arrRef spec0 3) = m ((c : Thread nD τ).loc main_arg3) := V_main_arg3 m c
  rw [hV]
  show m ((c : Thread nD τ).loc main_arg3) _ = _
  refine congrArg (m ((c : Thread nD τ).loc main_arg3)) ?_
  funext a
  apply Fin.ext
  fin_cases a <;> (show 0 * _ + 1 * _ = _; omega)

theorem res_eq (c : Dev nD) : (dats m 0 c).arrAt 4 cfg0.N
    = refOut (refWord (m ((c : Thread nD τ).loc main_arg1))) (m ((c : Thread nD τ).loc main_arg0)) (m ((c : Thread nD τ).loc main_arg2)) (m ((c : Thread nD τ).loc main_arg3)) := by
  refine (dats m 0 c).arrAt_eq_of_after_last 4 pt (by decide +kernel) _ fun j => ?_
  rw [after0_4, outsAt_eq, blk0, blk1, blk2, blk3]
  rfl

/-- The reference's word of the table is the table's word. -/
theorem refWord_at (T : S8.Idx → Elt F .i32) (e : Fin 8) : refWord T e = T (ix1 e) := by
  unfold refWord
  refine congrArg T ?_
  funext a
  obtain rfl : a = 0 := Subsingleton.elim _ _
  apply Fin.ext
  show e.val + 1 * 0 = e.val
  omega

end Cert.ReferenceIdeal.Hand
-- ==== Proof.PreRows.lean ====
/- The precondition on the rows read off: the largest size in every token row is finite or infinite, and no NaN. -/
module

public import proofs.«01_k».proof.Proof.Pre
public import proofs.«01_k».proof.Proof.Num
public import Idealize.ShloMosaic.Lib.Pointwise

@[expose] public section

set_option maxRecDepth 16384

noncomputable section

namespace Cert.KernelIdeal.Hand

open Idealize Idealize.ShloMosaic Idealize.ShloMosaic.TcCoe
open Cert.Hand
open Cert.Pre_sizes_and_rows (S1536x2048 S1536 S_)
open Cert.Pre_sizes_and_rows.Facts

/-- The largest size in every row. -/
def rowMags (x : FVec Ideal S1536x2048 .bf16) : FVec Ideal S1536 .f32 :=
  Host.reduce FloatOps.maximumf (Host.absf (extf .f32 x bitsLt_bf16_f32)) (constant S_ .f32 0xFF800000#32)
    reducesTo_S1536x2048_S1536_d1 h_S_

theorem rowMags_at (x : FVec Ideal S1536x2048 .bf16) (r : Fin 1536) : rowMags x (ix1 r) = mag fun k => x (ix2 r k) := by
  pointwise [rowMags, mag]

theorem oeq_one (a b : EReal) : Ideal.cmp .oeq a b = 1#1 ↔ a = b := by
  simp only [Ideal.cmp, StableHlo.Predicate.ofBool_eq_one_iff, decide_eq_true_eq]
theorem ole_one (a b : EReal) : Ideal.cmp .ole a b = 1#1 ↔ a ≤ b := by
  simp only [Ideal.cmp, StableHlo.Predicate.ofBool_eq_one_iff, decide_eq_true_eq]
theorem ori_one (a b : BitVec 1) : IntOp.ori a b = 1#1 ↔ a = 1#1 ∨ b = 1#1 := by revert a b; decide

/-- The test the precondition makes of every row. -/
def rowsOk (v : FVec Ideal S1536 .f32) : IVec S1536 1 :=
  ori (cmpf .ole v (broadcastInDim S1536 ![] bcast_S_S1536 (constant S_ .f32 0x7F7F0000#32)))
    (cmpf .oeq v (broadcastInDim S1536 ![] bcast_S_S1536 (constant S_ .f32 0x7F800000#32)))

theorem rowsOk_at (v : FVec Ideal S1536 .f32) (j : S1536.Idx) : rowsOk v j
    = IntOp.ori (Ideal.cmp .ole (v j) (Ideal.ofBits .f32 0x7F7F0000#32)) (Ideal.cmp .oeq (v j) (Ideal.ofBits .f32 0x7F800000#32)) := rfl

theorem fits_of_rows (x : FVec Ideal S1536x2048 .bf16) (T) (w) (s)
    (h : Cert.Pre_sizes_and_rows.fn (F := Ideal) x T w s = fun _ => 1#1) (r : Fin 1536) : Fits (mag fun k => x (ix2 r k)) := by
  have hj := congrFun h (fun a => a.elim0)
  simp only [Cert.Pre_sizes_and_rows.fn, Cert.Pre_sizes_and_rows.fn_part1, andi, andi_one, cmpi, StableHlo.Predicate.cmpi_eq_iff] at hj
  obtain ⟨-, h3⟩ := hj
  haveI : Subsingleton Cert.Pre_sizes_and_rows.S_.Idx := ⟨fun a b => funext fun k => k.elim0⟩
  have h4 := Host.reduce_andi_all _ _ _ _ _ h3 (ix1 r)
  have h5 : rowsOk (rowMags x) (ix1 r) = 1#1 := h4
  rw [rowsOk_at] at h5
  rw [ori_one, oeq_one, ole_one, rowMags_at] at h5
  exact h5

end Cert.KernelIdeal.Hand
-- ==== Proof.Value.lean ====
/- The two results are one: element by element, the kernel's result is the reference's. -/
module

public import proofs.«01_k».proof.Proof.KOut
public import proofs.«01_k».proof.Proof.RVal
public import proofs.«01_k».proof.Proof.Arr
public import proofs.«01_k».proof.Proof.RArr
public import proofs.«01_k».proof.Proof.PreRows

@[expose] public section

set_option maxRecDepth 16384

noncomputable section

namespace Cert.Hand

open Cert.KernelIdeal.Hand Cert.ReferenceIdeal.Hand
open Cert.KernelIdeal (S8 S96x16x2048 S8x1024x512 S8x16x512)
open Idealize Idealize.ShloMosaic Idealize.ShloMosaic.TcCoe Idealize.SL.Sem

/-- Where the reference starts an expert is where the kernel does. -/
theorem starts (T : S8.Idx → BitVec 32) : ∀ e ≤ 8, refStart (refWord (F := Ideal) T) e = BitVec.ofNat 32 (rowsTo (gOf T) e)
  | 0, _ => rfl
  | e + 1, h => by
    have he : e < 8 := h
    have hw : refWord (F := Ideal) T (Fin.ofNat 8 e) = BitVec.ofNat 32 (gOf T e) := by
      rw [refWord_at]
      have h1 := gOf_word T (ix1 (Fin.ofNat 8 e))
      rw [h1]
      congr 2
      exact Nat.mod_eq_of_lt he
    show Scalar.addi (refStart (refWord (F := Ideal) T) e) (refWord (F := Ideal) T (Fin.ofNat 8 e)) = _
    rw [starts T e (by omega), hw]
    show BitVec.ofNat 32 (rowsTo (gOf T) e) + BitVec.ofNat 32 (gOf T e) = BitVec.ofNat 32 (rowsTo (gOf T) e + gOf T e)
    rw [BitVec.ofNat_add]

/-- One element of the kernel's result is the reference's. -/
theorem elem (T : S8.Idx → BitVec 32) (hg : rowsTo (gOf T) 8 = 1536) (X : S96x16x2048.Idx → EReal) (W : S8x1024x512.Idx → BitVec 8) (S : S8x16x512.Idx → EReal)
    (x : Cert.ReferenceIdeal.S1536x2048.Idx → EReal) (w : Cert.ReferenceIdeal.S8x1024x7168.Idx → BitVec 8) (s : Cert.ReferenceIdeal.S8x16x7168.Idx → EReal)
    (i : Fin 96) (j : Fin 16) (r : Fin 1536) (hr : r.val = 16 * i.val + j.val) (c : Fin 512) (n : Fin 7168)
    (hX : ∀ k, X (ix3 i j k) = x (ix2 r k)) (hW : ∀ e k, W (ix3 e k c) = w (ix3 e k n)) (hS : ∀ e k, S (ix3 e k c) = s (ix3 e k n))
    (hf : Fits (mag fun k => x (ix2 r k))) :
    outF (F := Ideal) (gOf T) X W S (ix3 i j c) = refOut (F := Ideal) (refWord (F := Ideal) T) x w s (ix2 r n) := by
  obtain ⟨e, he, h1, h2⟩ := expert_of (gOf T) 8 r.val (by rw [hg]; exact r.isLt)
  have hrow : rowOf (ix3 i j c) = r.val := hr.symm
  have hle : ∀ e ≤ 8, rowsTo (gOf T) e ≤ 1536 := fun e h => hg ▸ rowsTo_monotone (gOf T) h
  rw [outF_val (gOf T) hg X W S i j c e he (hrow ▸ h1) (hrow ▸ h2), valOf_split, refOut_at,
    refAcc_at _ (rowsTo (gOf T)) (starts T) hle (rowsTo_monotone (gOf T)) x w s r n e h1 h2 8 le_rfl he, refDot_at]
  simp only [aOf_at, pay4_at, refWs_at, refSs_at, hX, hW, hS]
  exact row_dot hf _ _ _ _

end Cert.Hand

namespace Cert.Hand

open Cert.KernelIdeal.Hand Cert.ReferenceIdeal.Hand
open Idealize Idealize.ShloMosaic Idealize.ShloMosaic.TcCoe Idealize.SL.Sem

/-- The result arrays agree. -/
theorem results_agree (m : (ℓ : Loc Cert.KernelIdeal.nD Cert.KernelIdeal.τ Cert.KernelIdeal.sig) → Buf (Elt Ideal) ℓ)
    (hs : rowsTo (gM m) 8 = 1536) (c : Dev Cert.KernelIdeal.nD)
    (hf : ∀ r : Fin 1536, Fits (mag fun k => m ((c : Thread Cert.KernelIdeal.nD Cert.KernelIdeal.τ).loc Cert.KernelIdeal.main_arg0) (ix2 r k))) :
    W m c Cert.KernelIdeal.main_v2
      = refOut (F := Ideal) (refWord (F := Ideal) (m ((c : Thread Cert.KernelIdeal.nD Cert.KernelIdeal.τ).loc Cert.KernelIdeal.main_arg1)))
          (m ((c : Thread Cert.KernelIdeal.nD Cert.KernelIdeal.τ).loc Cert.KernelIdeal.main_arg0))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  funext y
  obtain ⟨r, n, rfl⟩ : ∃ (r : Fin 1536) (n : Fin 7168), y = (ix2 r n : Cert.KernelIdeal.S1536x7168.Idx) :=
    ⟨(show Cert.KernelIdeal.S1536x7168.Idx from y) 0, (show Cert.KernelIdeal.S1536x7168.Idx from y) 1, eq_ix2 (show Cert.KernelIdeal.S1536x7168.Idx from y)⟩
  have hn : n.val < 7168 := n.isLt
  have hT : T0 m = m ((c : Thread Cert.KernelIdeal.nD Cert.KernelIdeal.τ).loc Cert.KernelIdeal.main_arg1) := by
    obtain rfl : c = 0 := Subsingleton.elim _ _
    exact V_of_ne m 0 Cert.KernelIdeal.main_arg1 (by decide)
  rw [← hT]
  refine (W_res m c r n).trans ?_
  have hcol : ∀ h, (⟨512 * (n.val / 512) + n.val % 512, h⟩ : Fin 7168) = n := fun h => Fin.ext (by show 512 * (n.val / 512) + n.val % 512 = n.val; omega)
  have hrow : ∀ h, (⟨16 * (r.val / 16) + r.val % 16, h⟩ : Fin 1536) = r := fun h => Fin.ext (by show 16 * (r.val / 16) + r.val % 16 = r.val; omega)
  refine elem (T0 m) hs (X0 m c) (iblk m c 1 ⟨n.val / 512, by show n.val / 512 < 14; omega⟩) (iblk m c 2 ⟨n.val / 512, by show n.val / 512 < 14; omega⟩)
    _ _ _ ⟨r.val / 16, by omega⟩ ⟨r.val % 16, by omega⟩ r (by show r.val = 16 * (r.val / 16) + r.val % 16; omega) ⟨n.val % 512, by omega⟩ n
    (fun k => ?_) (fun e k => ?_) (fun e k => ?_) (hf r)
  · exact (X0_at m c _ _ k).trans (congrArg (fun z => m ((c : Thread Cert.KernelIdeal.nD Cert.KernelIdeal.τ).loc Cert.KernelIdeal.main_arg0) (ix2 z k)) (hrow _))
  · exact (iblk1_at m c _ e k _).trans (congrArg (fun z => m ((c : Thread Cert.KernelIdeal.nD Cert.KernelIdeal.τ).loc Cert.KernelIdeal.main_arg2) (ix3 e k z)) (hcol _))
  · exact (iblk2_at m c _ e k _).trans (congrArg (fun z => m ((c : Thread Cert.KernelIdeal.nD Cert.KernelIdeal.τ).loc Cert.KernelIdeal.main_arg3) (ix3 e k z)) (hcol _))

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sizes_sum_to_tokens
public import proofs.«01_k».proof.Proof.Gen.Pre_sizes_and_rows
public import proofs.«01_k».proof.Proof.Pre
public import proofs.«01_k».proof.Proof.Value
public import proofs.«01_k».proof.Proof.Gen.ReferenceIdeal.Value
public import Idealize.ShloMosaic.Adequacy
public import Idealize.ShloMosaic.Init

@[expose] public section

noncomputable section

namespace Cert.Proof

open Idealize.ShloMosaic Idealize.ShloMosaic.TcCoe Idealize.SL.Sem

section Sizes
open Cert.KernelIdeal Cert.KernelIdeal.Hand

/-- The group sizes of the launch memory add up to the number of tokens: from the first precondition, -/
theorem sizes (m : (ℓ : Loc nD τ sig) → Buf (Elt Ideal) ℓ) (h : Cert.Pre_KernelIdeal m) : rowsTo (gM m) 8 = 1536 := by
  rw [show gM m = gOf (m (((0 : Dev nD) : Thread nD τ).loc main_arg1)) from congrArg gOf (V_of_ne m 0 main_arg1 (by decide))]
  exact sizes_of_sum _ _ _ _ (h 0)

/-- and from the second. -/
theorem sizes' (m : (ℓ : Loc nD τ sig) → Buf (Elt Ideal) ℓ) (h : Cert.Pre_KernelIdeal_sizes_and_rows m) : rowsTo (gM m) 8 = 1536 := by
  rw [show gM m = gOf (m (((0 : Dev nD) : Thread nD τ).loc main_arg1)) from congrArg gOf (V_of_ne m 0 main_arg1 (by decide))]
  exact sizes_of_rows _ _ _ _ (h 0)

end Sizes

section Printed

/-- What the frame of the program as printed says of it, at any buffer contents' sizes. -/
def KernelRuns : Prop := ∀ (m : (ℓ : Loc Cert.Kernel.nD Cert.Kernel.τ Cert.Kernel.sig) → Buf (Elt Bits) ℓ) (g : Dev Cert.Kernel.nD → PrngReg),
  (∀ c : Dev Cert.Kernel.nD, Cert.KernelIdeal.Hand.rowsTo (Cert.KernelIdeal.Hand.gOf (m ((c : Thread Cert.Kernel.nD Cert.Kernel.τ).loc Cert.Kernel.main_arg1))) 8 = 1536) →
  θ_run Cert.Kernel.defs (onTc (τ := Cert.Kernel.τ) (Cert.Kernel.main (F := Bits))) ⟨m, fun _ => 0, g⟩ (fun r => (∀ c : Dev Cert.Kernel.nD,
      r.2.mem ((c : Thread Cert.Kernel.nD Cert.Kernel.τ).loc Cert.Kernel.main_arg0) = m ((c : Thread Cert.Kernel.nD Cert.Kernel.τ).loc Cert.Kernel.main_arg0)
      ∧ r.2.mem ((c : Thread Cert.Kernel.nD Cert.Kernel.τ).loc Cert.Kernel.main_arg1) = m ((c : Thread Cert.Kernel.nD Cert.Kernel.τ).loc Cert.Kernel.main_arg1)
      ∧ r.2.mem ((c : Thread Cert.Kernel.nD Cert.Kernel.τ).loc Cert.Kernel.main_arg2) = m ((c : Thread Cert.Kernel.nD Cert.Kernel.τ).loc Cert.Kernel.main_arg2)
      ∧ r.2.mem ((c : Thread Cert.Kernel.nD Cert.Kernel.τ).loc Cert.Kernel.main_arg3) = m ((c : Thread Cert.Kernel.nD Cert.Kernel.τ).loc Cert.Kernel.main_arg3))
      ∧ r.2.sem = fun _ => 0)

/-- The same of the program the ideal pass prints, read over bits. -/
def IdealRuns : Prop := ∀ (m : (ℓ : Loc Cert.KernelIdeal.nD Cert.KernelIdeal.τ Cert.KernelIdeal.sig) → Buf (Elt Bits) ℓ) (g : Dev Cert.KernelIdeal.nD → PrngReg),
  (∀ c : Dev Cert.KernelIdeal.nD, Cert.KernelIdeal.Hand.rowsTo (Cert.KernelIdeal.Hand.gOf (m ((c : Thread Cert.KernelIdeal.nD Cert.KernelIdeal.τ).loc Cert.KernelIdeal.main_arg1))) 8 = 1536) →
  θ_run Cert.KernelIdeal.defs (onTc (τ := Cert.KernelIdeal.τ) (Cert.KernelIdeal.main (F := Bits))) ⟨m, fun _ => 0, g⟩ (fun r => (∀ c : Dev Cert.KernelIdeal.nD,
      r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3))
      ∧ r.2.sem = fun _ => 0)

/-- The ideal pass rewrote nothing, so the two programs are one term by term. -/
theorem runs_eq : KernelRuns = IdealRuns := by sl_kernel_rfl

theorem idealRuns : IdealRuns := fun m g h =>
  (θ_run _ _ _).mono (fun _ h => ⟨fun c => (h.1 c).2, h.2⟩) (Cert.KernelIdeal.Hand.run m g (by
    rw [show Cert.KernelIdeal.Hand.gM m = Cert.KernelIdeal.Hand.gOf (m (((0 : Dev Cert.KernelIdeal.nD) : Thread Cert.KernelIdeal.nD Cert.KernelIdeal.τ).loc Cert.KernelIdeal.main_arg1)) from
      congrArg Cert.KernelIdeal.Hand.gOf (Cert.KernelIdeal.Hand.V_of_ne m 0 Cert.KernelIdeal.main_arg1 (by decide))]
    exact h 0))

end Printed

/-- The value claim: whatever the two programs are given, one array is the result of both. -/
theorem agree : @Cert.algebraic_KernelIdeal_ReferenceIdeal_pre_sizes_and_rows Cert.KernelIdeal.Gen.facts Cert.ReferenceIdeal.Gen.facts Cert.Pre_sizes_and_rows.Gen.facts := by
  intro m g m' g' hp harg
  have hs := sizes' m hp
  refine ⟨fun c => Cert.KernelIdeal.Hand.W m c Cert.KernelIdeal.main_v2, ?_, ?_⟩
  · exact (θ_run _ _ _).mono (fun _ h => h.1) (Cert.KernelIdeal.Hand.run m g hs)
  · refine (θ_run _ _ _).mono (fun r h c => ?_) (Cert.ReferenceIdeal.Value.run_blocks m' g')
    obtain ⟨h0, hr⟩ := h c
    obtain ⟨a0, a1, a2, a3⟩ := harg c
    refine ⟨?_, hr⟩
    refine h0.trans ((Cert.ReferenceIdeal.Hand.res_eq m' c).trans ?_)
    rw [a0, a1, a2, a3]
    exact (Cert.Hand.results_agree m hs c fun r => Cert.KernelIdeal.Hand.fits_of_rows _ _ _ _ (hp c) r).symm

theorem claim : Cert.Claim := ⟨Cert.Kernel.Gen.facts, Cert.KernelIdeal.Gen.facts, Cert.ReferenceIdeal.Gen.facts, Cert.Pre_sizes_sum_to_tokens.Gen.facts, Cert.Pre_sizes_and_rows.Gen.facts,
  fun m g h => (runs_eq ▸ idealRuns : KernelRuns) m g fun c => Cert.KernelIdeal.Hand.sizes_of_sum _ _ _ _ (h c),
  fun m g h => (θ_run _ _ _).mono (fun _ h => ⟨fun c => (h.1 c).2, h.2⟩) (Cert.KernelIdeal.Hand.run m g (sizes m h)),
  fun m g h => (θ_run _ _ _).mono (fun _ h => ⟨fun c => (h.1 c).2, h.2⟩) (Cert.KernelIdeal.Hand.run m g (sizes' m h)),
  fun m g _ => Cert.ReferenceIdeal.Gen.frame m g,
  fun m g _ => Cert.ReferenceIdeal.Gen.frame m g,
  trivial,
  agree⟩

end Cert.Proof

end
